-- ==== Defs.lean ====
def Pre_Kernel [hPre_segments : Cert.Pre_segments.Facts] (m : (ℓ : Loc Cert.Kernel.nD Cert.Kernel.τ Cert.Kernel.sig) → Buf (Elt Bits) ℓ) : Prop :=
  ∀ c : Dev Cert.Kernel.nD,
    (Cert.Pre_segments.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_segments : Cert.Pre_segments.Facts] (m : (ℓ : Loc Cert.KernelIdeal.nD Cert.KernelIdeal.τ Cert.KernelIdeal.sig) → Buf (Elt Ideal) ℓ) : Prop :=
  ∀ c : Dev Cert.KernelIdeal.nD,
    (Cert.Pre_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_KernelIdeal_segments_finite [hPre_segments_finite : Cert.Pre_segments_finite.Facts] (m : (ℓ : Loc Cert.KernelIdeal.nD Cert.KernelIdeal.τ Cert.KernelIdeal.sig) → Buf (Elt Ideal) ℓ) : Prop :=
  ∀ c : Dev Cert.KernelIdeal.nD,
    (Cert.Pre_segments_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_finite [hPre_segments_finite : Cert.Pre_segments_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] [hPre_segments : Cert.Pre_segments.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] [hPre_segments : Cert.Pre_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_segments_finite [hKernelIdeal : Cert.KernelIdeal.Facts] [hPre_segments_finite : Cert.Pre_segments_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_segments_finite [hReferenceIdeal : Cert.ReferenceIdeal.Facts] [hPre_segments_finite : Cert.Pre_segments_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_segments_finite [hKernelIdeal : Cert.KernelIdeal.Facts] [hReferenceIdeal : Cert.ReferenceIdeal.Facts] [hPre_segments_finite : Cert.Pre_segments_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_segments : Cert.Pre_segments.Facts) (hPre_segments_finite : Cert.Pre_segments_finite.Facts),
    quiescent_Kernel (hKernel := hKernel) (hPre_segments := hPre_segments)
    ∧ quiescent_KernelIdeal (hKernelIdeal := hKernelIdeal) (hPre_segments := hPre_segments)
    ∧ quiescent_KernelIdeal_pre_segments_finite (hKernelIdeal := hKernelIdeal) (hPre_segments_finite := hPre_segments_finite)
    ∧ quiescent_ReferenceIdeal (hReferenceIdeal := hReferenceIdeal)
    ∧ quiescent_ReferenceIdeal_pre_segments_finite (hReferenceIdeal := hReferenceIdeal) (hPre_segments_finite := hPre_segments_finite)
    ∧ preserves_Kernel_KernelIdeal
    ∧ algebraic_KernelIdeal_ReferenceIdeal_pre_segments_finite (hKernelIdeal := hKernelIdeal) (hReferenceIdeal := hReferenceIdeal) (hPre_segments_finite := hPre_segments_finite)
-- ==== Pre_segments.lean ====
abbrev S32768x128 : Shape := ⟨2, ![32768, 128]⟩
abbrev S32768 : Shape := ⟨1, ![32768]⟩
abbrev S256x128 : Shape := ⟨2, ![256, 128]⟩
abbrev S256 : Shape := ⟨1, ![256]⟩
abbrev S_ : Shape := ⟨0, ![]⟩
abbrev S256x256 : Shape := ⟨2, ![256, 256]⟩
abbrev S128x256 : Shape := ⟨2, ![128, 256]⟩
abbrev S128 : Shape := ⟨1, ![128]⟩
abbrev S64x128 : Shape := ⟨2, ![64, 128]⟩
abbrev S64 : Shape := ⟨1, ![64]⟩

class Facts : Prop where
  bcast_S_S32768 : S_.BroadcastsInDim S32768 (![] : Fin 0 → Fin S32768.rank)

variable [Facts]

def fn {F : FTy → Type} [FloatOps F] (main_arg0 : FVec F S32768x128 .f32) (main_arg1 : IVec S32768 32) (main_arg2 : FVec F S256x128 .f32) (main_arg3 : FVec F S256 .f32) (main_arg4 : FVec F S256x128 .f32) (main_arg5 : FVec F S256 .f32) (main_arg6 : FVec F S256 .f32) (main_arg7 : FVec F S_ .f32) (main_arg8 : FVec F S256x256 .f32) (main_arg9 : FVec F S256 .f32) (main_arg10 : FVec F S256x256 .f32) (main_arg11 : FVec F S256 .f32) (main_arg12 : FVec F S256 .f32) (main_arg13 : FVec F S_ .f32) (main_arg14 : FVec F S128x256 .f32) (main_arg15 : FVec F S128 .f32) (main_arg16 : FVec F S128 .f32) (main_arg17 : FVec F S128 .f32) (main_arg18 : FVec F S_ .f32) (main_arg19 : FVec F S64x128 .f32) (main_arg20 : FVec F S64 .f32) : IVec S32768 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 16#32
  let main_v2 : IVec S32768 32 := broadcastInDim S32768 ![] bcast_S_S32768 main_c_0
  let main_v3 : IVec S32768 1 := cmpi .slt main_arg1 main_v2
  let main_v4 : IVec S32768 1 := andi main_v1 main_v3
  main_v4
-- ==== Pre_segments_finite.lean ====
abbrev S32768x128 : Shape := ⟨2, ![32768, 128]⟩
abbrev S32768 : Shape := ⟨1, ![32768]⟩
abbrev S256x128 : Shape := ⟨2, ![256, 128]⟩
abbrev S256 : Shape := ⟨1, ![256]⟩
abbrev S_ : Shape := ⟨0, ![]⟩
abbrev S256x256 : Shape := ⟨2, ![256, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S32767 : Shape := ⟨1, ![32767]⟩

class Facts : Prop where
  bcast_S_S32768 : S_.BroadcastsInDim S32768 (![] : Fin 0 → Fin S32768.rank)
  reducesTo_S32768_S_d0 : S32768.ReducesTo [0] S_
  h_S_ : 0 < S_.numel
  slices_S32768_S32767_0 : S32768.Slices ![0] S32767
  slices_S32768_S32767_1 : S32768.Slices ![1] S32767
  reducesTo_S32767_S_d0 : S32767.ReducesTo [0] S_
  bcast_S_S32768x128 : S_.BroadcastsInDim S32768x128 (![] : Fin 0 → Fin S32768x128.rank)
  reducesTo_S32768x128_S_d0_1 : S32768x128.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  reducesTo_S_S_d : S_.ReducesTo [] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg13 : FVec F S_ .f32) (main_arg14 : FVec F S128x256 .f32) (main_arg15 : FVec F S128 .f32) (main_v64 : IVec S_ 1) (main_v67 : IVec S256 1) (main_c_25 : IVec S_ 1) : IVec S_ 1 :=
  let main_v68 : IVec S_ 1 := (fun x v => Host.reduce IntOp.andi x v reducesTo_S256_S_d0 h_S_) main_v67 main_c_25
  let main_v69 : IVec S_ 1 := andi main_v64 main_v68
  let main_v70 : FVec F S_ .f32 := Host.absf main_arg13
  let main_cst_26 : FVec F S_ .f32 := constant S_ .f32 0x7F800000#32
  let main_v71 : IVec S_ 1 := cmpf .olt main_v70 main_cst_26
  let main_c_27 : IVec S_ 1 := constantI S_ 1 1#1
  let main_v72 : IVec S_ 1 := (fun x v => Host.reduce IntOp.andi x v reducesTo_S_S_d h_S_) main_v71 main_c_27
  let main_v73 : IVec S_ 1 := andi main_v69 main_v72
  let main_v74 : FVec F S128x256 .f32 := Host.absf main_arg14
  let main_cst_28 : FVec F S_ .f32 := constant S_ .f32 0x7F800000#32
  let main_v75 : FVec F S128x256 .f32 := broadcastInDim S128x256 ![] bcast_S_S128x256 main_cst_28
  let main_v76 : IVec S128x256 1 := cmpf .olt main_v74 main_v75
  let main_c_29 : IVec S_ 1 := constantI S_ 1 1#1
  let main_v77 : IVec S_ 1 := (fun x v => Host.reduce IntOp.andi x v reducesTo_S128x256_S_d0_1 h_S_) main_v76 main_c_29
  let main_v78 : IVec S_ 1 := andi main_v73 main_v77
  let main_v79 : FVec F S128 .f32 := Host.absf main_arg15
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg10 : FVec F S256x256 .f32) (main_arg11 : FVec F S256 .f32) (main_arg12 : FVec F S256 .f32) (main_arg13 : FVec F S_ .f32) (main_arg14 : FVec F S128x256 .f32) (main_arg15 : FVec F S128 .f32) (main_v49 : IVec S_ 1) (main_v50 : FVec F S256 .f32) (main_cst_18 : FVec F S_ .f32) : IVec S_ 1 :=
  let main_v51 : FVec F S256 .f32 := broadcastInDim S256 ![] bcast_S_S256 main_cst_18
  let main_v52 : IVec S256 1 := cmpf .olt main_v50 main_v51
  let main_c_19 : IVec S_ 1 := constantI S_ 1 1#1
  let main_v53 : IVec S_ 1 := (fun x v => Host.reduce IntOp.andi x v reducesTo_S256_S_d0 h_S_) main_v52 main_c_19
  let main_v54 : IVec S_ 1 := andi main_v49 main_v53
  let main_v55 : FVec F S256x256 .f32 := Host.absf main_arg10
  let main_cst_20 : FVec F S_ .f32 := constant S_ .f32 0x7F800000#32
  let main_v56 : FVec F S256x256 .f32 := broadcastInDim S256x256 ![] bcast_S_S256x256 main_cst_20
  let main_v57 : IVec S256x256 1 := cmpf .olt main_v55 main_v56
  let main_c_21 : IVec S_ 1 := constantI S_ 1 1#1
  let main_v58 : IVec S_ 1 := (fun x v => Host.reduce IntOp.andi x v reducesTo_S256x256_S_d0_1 h_S_) main_v57 main_c_21
  let main_v59 : IVec S_ 1 := andi main_v54 main_v58
  let main_v60 : FVec F S256 .f32 := Host.absf main_arg11
  let main_cst_22 : FVec F S_ .f32 := constant S_ .f32 0x7F800000#32
  let main_v61 : FVec F S256 .f32 := broadcastInDim S256 ![] bcast_S_S256 main_cst_22
  let main_v62 : IVec S256 1 := cmpf .olt main_v60 main_v61
  let main_c_23 : IVec S_ 1 := constantI S_ 1 1#1
  let main_v63 : IVec S_ 1 := (fun x v => Host.reduce IntOp.andi x v reducesTo_S256_S_d0 h_S_) main_v62 main_c_23
  let main_v64 : IVec S_ 1 := andi main_v59 main_v63
  let main_v65 : FVec F S256 .f32 := Host.absf main_arg12
  let main_cst_24 : FVec F S_ .f32 := constant S_ .f32 0x7F800000#32
  let main_v66 : FVec F S256 .f32 := broadcastInDim S256 ![] bcast_S_S256 main_cst_24
  let main_v67 : IVec S256 1 := cmpf .olt main_v65 main_v66
  let main_c_25 : IVec S_ 1 := constantI S_ 1 1#1
  fn_part4 (F := F) main_arg13 main_arg14 main_arg15 main_v64 main_v67 main_c_25

def fn_part2 {F : FTy → Type} [FloatOps F] (main_arg6 : FVec F S256 .f32) (main_arg7 : FVec F S_ .f32) (main_arg8 : FVec F S256x256 .f32) (main_arg9 : FVec F S256 .f32) (main_arg10 : FVec F S256x256 .f32) (main_arg11 : FVec F S256 .f32) (main_arg12 : FVec F S256 .f32) (main_arg13 : FVec F S_ .f32) (main_arg14 : FVec F S128x256 .f32) (main_arg15 : FVec F S128 .f32) (main_v30 : IVec S_ 1) (main_v33 : IVec S256 1) (main_c_11 : IVec S_ 1) : IVec S_ 1 :=
  let main_v34 : IVec S_ 1 := (fun x v => Host.reduce IntOp.andi x v reducesTo_S256_S_d0 h_S_) main_v33 main_c_11
  let main_v35 : IVec S_ 1 := andi main_v30 main_v34
  let main_v36 : FVec F S256 .f32 := Host.absf main_arg6
  let main_cst_12 : FVec F S_ .f32 := constant S_ .f32 0x7F800000#32
  let main_v37 : FVec F S256 .f32 := broadcastInDim S256 ![] bcast_S_S256 main_cst_12
  let main_v38 : IVec S256 1 := cmpf .olt main_v36 main_v37
  let main_c_13 : IVec S_ 1 := constantI S_ 1 1#1
  let main_v39 : IVec S_ 1 := (fun x v => Host.reduce IntOp.andi x v reducesTo_S256_S_d0 h_S_) main_v38 main_c_13
  let main_v40 : IVec S_ 1 := andi main_v35 main_v39
  let main_v41 : FVec F S_ .f32 := Host.absf main_arg7
  let main_cst_14 : FVec F S_ .f32 := constant S_ .f32 0x7F800000#32
  let main_v42 : IVec S_ 1 := cmpf .olt main_v41 main_cst_14
  let main_c_15 : IVec S_ 1 := constantI S_ 1 1#1
  let main_v43 : IVec S_ 1 := (fun x v => Host.reduce IntOp.andi x v reducesTo_S_S_d h_S_) main_v42 main_c_15
  let main_v44 : IVec S_ 1 := andi main_v40 main_v43
  let main_v45 : FVec F S256x256 .f32 := Host.absf main_arg8
  let main_cst_16 : FVec F S_ .f32 := constant S_ .f32 0x7F800000#32
  let main_v46 : FVec F S256x256 .f32 := broadcastInDim S256x256 ![] bcast_S_S256x256 main_cst_16
  let main_v47 : IVec S256x256 1 := cmpf .olt main_v45 main_v46
  let main_c_17 : IVec S_ 1 := constantI S_ 1 1#1
  let main_v48 : IVec S_ 1 := (fun x v => Host.reduce IntOp.andi x v reducesTo_S256x256_S_d0_1 h_S_) main_v47 main_c_17
  let main_v49 : IVec S_ 1 := andi main_v44 main_v48
  let main_v50 : FVec F S256 .f32 := Host.absf main_arg9
  let main_cst_18 : FVec F S_ .f32 := constant S_ .f32 0x7F800000#32
  fn_part3 (F := F) main_arg10 main_arg11 main_arg12 main_arg13 main_arg14 main_arg15 main_v49 main_v50 main_cst_18

def fn_part1 {F : FTy → Type} [FloatOps F] (main_arg3 : FVec F S256 .f32) (main_arg4 : FVec F S256x128 .f32) (main_arg5 : FVec F S256 .f32) (main_arg6 : FVec F S256 .f32) (main_arg7 : FVec F S_ .f32) (main_arg8 : FVec F S256x256 .f32) (main_arg9 : FVec F S256 .f32) (main_arg10 : FVec F S256x256 .f32) (main_arg11 : FVec F S256 .f32) (main_arg12 : FVec F S256 .f32) (main_arg13 : FVec F S_ .f32) (main_arg14 : FVec F S128x256 .f32) (main_arg15 : FVec F S128 .f32) (main_v15 : IVec S_ 1) (main_v16 : FVec F S256x128 .f32) (main_cst_4 : FVec F S_ .f32) : IVec S_ 1 :=
  let main_v17 : FVec F S256x128 .f32 := broadcastInDim S256x128 ![] bcast_S_S256x128 main_cst_4
  let main_v18 : IVec S256x128 1 := cmpf .olt main_v16 main_v17
  let main_c_5 : IVec S_ 1 := constantI S_ 1 1#1
  let main_v19 : IVec S_ 1 := (fun x v => Host.reduce IntOp.andi x v reducesTo_S256x128_S_d0_1 h_S_) main_v18 main_c_5
  let main_v20 : IVec S_ 1 := andi main_v15 main_v19
  let main_v21 : FVec F S256 .f32 := Host.absf main_arg3
  let main_cst_6 : FVec F S_ .f32 := constant S_ .f32 0x7F800000#32
  let main_v22 : FVec F S256 .f32 := broadcastInDim S256 ![] bcast_S_S256 main_cst_6
  let main_v23 : IVec S256 1 := cmpf .olt main_v21 main_v22
  let main_c_7 : IVec S_ 1 := constantI S_ 1 1#1
  let main_v24 : IVec S_ 1 := (fun x v => Host.reduce IntOp.andi x v reducesTo_S256_S_d0 h_S_) main_v23 main_c_7
  let main_v25 : IVec S_ 1 := andi main_v20 main_v24
  let main_v26 : FVec F S256x128 .f32 := Host.absf main_arg4
  let main_cst_8 : FVec F S_ .f32 := constant S_ .f32 0x7F800000#32
  let main_v27 : FVec F S256x128 .f32 := broadcastInDim S256x128 ![] bcast_S_S256x128 main_cst_8
  let main_v28 : IVec S256x128 1 := cmpf .olt main_v26 main_v27
  let main_c_9 : IVec S_ 1 := constantI S_ 1 1#1
  let main_v29 : IVec S_ 1 := (fun x v => Host.reduce IntOp.andi x v reducesTo_S256x128_S_d0_1 h_S_) main_v28 main_c_9
  let main_v30 : IVec S_ 1 := andi main_v25 main_v29
  let main_v31 : FVec F S256 .f32 := Host.absf main_arg5
  let main_cst_10 : FVec F S_ .f32 := constant S_ .f32 0x7F800000#32
  let main_v32 : FVec F S256 .f32 := broadcastInDim S256 ![] bcast_S_S256 main_cst_10
  let main_v33 : IVec S256 1 := cmpf .olt main_v31 main_v32
  let main_c_11 : IVec S_ 1 := constantI S_ 1 1#1
  fn_part2 (F := F) main_arg6 main_arg7 main_arg8 main_arg9 main_arg10 main_arg11 main_arg12 main_arg13 main_arg14 main_arg15 main_v30 main_v33 main_c_11

def fn {F : FTy → Type} [FloatOps F] (main_arg0 : FVec F S32768x128 .f32) (main_arg1 : IVec S32768 32) (main_arg2 : FVec F S256x128 .f32) (main_arg3 : FVec F S256 .f32) (main_arg4 : FVec F S256x128 .f32) (main_arg5 : FVec F S256 .f32) (main_arg6 : FVec F S256 .f32) (main_arg7 : FVec F S_ .f32) (main_arg8 : FVec F S256x256 .f32) (main_arg9 : FVec F S256 .f32) (main_arg10 : FVec F S256x256 .f32) (main_arg11 : FVec F S256 .f32) (main_arg12 : FVec F S256 .f32) (main_arg13 : FVec F S_ .f32) (main_arg14 : FVec F S128x256 .f32) (main_arg15 : FVec F S128 .f32) (main_arg16 : FVec F S128 .f32) (main_arg17 : FVec F S128 .f32) (main_arg18 : FVec F S_ .f32) (main_arg19 : FVec F S64x128 .f32) (main_arg20 : FVec F S64 .f32) : IVec S_ 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 16#32
  let main_v2 : IVec S32768 32 := broadcastInDim S32768 ![] bcast_S_S32768 main_c_0
  let main_v3 : IVec S32768 1 := cmpi .slt main_arg1 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  let main_v6 : IVec S32767 32 := (extractStridedSlice S32767 ![0] · slices_S32768_S32767_0) main_arg1
  let main_v7 : IVec S32767 32 := (extractStridedSlice S32767 ![1] · slices_S32768_S32767_1) main_arg1
  let main_v8 : IVec S32767 1 := cmpi .sle main_v6 main_v7
  let main_c_2 : IVec S_ 1 := constantI S_ 1 1#1
  let main_v9 : IVec S_ 1 := (fun x v => Host.reduce IntOp.andi x v reducesTo_S32767_S_d0 h_S_) main_v8 main_c_2
  let main_v10 : IVec S_ 1 := andi main_v5 main_v9
  let main_v11 : FVec F S32768x128 .f32 := Host.absf main_arg0
  let main_cst : FVec F S_ .f32 := constant S_ .f32 0x7F800000#32
  let main_v12 : FVec F S32768x128 .f32 := broadcastInDim S32768x128 ![] bcast_S_S32768x128 main_cst
  let main_v13 : IVec S32768x128 1 := cmpf .olt main_v11 main_v12
  let main_c_3 : IVec S_ 1 := constantI S_ 1 1#1
  let main_v14 : IVec S_ 1 := (fun x v => Host.reduce IntOp.andi x v reducesTo_S32768x128_S_d0_1 h_S_) main_v13 main_c_3
  let main_v15 : IVec S_ 1 := andi main_v10 main_v14
  let main_v16 : FVec F S256x128 .f32 := Host.absf main_arg2
  let main_cst_4 : FVec F S_ .f32 := constant S_ .f32 0x7F800000#32
  fn_part1 (F := F) main_arg3 main_arg4 main_arg5 main_arg6 main_arg7 main_arg8 main_arg9 main_arg10 main_arg11 main_arg12 main_arg13 main_arg14 main_arg15 main_v15 main_v16 main_cst_4
-- ==== Kernel.lean ====
abbrev S32768x128 : Shape := ⟨2, ![32768, 128]⟩
abbrev S32768 : Shape := ⟨1, ![32768]⟩
abbrev S256x128 : Shape := ⟨2, ![256, 128]⟩
abbrev S256 : Shape := ⟨1, ![256]⟩
abbrev S_ : Shape := ⟨0, ![]⟩
abbrev S256x256 : Shape := ⟨2, ![256, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x32768 : Shape := ⟨2, ![1, 32768]⟩
abbrev S17 : Shape := ⟨1, ![17]⟩
abbrev S17x1 : Shape := ⟨2, ![17, 1]⟩
abbrev S17x32768 : Shape := ⟨2, ![17, 32768]⟩
abbrev S16 : Shape := ⟨1, ![16]⟩
abbrev S1x16 : Shape := ⟨2, ![1, 16]⟩
abbrev S16x1 : Shape := ⟨2, ![16, 1]⟩
abbrev S16x2 : Shape := ⟨2, ![16, 2]⟩
abbrev S1x1 : Shape := ⟨2, ![1, 1]⟩
abbrev S1x256 : Shape := ⟨2, ![1, 256]⟩
abbrev S1x128 : Shape := ⟨2, ![1, 128]⟩
abbrev S1x64 : Shape := ⟨2, ![1, 64]⟩
abbrev S16x64 : Shape := ⟨2, ![16, 64]⟩
abbrev S2048x128 : Shape := ⟨2, ![2048, 128]⟩
abbrev S16x128 : Shape := ⟨2, ![16, 128]⟩
abbrev S32768x256 : Shape := ⟨2, ![32768, 256]⟩
abbrev S16x256 : Shape := ⟨2, ![16, 256]⟩
abbrev S2048x1 : Shape := ⟨2, ![2048, 1]⟩
abbrev S1 : Shape := ⟨1, ![1]⟩
abbrev S2048x16 : Shape := ⟨2, ![2048, 16]⟩
abbrev S2048x256 : Shape := ⟨2, ![2048, 256]⟩
abbrev S2048 : Shape := ⟨1, ![2048]⟩

abbrev nBuf : Space → Nat
  | .hbm => 61
  | .vmem => 29
  | .smem => 2
  | _ => 0

abbrev bufTy : (tb : Table) → Fin (tcTables nBuf tb) → BufTy
  | .hbm, ⟨0, _⟩ => ⟨S32768x128, .f32⟩
  | .hbm, ⟨1, _⟩ => ⟨S32768, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256, .f32⟩
  | .hbm, ⟨6, _⟩ => ⟨S256, .f32⟩
  | .hbm, ⟨7, _⟩ => ⟨S_, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S128x256, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S64x128, .f32⟩
  | .hbm, ⟨20, _⟩ => ⟨S64, .f32⟩
  | .hbm, ⟨21, _⟩ => ⟨S1x32768, .i32⟩
  | .hbm, ⟨22, _⟩ => ⟨S17, .i32⟩
  | .hbm, ⟨23, _⟩ => ⟨S17x1, .i32⟩
  | .hbm, ⟨24, _⟩ => ⟨S17x32768, .i32⟩
  | .hbm, ⟨25, _⟩ => ⟨S17x32768, .i32⟩
  | .hbm, ⟨26, _⟩ => ⟨S17x32768, .i1⟩
  | .hbm, ⟨27, _⟩ => ⟨S17x32768, .i32⟩
  | .hbm, ⟨28, _⟩ => ⟨S_, .i32⟩
  | .hbm, ⟨29, _⟩ => ⟨S16, .i32⟩
  | .hbm, ⟨30, _⟩ => ⟨S1x16, .i32⟩
  | .hbm, ⟨31, _⟩ => ⟨S16, .i32⟩
  | .hbm, ⟨32, _⟩ => ⟨S1x16, .i32⟩
  | .hbm, ⟨33, _⟩ => ⟨S16, .i32⟩
  | .hbm, ⟨34, _⟩ => ⟨S16, .i32⟩
  | .hbm, ⟨35, _⟩ => ⟨S16x1, .i32⟩
  | .hbm, ⟨36, _⟩ => ⟨S16x1, .i32⟩
  | .hbm, ⟨37, _⟩ => ⟨S1x1, .f32⟩
  | .hbm, ⟨38, _⟩ => ⟨S1x1, .f32⟩
  | .hbm, ⟨39, _⟩ => ⟨S1x1, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x64, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x64, .f32⟩
  | .hbm, ⟨60, _⟩ => ⟨S16x64, .f32⟩
  | .local _ .vmem, ⟨0, _⟩ => ⟨S2048x128, .f32⟩
  | .local _ .vmem, ⟨1, _⟩ => ⟨S2048x128, .f32⟩
  | .local _ .vmem, ⟨2, _⟩ => ⟨S1x16, .i32⟩
  | .local _ .vmem, ⟨3, _⟩ => ⟨S1x16, .i32⟩
  | .local _ .vmem, ⟨4, _⟩ => ⟨S256x128, .f32⟩
  | .local _ .vmem, ⟨5, _⟩ => ⟨S256x128, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x1, .f32⟩
  | .local _ .vmem, ⟨10, _⟩ => ⟨S256x256, .f32⟩
  | .local _ .vmem, ⟨11, _⟩ => ⟨S256x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x1, .f32⟩
  | .local _ .vmem, ⟨16, _⟩ => ⟨S128x256, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x1, .f32⟩
  | .local _ .vmem, ⟨21, _⟩ => ⟨S64x128, .f32⟩
  | .local _ .vmem, ⟨22, _⟩ => ⟨S1x64, .f32⟩
  | .local _ .vmem, ⟨23, _⟩ => ⟨S16x64, .f32⟩
  | .local _ .vmem, ⟨24, _⟩ => ⟨S16x128, .f32⟩
  | .local _ .vmem, ⟨25, _⟩ => ⟨S32768x256, .f32⟩
  | .local _ .vmem, ⟨26, _⟩ => ⟨S16x256, .f32⟩
  | .local _ .vmem, ⟨27, _⟩ => ⟨S16x256, .f32⟩
  | .local _ .vmem, ⟨28, _⟩ => ⟨S16x256, .f32⟩
  | .local _ .smem, ⟨0, _⟩ => ⟨S16x2, .i32⟩
  | .local _ .smem, ⟨1, _⟩ => ⟨S17, .i32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v16 : Ref sig .tc := ⟨.smem, 0, rfl⟩
abbrev main_v7 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23

abbrev nD : Nat := 1
abbrev τ : Topo := Topo.v7x

variable {F : FTy → Type} [FloatOps F]

abbrev grid0 : Pipeline.Grid := ⟨1, ![48], ![false]⟩

abbrev pre0 : Pipeline.Prefetch sig := ⟨2, ![main_v16.idx, main_v7.idx], fun | 0 => main_v16.names | 1 => main_v7.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let c16_i32 : BitVec 32 := 16#32
  let c0_i32_1 : BitVec 32 := 0#32
  let v3 : BitVec 1 := Scalar.cmpi .eq c16_i32 c0_i32_1
  let c1_i32 : BitVec 32 := 1#32
  let v4 : BitVec 32 := Scalar.select v3 c1_i32 c16_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v13 : Index := Scalar.indexCast v12
  let c0 : Index := 0#32
  ![v13.toNat, 0]
def k0_off2 (i : grid0.Coords) : Fin 2 → Nat :=
  let arg0 : BitVec 32 := BitVec.ofNat 32 (i 0).val
  let c16_i32 : BitVec 32 := 16#32
  let c0_i32_1 : BitVec 32 := 0#32
  let v3 : BitVec 1 := Scalar.cmpi .eq c16_i32 c0_i32_1
  let c1_i32 : BitVec 32 := 1#32
  let v4 : BitVec 32 := Scalar.select v3 c1_i32 c16_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v15 : Index := Scalar.indexCast v12
  let c1 : Index := 1#32
  ![v15.toNat, 1]
def k0_mult1 (i : grid0.Coords) : BitVec 32 :=
  let arg0 : BitVec 32 := BitVec.ofNat 32 (i 0).val
  let c16_i32 : BitVec 32 := 16#32
  let c0_i32_1 : BitVec 32 := 0#32
  let v3 : BitVec 1 := Scalar.cmpi .eq c16_i32 c0_i32_1
  let c1_i32 : BitVec 32 := 1#32
  let v4 : BitVec 32 := Scalar.select v3 c1_i32 c16_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c2048_i32 : BitVec 32 := 2048#32
  let v17 : BitVec 32 := Scalar.muli v12 c2048_i32
  v17
def k0_cond2 (i : grid0.Coords) : BitVec 1 :=
  let arg0 : BitVec 32 := BitVec.ofNat 32 (i 0).val
  let c16_i32_5 : BitVec 32 := 16#32
  let v19 : BitVec 1 := Scalar.cmpi .slt arg0 c16_i32_5
  let v20 : BitVec 32 := Scalar.extui v19
  let c0_i32_6 : BitVec 32 := 0#32
  let v21 : BitVec 1 := Scalar.cmpi .ne v20 c0_i32_6
  v21

def k0_off3 (v14 : BitVec 32) : Fin 2 → Nat :=
  let v40 : Index := Scalar.indexCast v14
  let c0_15 : Index := 0#32
  ![v40.toNat, 0]
def k0_cond3 (v14 : BitVec 32) (v16 : BitVec 32) : BitVec 1 :=
  let v32 : BitVec 1 := Scalar.cmpi .eq v14 v16
  let v33 : BitVec 32 := Scalar.extui v32
  let c0_i32_13 : BitVec 32 := 0#32
  let v34 : BitVec 1 := Scalar.cmpi .ne v33 c0_i32_13
  v34

def k0_cond21 (i : grid0.Coords) : BitVec 1 :=
  let arg0 : BitVec 32 := BitVec.ofNat 32 (i 0).val
  let c16_i32_7 : BitVec 32 := 16#32
  let v22 : BitVec 1 := Scalar.cmpi .sge arg0 c16_i32_7
  let c32_i32 : BitVec 32 := 32#32
  let v23 : BitVec 1 := Scalar.cmpi .slt arg0 c32_i32
  let v24 : BitVec 1 := Scalar.andi v22 v23
  let v25 : BitVec 32 := Scalar.extui v24
  let c0_i32_8 : BitVec 32 := 0#32
  let v26 : BitVec 1 := Scalar.cmpi .ne v25 c0_i32_8
  v26

def k0_off4 (i : grid0.Coords) : Fin 2 → Nat :=
  let arg0 : BitVec 32 := BitVec.ofNat 32 (i 0).val
  let c16_i32 : BitVec 32 := 16#32
  let c0_i32_1 : BitVec 32 := 0#32
  let v3 : BitVec 1 := Scalar.cmpi .eq c16_i32 c0_i32_1
  let c1_i32 : BitVec 32 := 1#32
  let v4 : BitVec 32 := Scalar.select v3 c1_i32 c16_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c2048_i32 : BitVec 32 := 2048#32
  let v17 : BitVec 32 := Scalar.muli v12 c2048_i32
  let v18 : BitVec 32 := v17
  let v91 : Index := Scalar.indexCast v18
  let c0_40 : Index := 0#32
  ![v91.toNat, 0]
def k0_off5 (v14 : BitVec 32) : Fin 2 → Nat :=
  let v104 : Index := Scalar.indexCast v14
  let c0_44 : Index := 0#32
  ![v104.toNat, 0]
def k0_cond22 (v14 : BitVec 32) (v16 : BitVec 32) : BitVec 1 :=
  let v96 : BitVec 1 := Scalar.cmpi .eq v14 v16
  let v97 : BitVec 32 := Scalar.extui v96
  let c0_i32_41 : BitVec 32 := 0#32
  let v98 : BitVec 1 := Scalar.cmpi .ne v97 c0_i32_41
  v98

def k0_chk1 (i : grid0.Coords) (v14 : BitVec 32) (v16 : BitVec 32) : Prop :=
  (∀ (k0_h2 : k0_cond2 i = 1#1), ∀ (k0_h3 : k0_cond3 v14 v16 = 1#1), ∀ a, (k0_off3 v14) a + S1x128.size a ≤ S16x128.size a) ∧
  (∀ (k0_h21 : k0_cond21 i = 1#1), ∀ (k0_h22 : k0_cond22 v14 v16 = 1#1), ∀ a, (k0_off5 v14) a + S1x256.size a ≤ S16x256.size a)
theorem k0_off3_inb : ∀ (i : grid0.Coords) (v14 : BitVec 32) (v16 : BitVec 32) (k0_hw1 : k0_chk1 i v14 v16), ∀ (k0_h2 : k0_cond2 i = 1#1), ∀ (k0_h3 : k0_cond3 v14 v16 = 1#1), ∀ a, (k0_off3 v14) a + S1x128.size a ≤ S16x128.size a := fun i v14 v16 k0_hw1 k0_h2 k0_h3 => k0_hw1.1 k0_h2 k0_h3
theorem k0_off5_inb : ∀ (i : grid0.Coords) (v14 : BitVec 32) (v16 : BitVec 32) (k0_hw1 : k0_chk1 i v14 v16), ∀ (k0_h21 : k0_cond21 i = 1#1), ∀ (k0_h22 : k0_cond22 v14 v16 = 1#1), ∀ a, (k0_off5 v14) a + S1x256.size a ≤ S16x256.size a := fun i v14 v16 k0_hw1 k0_h21 k0_h22 => k0_hw1.2 k0_h21 k0_h22

def k0_cond40 (i : grid0.Coords) : BitVec 1 :=
  let arg0 : BitVec 32 := BitVec.ofNat 32 (i 0).val
  let c32_i32_9 : BitVec 32 := 32#32
  let v27 : BitVec 1 := Scalar.cmpi .sge arg0 c32_i32_9
  let v28 : BitVec 32 := Scalar.extui v27
  let c0_i32_10 : BitVec 32 := 0#32
  let v29 : BitVec 1 := Scalar.cmpi .ne v28 c0_i32_10
  v29

def k0_off6 (i : grid0.Coords) : Fin 2 → Nat :=
  let arg0 : BitVec 32 := BitVec.ofNat 32 (i 0).val
  let c16_i32 : BitVec 32 := 16#32
  let c0_i32_1 : BitVec 32 := 0#32
  let v3 : BitVec 1 := Scalar.cmpi .eq c16_i32 c0_i32_1
  let c1_i32 : BitVec 32 := 1#32
  let v4 : BitVec 32 := Scalar.select v3 c1_i32 c16_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c2048_i32 : BitVec 32 := 2048#32
  let v17 : BitVec 32 := Scalar.muli v12 c2048_i32
  let v18 : BitVec 32 := v17
  let v48 : Index := Scalar.indexCast v18
  let c0_20 : Index := 0#32
  ![v48.toNat, 0]
def k0_cond41 (i : grid0.Coords) : BitVec 1 :=
  let arg0 : BitVec 32 := BitVec.ofNat 32 (i 0).val
  let c47_i32 : BitVec 32 := 47#32
  let v105 : BitVec 1 := Scalar.cmpi .eq arg0 c47_i32
  let v106 : BitVec 32 := Scalar.extui v105
  let c0_i32_50 : BitVec 32 := 0#32
  let v107 : BitVec 1 := Scalar.cmpi .ne v106 c0_i32_50
  v107

def cc0_transform_0 (i : grid0.Coords) : Fin 2 → Nat :=
  let arg0 : BitVec 32 := BitVec.ofNat 32 (i 0).val
  let c32_i32 : BitVec 32 := 32#32
  let v0 : BitVec 1 := Scalar.cmpi .slt arg0 c32_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c15_i32 : BitVec 32 := 15#32
  let v11 : BitVec 32 := Scalar.select v0 v10 c15_i32
  let c0_i32_3 : BitVec 32 := 0#32
  let c0_i32_4 : BitVec 32 := 0#32
  ![v11.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S16x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S32768x128 : Shape := ⟨2, ![32768, 128]⟩
abbrev S32768 : Shape := ⟨1, ![32768]⟩
abbrev S256x128 : Shape := ⟨2, ![256, 128]⟩
abbrev S256 : Shape := ⟨1, ![256]⟩
abbrev S_ : Shape := ⟨0, ![]⟩
abbrev S256x256 : Shape := ⟨2, ![256, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x32768 : Shape := ⟨2, ![1, 32768]⟩
abbrev S16 : Shape := ⟨1, ![16]⟩
abbrev S16x1 : Shape := ⟨2, ![16, 1]⟩
abbrev S16x32768 : Shape := ⟨2, ![16, 32768]⟩
abbrev S16x32768x1 : Shape := ⟨3, ![16, 32768, 1]⟩
abbrev S1x32768x128 : Shape := ⟨3, ![1, 32768, 128]⟩
abbrev S16x32768x128 : Shape := ⟨3, ![16, 32768, 128]⟩
abbrev S16x128 : Shape := ⟨2, ![16, 128]⟩
abbrev S16x256 : Shape := ⟨2, ![16, 256]⟩
abbrev S32768x256 : Shape := ⟨2, ![32768, 256]⟩
abbrev S1x256 : Shape := ⟨2, ![1, 256]⟩
abbrev S32768x1 : Shape := ⟨2, ![32768, 1]⟩
abbrev S1x32768x256 : Shape := ⟨3, ![1, 32768, 256]⟩
abbrev S16x32768x256 : Shape := ⟨3, ![16, 32768, 256]⟩
abbrev S1x128 : Shape := ⟨2, ![1, 128]⟩
abbrev S128x64 : Shape := ⟨2, ![128, 64]⟩
abbrev S16x64 : Shape := ⟨2, ![16, 64]⟩
abbrev S1x64 : Shape := ⟨2, ![1, 64]⟩

abbrev nBuf : Space → Nat
  | .hbm => 225
  | .vmem => 0
  | .smem => 0
  | _ => 0

abbrev hbmTy0_0 (i : Nat) : BufTy := match i % 128 with
  | 0 => ⟨S32768x128, .f32⟩
  | 1 => ⟨S32768, .i32⟩
  | 2 => ⟨S256x128, .f32⟩
  | 3 => ⟨S256, .f32⟩
  | 4 => ⟨S256x128, .f32⟩
  | 5 => ⟨S256, .f32⟩
  | 6 => ⟨S256, .f32⟩
  | 7 => ⟨S_, .f32⟩
  | 8 => ⟨S256x256, .f32⟩
  | 9 => ⟨S256, .f32⟩
  | 10 => ⟨S256x256, .f32⟩
  | 11 => ⟨S256, .f32⟩
  | 12 => ⟨S256, .f32⟩
  | 13 => ⟨S_, .f32⟩
  | 14 => ⟨S128x256, .f32⟩
  | 15 => ⟨S128, .f32⟩
  | 16 => ⟨S128, .f32⟩
  | 17 => ⟨S128, .f32⟩
  | 18 => ⟨S_, .f32⟩
  | 19 => ⟨S64x128, .f32⟩
  | 20 => ⟨S64, .f32⟩
  | 21 => ⟨S1x32768, .i32⟩
  | 22 => ⟨S16, .i32⟩
  | 23 => ⟨S16x1, .i32⟩
  | 24 => ⟨S16x32768, .i32⟩
  | 25 => ⟨S16x32768, .i32⟩
  | 26 => ⟨S16x32768, .i1⟩
  | 27 => ⟨S16x32768x1, .i1⟩
  | 28 => ⟨S1x32768x128, .f32⟩
  | 29 => ⟨S_, .f32⟩
  | 30 => ⟨S_, .f32⟩
  | 31 => ⟨S16x32768x128, .i1⟩
  | 32 => ⟨S16x32768x128, .f32⟩
  | 33 => ⟨S16x32768x128, .f32⟩
  | 34 => ⟨S16x32768x128, .f32⟩
  | 35 => ⟨S_, .f32⟩
  | 36 => ⟨S16x128, .f32⟩
  | 37 => ⟨S128x256, .f32⟩
  | 38 => ⟨S16x256, .f32⟩
  | 39 => ⟨S128x256, .f32⟩
  | 40 => ⟨S32768x256, .f32⟩
  | 41 => ⟨S1x256, .f32⟩
  | 42 => ⟨S32768x256, .f32⟩
  | 43 => ⟨S32768x256, .f32⟩
  | 44 => ⟨S_, .i32⟩
  | 45 => ⟨S32768, .i32⟩
  | 46 => ⟨S32768, .i1⟩
  | 47 => ⟨S_, .i32⟩
  | 48 => ⟨S32768, .i32⟩
  | 49 => ⟨S32768, .i32⟩
  | 50 => ⟨S32768, .i32⟩
  | 51 => ⟨S32768x1, .i32⟩
  | 52 => ⟨S32768x256, .f32⟩
  | 53 => ⟨S32768x256, .f32⟩
  | 54 => ⟨S_, .f32⟩
  | 55 => ⟨S32768, .f32⟩
  | 56 => ⟨S32768x1, .f32⟩
  | 57 => ⟨S_, .f32⟩
  | 58 => ⟨S32768x1, .f32⟩
  | 59 => ⟨S32768x1, .f32⟩
  | 60 => ⟨S32768x256, .f32⟩
  | 61 => ⟨S32768x256, .f32⟩
  | 62 => ⟨S32768x256, .f32⟩
  | 63 => ⟨S32768x256, .f32⟩
  | 64 => ⟨S32768x256, .f32⟩
  | 65 => ⟨S_, .f32⟩
  | 66 => ⟨S32768, .f32⟩
  | 67 => ⟨S32768x1, .f32⟩
  | 68 => ⟨S_, .f32⟩
  | 69 => ⟨S32768x1, .f32⟩
  | 70 => ⟨S32768x1, .f32⟩
  | 71 => ⟨S32768x256, .f32⟩
  | 72 => ⟨S32768x256, .f32⟩
  | 73 => ⟨S_, .f32⟩
  | 74 => ⟨S32768x1, .f32⟩
  | 75 => ⟨S32768x1, .f32⟩
  | 76 => ⟨S32768x1, .f32⟩
  | 77 => ⟨S32768x256, .f32⟩
  | 78 => ⟨S32768x256, .f32⟩
  | 79 => ⟨S1x256, .f32⟩
  | 80 => ⟨S32768x256, .f32⟩
  | 81 => ⟨S32768x256, .f32⟩
  | 82 => ⟨S1x256, .f32⟩
  | 83 => ⟨S32768x256, .f32⟩
  | 84 => ⟨S32768x256, .f32⟩
  | 85 => ⟨S_, .f32⟩
  | 86 => ⟨S32768x256, .f32⟩
  | 87 => ⟨S32768x256, .i1⟩
  | 88 => ⟨S32768x256, .f32⟩
  | 89 => ⟨S32768x256, .f32⟩
  | 90 => ⟨S32768x256, .f32⟩
  | 91 => ⟨S1x32768, .i32⟩
  | 92 => ⟨S16, .i32⟩
  | 93 => ⟨S16x1, .i32⟩
  | 94 => ⟨S16x32768, .i32⟩
  | 95 => ⟨S16x32768, .i32⟩
  | 96 => ⟨S16x32768, .i1⟩
  | 97 => ⟨S16x32768x1, .i1⟩
  | 98 => ⟨S1x32768x256, .f32⟩
  | 99 => ⟨S_, .f32⟩
  | 100 => ⟨S_, .f32⟩
  | 101 => ⟨S16x32768x256, .i1⟩
  | 102 => ⟨S16x32768x256, .f32⟩
  | 103 => ⟨S16x32768x256, .f32⟩
  | 104 => ⟨S16x32768x256, .f32⟩
  | 105 => ⟨S_, .f32⟩
  | 106 => ⟨S16x256, .f32⟩
  | 107 => ⟨S256x256, .f32⟩
  | 108 => ⟨S16x256, .f32⟩
  | 109 => ⟨S256x256, .f32⟩
  | 110 => ⟨S32768x256, .f32⟩
  | 111 => ⟨S1x256, .f32⟩
  | 112 => ⟨S32768x256, .f32⟩
  | 113 => ⟨S32768x256, .f32⟩
  | 114 => ⟨S_, .i32⟩
  | 115 => ⟨S32768, .i32⟩
  | 116 => ⟨S32768, .i1⟩
  | 117 => ⟨S_, .i32⟩
  | 118 => ⟨S32768, .i32⟩
  | 119 => ⟨S32768, .i32⟩
  | 120 => ⟨S32768, .i32⟩
  | 121 => ⟨S32768x1, .i32⟩
  | 122 => ⟨S32768x256, .f32⟩
  | 123 => ⟨S32768x256, .f32⟩
  | 124 => ⟨S_, .f32⟩
  | 125 => ⟨S32768, .f32⟩
  | 126 => ⟨S32768x1, .f32⟩
  | 127 => ⟨S_, .f32⟩
  | _ => ⟨S32768x128, .f32⟩

abbrev hbmTy0_1 (i : Nat) : BufTy := match i % 128 with
  | 0 => ⟨S32768x1, .f32⟩
  | 1 => ⟨S32768x1, .f32⟩
  | 2 => ⟨S32768x256, .f32⟩
  | 3 => ⟨S32768x256, .f32⟩
  | 4 => ⟨S32768x256, .f32⟩
  | 5 => ⟨S32768x256, .f32⟩
  | 6 => ⟨S32768x256, .f32⟩
  | 7 => ⟨S_, .f32⟩
  | 8 => ⟨S32768, .f32⟩
  | 9 => ⟨S32768x1, .f32⟩
  | 10 => ⟨S_, .f32⟩
  | 11 => ⟨S32768x1, .f32⟩
  | 12 => ⟨S32768x1, .f32⟩
  | 13 => ⟨S32768x256, .f32⟩
  | 14 => ⟨S32768x256, .f32⟩
  | 15 => ⟨S_, .f32⟩
  | 16 => ⟨S32768x1, .f32⟩
  | 17 => ⟨S32768x1, .f32⟩
  | 18 => ⟨S32768x1, .f32⟩
  | 19 => ⟨S32768x256, .f32⟩
  | 20 => ⟨S32768x256, .f32⟩
  | 21 => ⟨S1x256, .f32⟩
  | 22 => ⟨S32768x256, .f32⟩
  | 23 => ⟨S32768x256, .f32⟩
  | 24 => ⟨S1x256, .f32⟩
  | 25 => ⟨S32768x256, .f32⟩
  | 26 => ⟨S32768x256, .f32⟩
  | 27 => ⟨S_, .f32⟩
  | 28 => ⟨S32768x256, .f32⟩
  | 29 => ⟨S32768x256, .i1⟩
  | 30 => ⟨S32768x256, .f32⟩
  | 31 => ⟨S32768x256, .f32⟩
  | 32 => ⟨S32768x256, .f32⟩
  | 33 => ⟨S_, .f32⟩
  | 34 => ⟨S32768, .f32⟩
  | 35 => ⟨S_, .f32⟩
  | 36 => ⟨S16, .f32⟩
  | 37 => ⟨S32768x1, .i32⟩
  | 38 => ⟨S16, .f32⟩
  | 39 => ⟨S_, .f32⟩
  | 40 => ⟨S16x256, .f32⟩
  | 41 => ⟨S32768x1, .i32⟩
  | 42 => ⟨S16x256, .f32⟩
  | 43 => ⟨S_, .f32⟩
  | 44 => ⟨S_, .f32⟩
  | 45 => ⟨S16, .f32⟩
  | 46 => ⟨S16, .f32⟩
  | 47 => ⟨S16x1, .f32⟩
  | 48 => ⟨S16x256, .f32⟩
  | 49 => ⟨S16x256, .f32⟩
  | 50 => ⟨S256x128, .f32⟩
  | 51 => ⟨S16x128, .f32⟩
  | 52 => ⟨S1x128, .f32⟩
  | 53 => ⟨S16x128, .f32⟩
  | 54 => ⟨S16x128, .f32⟩
  | 55 => ⟨S_, .f32⟩
  | 56 => ⟨S16, .f32⟩
  | 57 => ⟨S16x1, .f32⟩
  | 58 => ⟨S_, .f32⟩
  | 59 => ⟨S16x1, .f32⟩
  | 60 => ⟨S16x1, .f32⟩
  | 61 => ⟨S16x128, .f32⟩
  | 62 => ⟨S16x128, .f32⟩
  | 63 => ⟨S16x128, .f32⟩
  | 64 => ⟨S16x128, .f32⟩
  | 65 => ⟨S16x128, .f32⟩
  | 66 => ⟨S_, .f32⟩
  | 67 => ⟨S16, .f32⟩
  | 68 => ⟨S16x1, .f32⟩
  | 69 => ⟨S_, .f32⟩
  | 70 => ⟨S16x1, .f32⟩
  | 71 => ⟨S16x1, .f32⟩
  | 72 => ⟨S16x128, .f32⟩
  | 73 => ⟨S16x128, .f32⟩
  | 74 => ⟨S_, .f32⟩
  | 75 => ⟨S16x1, .f32⟩
  | 76 => ⟨S16x1, .f32⟩
  | 77 => ⟨S16x1, .f32⟩
  | 78 => ⟨S16x128, .f32⟩
  | 79 => ⟨S16x128, .f32⟩
  | 80 => ⟨S1x128, .f32⟩
  | 81 => ⟨S16x128, .f32⟩
  | 82 => ⟨S16x128, .f32⟩
  | 83 => ⟨S1x128, .f32⟩
  | 84 => ⟨S16x128, .f32⟩
  | 85 => ⟨S16x128, .f32⟩
  | 86 => ⟨S_, .f32⟩
  | 87 => ⟨S16x128, .f32⟩
  | 88 => ⟨S16x128, .i1⟩
  | 89 => ⟨S16x128, .f32⟩
  | 90 => ⟨S16x128, .f32⟩
  | 91 => ⟨S16x128, .f32⟩
  | 92 => ⟨S128x64, .f32⟩
  | 93 => ⟨S16x64, .f32⟩
  | 94 => ⟨S1x64, .f32⟩
  | 95 => ⟨S16x64, .f32⟩
  | 96 => ⟨S16x64, .f32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c : Ref sig .tc := ⟨.hbm, 44, rfl⟩
abbrev main_v17 : Ref sig .tc := ⟨.hbm, 45, rfl⟩
abbrev main_v18 : Ref sig .tc := ⟨.hbm, 46, rfl⟩
abbrev main_c_1 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_2 : Ref sig .tc := ⟨.hbm, 54, rfl⟩
abbrev main_v25 : Ref sig .tc := ⟨.hbm, 55, rfl⟩
abbrev main_v26 : Ref sig .tc := ⟨.hbm, 56, rfl⟩
abbrev main_cst_3 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_4 : Ref sig .tc := ⟨.hbm, 65, rfl⟩
abbrev main_v34 : Ref sig .tc := ⟨.hbm, 66, rfl⟩
abbrev main_v35 : Ref sig .tc := ⟨.hbm, 67, rfl⟩
abbrev main_cst_5 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_6 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_7 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_8 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_v64 : Ref sig .tc := ⟨.hbm, 104, rfl⟩
abbrev main_cst_9 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_c_10 : Ref sig .tc := ⟨.hbm, 114, rfl⟩
abbrev main_v73 : Ref sig .tc := ⟨.hbm, 115, rfl⟩
abbrev main_v74 : Ref sig .tc := ⟨.hbm, 116, rfl⟩
abbrev main_c_11 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_12 : Ref sig .tc := ⟨.hbm, 124, rfl⟩
abbrev main_v81 : Ref sig .tc := ⟨.hbm, 125, rfl⟩
abbrev main_v82 : Ref sig .tc := ⟨.hbm, 126, rfl⟩
abbrev main_cst_13 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_14 : Ref sig .tc := ⟨.hbm, 135, rfl⟩
abbrev main_v90 : Ref sig .tc := ⟨.hbm, 136, rfl⟩
abbrev main_v91 : Ref sig .tc := ⟨.hbm, 137, rfl⟩
abbrev main_cst_15 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_16 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_17 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_18 : Ref sig .tc := ⟨.hbm, 161, rfl⟩
abbrev main_v112 : Ref sig .tc := ⟨.hbm, 162, rfl⟩
abbrev main_cst_19 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_20 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_21 : Ref sig .tc := ⟨.hbm, 171, rfl⟩
abbrev main_call4_v0 : Ref sig .tc := ⟨.hbm, 172, rfl⟩
abbrev main_call4_v1 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_cst_22 : Ref sig .tc := ⟨.hbm, 183, rfl⟩
abbrev main_v128 : Ref sig .tc := ⟨.hbm, 184, rfl⟩
abbrev main_v129 : Ref sig .tc := ⟨.hbm, 185, rfl⟩
abbrev main_cst_23 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_24 : Ref sig .tc := ⟨.hbm, 194, rfl⟩
abbrev main_v137 : Ref sig .tc := ⟨.hbm, 195, rfl⟩
abbrev main_v138 : Ref sig .tc := ⟨.hbm, 196, rfl⟩
abbrev main_cst_25 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_cst_26 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_cst_27 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩

abbrev nD : Nat := 1
abbrev τ : Topo := Topo.v7x

variable {F : FTy → Type} [FloatOps F]
-- ==== Proof.K.Body.lean ====
module

public import proofs.«01_k».proof.Proof.Gen.Kernel
public import proofs.«01_k».proof.Proof.Gen.Kernel.Skeleton
public import proofs.«01_k».proof.Proof.Gen.Kernel.Launch
public import proofs.«01_k».proof.Proof.K.BodySpec
public import proofs.«01_k».proof.Proof.K.State
public import proofs.«01_k».proof.Proof.K.Data
public import proofs.«01_k».proof.Proof.K.Oblig
public import Idealize.ShloMosaic.Lib.VecWindow
public import Idealize.ShloMosaic.Lib.Pipeline.FrameBody
public import Idealize.ShloMosaic.Lib.Pipeline.RegionArraysTS
public import Idealize.ShloMosaic.Lib.Pipeline.TableIdle

@[expose] public section

noncomputable section
namespace Cert.Kernel.Hand
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]
open Idealize.ShloMosaic.Rounds

local notation "𝕄" => MT nD τ sig Unit (Elt F) ℕ (UU nD τ) ℕ

variable (m : (ℓ : Loc nD τ sig) → Buf (Elt F) ℓ) (ρ : Dev nD → PrngReg)

set_option maxHeartbeats 4000000 in
/-- The body meets its obligation at every point of the grid. -/
theorem body_obligation (hchk : Checked m ρ) (c : Dev nD) : BodyObligationLoose (dats m ρ 0 c) (defs₀ (F := F)) Variants.none () Set.univ := fun t => by
  rw [bigSep_W0, bigSep_W0, defs₀_row]
  exact triple_restated (sound_body m ρ hchk c t) rfl .rfl fun _ => .rfl

end Cert.Kernel.Hand
end
-- ==== Proof.KI.Rows.lean ====
module

public import proofs.«01_k».proof.Proof.Gen.KernelIdeal
public import proofs.«01_k».proof.Proof.Gen.KernelIdeal.Skeleton
public import Idealize.ShloMosaic.Lib.VecWindow
public import Idealize.ShloMosaic.Lib.Pipeline.TableIdle

@[expose] public section

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F] {U : Type} [URA U]
local notation "𝕄" => MT nD τ sig Unit (Elt F) ℕ U ℕ

/-! ## One segment's row of a running maximum

The kernel keeps one row per segment. A block that meets several segments runs, for each segment `s`, an update of row `s`
guarded by "the block meets `s`". The update is stated once here, for any row width. -/

/-- The guard of segment `s`: the block's least segment is at most `s` and its greatest at least `s`. -/
abbrev guard (v14 v16 s : BitVec 32) : BitVec 1 :=
  Scalar.cmpi .ne (Scalar.extui (Scalar.andi (Scalar.cmpi .sle v14 s) (Scalar.cmpi .sge v16 s)) : BitVec 32) 0#32

/-- The running maximum's shape and one row of it. -/
abbrev SB (W : ℕ) : Shape := ⟨2, ![16, W]⟩
abbrev SR (W : ℕ) : Shape := ⟨2, ![1, W]⟩

theorem row_inb (W : ℕ) (s : Fin 16) : ∀ a, (![s.val, 0] : Fin 2 → ℕ) a + (SR W).size a ≤ (SB W).size a := by
  intro a; have := s.isLt
  fin_cases a <;> simp <;> omega

theorem edge_inb (s : ℕ) (h : s < 17) : ∀ a, (![s] : Fin 1 → ℕ) a + S1.size a ≤ S17.size a := by
  intro a; fin_cases a; show s + 1 ≤ 17; omega

theorem edge0_inb (s : Fin 16) : ∀ a, (![s.val] : Fin 1 → ℕ) a + S1.size a ≤ S17.size a := edge_inb _ (by omega)
theorem edge1_inb (s : Fin 16) : ∀ a, (![s.val + 1] : Fin 1 → ℕ) a + S1.size a ≤ S17.size a := edge_inb _ (by omega)

/-- The table word at position `s`. -/
abbrev edgeAt (T : Vec F S17 .i32) (s : ℕ) (h : s < 17) : BitVec 32 := T fun a => ⟨s, by fin_cases a; exact h⟩

/-- One guarded row update, as the kernel runs it, and then the rest. -/
def rowP (W : ℕ) (hW : 0 < (SR W).numel) (arg2 : Memref sig .tc .smem S17 .i32) (buf : Memref sig .tc .vmem (SB W) .f32)
    (v14 v16 : BitVec 32) (pay : BitVec 32 → BitVec 32 → Vec F (SR W) .f32 → Vec F (SR W) .f32) (s : Fin 16) {β : Type}
    (κ : Prog (TpuEff nD τ sig (Elt F) Λ₀ .tc) β) : Prog (TpuEff nD τ sig (Elt F) Λ₀ .tc) β :=
  if guard v14 v16 (BitVec.ofNat 32 s.val) = 1#1 then do
    let v118 : Elt F .i32 ← smemLoad arg2 (Rect.unit (s := S17) ![s.val] S1.size (edge0_inb s)) numel1_S1 rfl
    let v122 : Elt F .i32 ← smemLoad arg2 (Rect.unit (s := S17) ![s.val + 1] S1.size (edge1_inb s)) numel1_S1 rfl
    let v133 : Vec F (SR W) .f32 ← Prog.lift (.load buf (Rect.unit (s := SB W) ![s.val, 0] (SR W).size (row_inb W s)).toLoadRect (View.loadsAt_vmem hW))
    let v135 : Vec F (SR W) .f32 ← Prog.lift (.load buf (Rect.unit (s := SB W) ![s.val, 0] (SR W).size (row_inb W s)).toLoadRect (View.loadsAt_vmem hW))
    Prog.lift (.store buf (Rect.unit (s := SB W) ![s.val, 0] (SR W).size (row_inb W s)) (pay v118 v122 v133) Finset.univ (View.stores_vmem_bits_univ hW rfl) (.inl rfl))
    κ
  else κ

/-- What a guarded row update leaves. -/
def rowU (W : ℕ) (T : Vec F S17 .i32) (v14 v16 : BitVec 32) (pay : BitVec 32 → BitVec 32 → Vec F (SR W) .f32 → Vec F (SR W) .f32)
    (s : Fin 16) (X : Vec F (SB W) .f32) : Vec F (SB W) .f32 :=
  if guard v14 v16 (BitVec.ofNat 32 s.val) = 1#1 then
    VecWindow.put X ![s.val, 0] (SR W).size
      (pay (edgeAt T s.val (by omega)) (edgeAt T (s.val + 1) (by omega)) (VecWindow.window X ![s.val, 0] (SR W).size (row_inb W s)))
  else X

theorem word_at (arg2 : Memref sig .tc .smem S17 .i32) (T : Vec F S17 .i32) (s : ℕ) (h : s < 17) :
    (View.readAt (Elt F) arg2.view (Rect.unit (s := S17) ![s] S1.size (edge_inb s h)).toLoadRect (arg2.view.rep T) : S1.Idx → Elt F .i32)
      (Shape.Idx.first (numel1_S1.symm ▸ Nat.one_pos)) = edgeAt T s h := by
  rw [View.readAt_rep_unit _ _ _ rfl (edge_inb s h)]
  unfold VecWindow.window edgeAt
  congr 1
  funext a
  fin_cases a
  rfl

theorem rowP_spec (c : Dev nD) (W : ℕ) (hW : 0 < (SR W).numel) (arg2 : Memref sig .tc .smem S17 .i32) (buf : Memref sig .tc .vmem (SB W) .f32)
    (v14 v16 : BitVec 32) (pay : BitVec 32 → BitVec 32 → Vec F (SR W) .f32 → Vec F (SR W) .f32) (s : Fin 16)
    (q : PosShare TreeShare) (T : Vec F S17 .i32) (X : Vec F (SB W) .f32)
    {β : Type} (κ : Prog (TpuEff nD τ sig (Elt F) Λ₀ .tc) β) (Q : β → sProp 𝕄) :
    (iprop(owns (c : Thread nD τ) arg2 q T ∗ owns (c : Thread nD τ) buf fullShare X) : sProp 𝕄) ⊢
     iprop(((owns (c : Thread nD τ) arg2 q T ∗ owns (c : Thread nD τ) buf fullShare (rowU W T v14 v16 pay s X))
        -∗ wp frame (wpE (defs₀ (F := F)) Variants.none c none) Set.univ κ Q)
      -∗ wp frame (wpE (defs₀ (F := F)) Variants.none c none) Set.univ (rowP W hW arg2 buf v14 v16 pay s κ) Q) := by
  rw [owns_eq_rep c.tc arg2, owns_eq_rep c.tc buf]
  unfold rowP rowU
  by_cases hC : guard v14 v16 (BitVec.ofNat 32 s.val) = 1#1
  · rw [if_pos hC]
    iintro ⟨HT, HX⟩ Hk
    sl_exec
    iapply Hk
    isplitl [HT]; · iexact HT
    unfold owns
    iexists _
    isplitr; swap
    · iexact HX
    · ipureintro
      rw [View.read_writes_rep_unit _ _ _ _ rfl, View.readAt_rep_unit _ _ _ rfl (row_inb W s)]
      have e0 : rowP_spec.sl.r c arg2 s T = edgeAt T s.val (by omega) := word_at _ _ _ _
      have e1 : rowP_spec.sl.r_1 c arg2 s T = edgeAt T (s.val + 1) (by omega) := word_at _ _ _ _
      rw [e0, e1]
  · rw [if_neg hC]
    iintro ⟨HT, HX⟩ Hk
    sl_exec
    iapply Hk
    isplitl [HT]; · iexact HT
    rw [owns_eq_rep]
    iexact HX

/-- Row updates in a list, one after another; and what they leave. -/
def rowsP (W : ℕ) (hW : 0 < (SR W).numel) (arg2 : Memref sig .tc .smem S17 .i32) (buf : Memref sig .tc .vmem (SB W) .f32)
    (v14 v16 : BitVec 32) (pay : BitVec 32 → BitVec 32 → Vec F (SR W) .f32 → Vec F (SR W) .f32) {β : Type}
    (κ : Prog (TpuEff nD τ sig (Elt F) Λ₀ .tc) β) : List (Fin 16) → Prog (TpuEff nD τ sig (Elt F) Λ₀ .tc) β
  | [] => κ
  | s :: l => rowP W hW arg2 buf v14 v16 pay s (rowsP W hW arg2 buf v14 v16 pay κ l)

def rowsU (W : ℕ) (T : Vec F S17 .i32) (v14 v16 : BitVec 32) (pay : BitVec 32 → BitVec 32 → Vec F (SR W) .f32 → Vec F (SR W) .f32)
    (X : Vec F (SB W) .f32) (l : List (Fin 16)) : Vec F (SB W) .f32 := l.foldl (fun Y s => rowU W T v14 v16 pay s Y) X

theorem rowsP_spec (c : Dev nD) (W : ℕ) (hW : 0 < (SR W).numel) (arg2 : Memref sig .tc .smem S17 .i32) (buf : Memref sig .tc .vmem (SB W) .f32)
    (v14 v16 : BitVec 32) (pay : BitVec 32 → BitVec 32 → Vec F (SR W) .f32 → Vec F (SR W) .f32)
    (q : PosShare TreeShare) (T : Vec F S17 .i32)
    {β : Type} (κ : Prog (TpuEff nD τ sig (Elt F) Λ₀ .tc) β) (Q : β → sProp 𝕄) (l : List (Fin 16)) : ∀ (X : Vec F (SB W) .f32),
    (iprop(owns (c : Thread nD τ) arg2 q T ∗ owns (c : Thread nD τ) buf fullShare X) : sProp 𝕄) ⊢
     iprop(((owns (c : Thread nD τ) arg2 q T ∗ owns (c : Thread nD τ) buf fullShare (rowsU W T v14 v16 pay X l))
        -∗ wp frame (wpE (defs₀ (F := F)) Variants.none c none) Set.univ κ Q)
      -∗ wp frame (wpE (defs₀ (F := F)) Variants.none c none) Set.univ (rowsP W hW arg2 buf v14 v16 pay κ l) Q) := by
  induction l with
  | nil => intro X; iintro H Hk; iapply Hk; iexact H
  | cons s l ih =>
    intro X
    iintro H Hk
    iapply (rowP_spec c W hW arg2 buf v14 v16 pay s q T X (rowsP W hW arg2 buf v14 v16 pay κ l) Q) $$ H
    iintro H
    iapply (ih (rowU W T v14 v16 pay s X)) $$ H
    iexact Hk

end Cert.KernelIdeal.Hand
end
-- ==== Proof.KI.Chain.lean ====
module

public import proofs.«01_k».proof.Proof.Gen.KernelIdeal
public import proofs.«01_k».proof.Proof.Gen.KernelIdeal.Skeleton
public import proofs.«01_k».proof.Proof.KI.Rows
public import Idealize.ShloMosaic.Lib.VecWindow
public import Idealize.ShloMosaic.Lib.Pipeline.TableIdle

@[expose] public section

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F] {U : Type} [URA U]
local notation "𝕄" => MT nD τ sig Unit (Elt F) ℕ U ℕ

/-! ## The body in stretches

The body at one grid point, written as a chain of its stretches: the start (at the first point), the two table words, and
the three phases, each guarded by its range of points. Each stretch is stated with the rest of the program as an argument. -/

/-- All sixteen rows, in the kernel's order. -/
abbrev allRows : List (Fin 16) := [0, 1, 2, 3, 4, 5, 6, 7, 8, 9, 10, 11, 12, 13, 14, 15]

/-- The row numbers of a block. -/
abbrev rowIota : IVec S2048x1 32 := iota .tc S2048x1 32 [0] iota_S2048x1_d0_w32

theorem rowsP_bind (W : ℕ) (hW : 0 < (SR W).numel) (arg2 : Memref sig .tc .smem S17 .i32) (buf : Memref sig .tc .vmem (SB W) .f32)
    (v14 v16 : BitVec 32) (pay : BitVec 32 → BitVec 32 → Vec F (SR W) .f32 → Vec F (SR W) .f32) {α β : Type}
    (κ : Prog (TpuEff nD τ sig (Elt F) Λ₀ .tc) α) (k : α → Prog (TpuEff nD τ sig (Elt F) Λ₀ .tc) β) (l : List (Fin 16)) :
    (rowsP W hW arg2 buf v14 v16 pay κ l >>= k) = rowsP W hW arg2 buf v14 v16 pay (κ >>= k) l := by
  induction l with
  | nil => rfl
  | cons s l ih =>
    show (rowP W hW arg2 buf v14 v16 pay s (rowsP W hW arg2 buf v14 v16 pay κ l) >>= k) = rowP W hW arg2 buf v14 v16 pay s (rowsP W hW arg2 buf v14 v16 pay (κ >>= k) l)
    rw [← ih]
    unfold rowP
    split <;> rfl

/-- The update of one row under a condition, in the block that meets one segment only, and then the rest. -/
def oneP (W : ℕ) (hW : 0 < (SR W).numel) (buf : Memref sig .tc .vmem (SB W) .f32) (C : Prop) [Decidable C] (off : Fin 2 → ℕ)
    (hoff : C → ∀ a, off a + (SR W).size a ≤ (SB W).size a) (pay : Vec F (SR W) .f32 → Vec F (SR W) .f32) {β : Type}
    (κ : Prog (TpuEff nD τ sig (Elt F) Λ₀ .tc) β) : Prog (TpuEff nD τ sig (Elt F) Λ₀ .tc) β :=
  if h : C then do
    let v133 : Vec F (SR W) .f32 ← Prog.lift (.load buf (Rect.unit (s := SB W) off (SR W).size (hoff h)).toLoadRect (View.loadsAt_vmem hW))
    let v135 : Vec F (SR W) .f32 ← Prog.lift (.load buf (Rect.unit (s := SB W) off (SR W).size (hoff h)).toLoadRect (View.loadsAt_vmem hW))
    Prog.lift (.store buf (Rect.unit (s := SB W) off (SR W).size (hoff h)) (pay v133) Finset.univ (View.stores_vmem_bits_univ hW rfl) (.inl rfl))
    κ
  else κ

/-- What that update leaves. -/
def oneU (W : ℕ) (C : Prop) [Decidable C] (off : Fin 2 → ℕ) (pay : Vec F (SR W) .f32 → Vec F (SR W) .f32) (X : Vec F (SB W) .f32) : Vec F (SB W) .f32 :=
  if h : C ∧ ∀ a, off a + (SR W).size a ≤ (SB W).size a then VecWindow.put X off (SR W).size (pay (VecWindow.window X off (SR W).size h.2)) else X

theorem oneP_spec (c : Dev nD) (W : ℕ) (hW : 0 < (SR W).numel) (buf : Memref sig .tc .vmem (SB W) .f32) (C : Prop) [Decidable C] (off : Fin 2 → ℕ)
    (hoff : C → ∀ a, off a + (SR W).size a ≤ (SB W).size a) (pay : Vec F (SR W) .f32 → Vec F (SR W) .f32) (X : Vec F (SB W) .f32)
    {β : Type} (κ : Prog (TpuEff nD τ sig (Elt F) Λ₀ .tc) β) (Q : β → sProp 𝕄) :
    (owns (c : Thread nD τ) buf fullShare X : sProp 𝕄) ⊢
     iprop((owns (c : Thread nD τ) buf fullShare (oneU W C off pay X)
        -∗ wp frame (wpE (defs₀ (F := F)) Variants.none c none) Set.univ κ Q)
      -∗ wp frame (wpE (defs₀ (F := F)) Variants.none c none) Set.univ (oneP W hW buf C off hoff pay κ) Q) := by
  rw [owns_eq_rep c.tc buf fullShare X]
  unfold oneP oneU
  by_cases hC : C
  · rw [dif_pos ⟨hC, hoff hC⟩]
    iintro HX Hk
    sl_exec
    iapply Hk
    unfold owns
    iexists _
    isplitr; swap
    · iexact HX
    · ipureintro
      rw [View.read_writes_rep_unit _ _ _ _ rfl, View.readAt_rep_unit _ _ _ rfl (hoff hC)]
  · rw [dif_neg (fun h => hC h.1)]
    iintro HX Hk
    sl_exec
    iapply Hk
    rw [owns_eq_rep]
    iexact HX

/-- Printed part 1 is a list of row updates. -/
theorem part1_rows (i : grid0.Coords) (arg1 : Memref sig .tc .smem S16x2 .i32) (harg1 : arg1.IsWhole) (arg2 : Memref sig .tc .smem S17 .i32) (harg2 : arg2.IsWhole) (arg3 : Memref sig .tc .vmem S2048x128 .f32) (harg3 : arg3.IsWhole) (arg4 : Memref sig .tc .vmem S1x16 .i32) (harg4 : arg4.IsWhole) (arg5 : Memref sig .tc .vmem S1x16 .i32) (harg5 : arg5.IsWhole) (arg6 : Memref sig .tc .vmem S256x128 .f32) (harg6 : arg6.IsWhole) (arg7 : Memref sig .tc .vmem S256x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x1 .f32) (harg17 : arg17.IsWhole) (arg18 : Memref sig .tc .vmem S128x256 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S64x128 .f32) (harg23 : arg23.IsWhole) (arg24 : Memref sig .tc .vmem S1x64 .f32) (harg24 : arg24.IsWhole) (arg25 : Memref sig .tc .vmem S16x64 .f32) (harg25 : arg25.IsWhole) (arg26 : Memref sig .tc .vmem S16x128 .f32) (harg26 : arg26.IsWhole) (arg27 : Memref sig .tc .vmem S32768x256 .f32) (harg27 : arg27.IsWhole) (arg28 : Memref sig .tc .vmem S16x256 .f32) (harg28 : arg28.IsWhole) (arg29 : Memref sig .tc .vmem S16x256 .f32) (harg29 : arg29.IsWhole) (arg30 : Memref sig .tc .vmem S16x256 .f32) (harg30 : arg30.IsWhole) (v14 v16 v18 : BitVec 32) (v30 : Vec F S2048x128 .f32) (v31 : IVec S2048x1 32) :
    k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v14 v16 v18 v30 v31
      = rowsP 128 h_S1x128 arg2 arg26 v14 v16 (k0_pay16 v18 v30 v31) (pure (Scalar.extui (Scalar.andi (Scalar.cmpi .sle v14 6#32) (Scalar.cmpi .sge v16 6#32)))) [0, 1, 2, 3, 4, 5] := by
  rw [k0_part1_eq_skeleton]; rfl

/-- Printed part 2 is a list of row updates. -/
theorem part2_rows (i : grid0.Coords) (arg1 : Memref sig .tc .smem S16x2 .i32) (harg1 : arg1.IsWhole) (arg2 : Memref sig .tc .smem S17 .i32) (harg2 : arg2.IsWhole) (arg3 : Memref sig .tc .vmem S2048x128 .f32) (harg3 : arg3.IsWhole) (arg4 : Memref sig .tc .vmem S1x16 .i32) (harg4 : arg4.IsWhole) (arg5 : Memref sig .tc .vmem S1x16 .i32) (harg5 : arg5.IsWhole) (arg6 : Memref sig .tc .vmem S256x128 .f32) (harg6 : arg6.IsWhole) (arg7 : Memref sig .tc .vmem S256x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x1 .f32) (harg17 : arg17.IsWhole) (arg18 : Memref sig .tc .vmem S128x256 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S64x128 .f32) (harg23 : arg23.IsWhole) (arg24 : Memref sig .tc .vmem S1x64 .f32) (harg24 : arg24.IsWhole) (arg25 : Memref sig .tc .vmem S16x64 .f32) (harg25 : arg25.IsWhole) (arg26 : Memref sig .tc .vmem S16x128 .f32) (harg26 : arg26.IsWhole) (arg27 : Memref sig .tc .vmem S32768x256 .f32) (harg27 : arg27.IsWhole) (arg28 : Memref sig .tc .vmem S16x256 .f32) (harg28 : arg28.IsWhole) (arg29 : Memref sig .tc .vmem S16x256 .f32) (harg29 : arg29.IsWhole) (arg30 : Memref sig .tc .vmem S16x256 .f32) (harg30 : arg30.IsWhole) (v14 v16 v18 : BitVec 32) (v30 : Vec F S2048x128 .f32) (v31 : IVec S2048x1 32) :
    k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v14 v16 v18 v30 v31 (Scalar.extui (Scalar.andi (Scalar.cmpi .sle v14 6#32) (Scalar.cmpi .sge v16 6#32)))
      = rowsP 128 h_S1x128 arg2 arg26 v14 v16 (k0_pay16 v18 v30 v31) (pure ⟨Scalar.cmpi .sle v14 13#32, 13#32⟩) [6, 7, 8, 9, 10, 11, 12] := by
  rw [k0_part2_eq_skeleton]; rfl

/-- Printed part 3 is a list of row updates. -/
theorem part3_rows (i : grid0.Coords) (arg1 : Memref sig .tc .smem S16x2 .i32) (harg1 : arg1.IsWhole) (arg2 : Memref sig .tc .smem S17 .i32) (harg2 : arg2.IsWhole) (arg3 : Memref sig .tc .vmem S2048x128 .f32) (harg3 : arg3.IsWhole) (arg4 : Memref sig .tc .vmem S1x16 .i32) (harg4 : arg4.IsWhole) (arg5 : Memref sig .tc .vmem S1x16 .i32) (harg5 : arg5.IsWhole) (arg6 : Memref sig .tc .vmem S256x128 .f32) (harg6 : arg6.IsWhole) (arg7 : Memref sig .tc .vmem S256x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x1 .f32) (harg17 : arg17.IsWhole) (arg18 : Memref sig .tc .vmem S128x256 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S64x128 .f32) (harg23 : arg23.IsWhole) (arg24 : Memref sig .tc .vmem S1x64 .f32) (harg24 : arg24.IsWhole) (arg25 : Memref sig .tc .vmem S16x64 .f32) (harg25 : arg25.IsWhole) (arg26 : Memref sig .tc .vmem S16x128 .f32) (harg26 : arg26.IsWhole) (arg27 : Memref sig .tc .vmem S32768x256 .f32) (harg27 : arg27.IsWhole) (arg28 : Memref sig .tc .vmem S16x256 .f32) (harg28 : arg28.IsWhole) (arg29 : Memref sig .tc .vmem S16x256 .f32) (harg29 : arg29.IsWhole) (arg30 : Memref sig .tc .vmem S16x256 .f32) (harg30 : arg30.IsWhole) (v14 v16 v18 : BitVec 32) (v90 : FVec F S2048x256 .f32) (v95 : IVec S2048x1 32) :
    k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v14 v16 v18 v90 v95
      = rowsP 256 h_S1x256 arg2 arg28 v14 v16 (k0_pay29 v18 v90 v95) (pure (Scalar.extui (Scalar.andi (Scalar.cmpi .sle v14 6#32) (Scalar.cmpi .sge v16 6#32)))) [0, 1, 2, 3, 4, 5] := by
  rw [k0_part3_eq_skeleton]; rfl

/-- Printed part 4 is a list of row updates. -/
theorem part4_rows (i : grid0.Coords) (arg1 : Memref sig .tc .smem S16x2 .i32) (harg1 : arg1.IsWhole) (arg2 : Memref sig .tc .smem S17 .i32) (harg2 : arg2.IsWhole) (arg3 : Memref sig .tc .vmem S2048x128 .f32) (harg3 : arg3.IsWhole) (arg4 : Memref sig .tc .vmem S1x16 .i32) (harg4 : arg4.IsWhole) (arg5 : Memref sig .tc .vmem S1x16 .i32) (harg5 : arg5.IsWhole) (arg6 : Memref sig .tc .vmem S256x128 .f32) (harg6 : arg6.IsWhole) (arg7 : Memref sig .tc .vmem S256x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x1 .f32) (harg17 : arg17.IsWhole) (arg18 : Memref sig .tc .vmem S128x256 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S64x128 .f32) (harg23 : arg23.IsWhole) (arg24 : Memref sig .tc .vmem S1x64 .f32) (harg24 : arg24.IsWhole) (arg25 : Memref sig .tc .vmem S16x64 .f32) (harg25 : arg25.IsWhole) (arg26 : Memref sig .tc .vmem S16x128 .f32) (harg26 : arg26.IsWhole) (arg27 : Memref sig .tc .vmem S32768x256 .f32) (harg27 : arg27.IsWhole) (arg28 : Memref sig .tc .vmem S16x256 .f32) (harg28 : arg28.IsWhole) (arg29 : Memref sig .tc .vmem S16x256 .f32) (harg29 : arg29.IsWhole) (arg30 : Memref sig .tc .vmem S16x256 .f32) (harg30 : arg30.IsWhole) (v14 v16 v18 : BitVec 32) (v90 : FVec F S2048x256 .f32) (v95 : IVec S2048x1 32) :
    k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v14 v16 v18 v90 v95 (Scalar.extui (Scalar.andi (Scalar.cmpi .sle v14 6#32) (Scalar.cmpi .sge v16 6#32)))
      = rowsP 256 h_S1x256 arg2 arg28 v14 v16 (k0_pay29 v18 v90 v95) (pure ⟨Scalar.cmpi .sle v14 13#32, 13#32⟩) [6, 7, 8, 9, 10, 11, 12] := by
  rw [k0_part4_eq_skeleton]; rfl

end Cert.KernelIdeal.Hand
end
-- ==== Proof.KI.Stretch.lean ====
module

public import proofs.«01_k».proof.Proof.Gen.KernelIdeal
public import proofs.«01_k».proof.Proof.Gen.KernelIdeal.Skeleton
public import proofs.«01_k».proof.Proof.KI.Chain
public import Idealize.ShloMosaic.Lib.VecWindow
public import Idealize.ShloMosaic.Lib.Pipeline.TableIdle

@[expose] public section

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F] {U : Type} [URA U]
local notation "𝕄" => MT nD τ sig Unit (Elt F) ℕ U ℕ

/-! ## The values of one grid point -/

/-- The blocks of the input windows at one grid point. -/
structure Wins (F : FTy → Type) where
  w3 : Vec F S2048x128 .f32
  w4 : Vec F S1x16 .i32
  w5 : Vec F S1x16 .i32
  w6 : Vec F S256x128 .f32
  w7 : Vec F S256x128 .f32
  w8 : Vec F S1x256 .f32
  w9 : Vec F S1x256 .f32
  w10 : Vec F S1x256 .f32
  w11 : Vec F S1x1 .f32
  w12 : Vec F S256x256 .f32
  w13 : Vec F S256x256 .f32
  w14 : Vec F S1x256 .f32
  w15 : Vec F S1x256 .f32
  w16 : Vec F S1x256 .f32
  w17 : Vec F S1x1 .f32
  w18 : Vec F S128x256 .f32
  w19 : Vec F S1x128 .f32
  w20 : Vec F S1x128 .f32
  w21 : Vec F S1x128 .f32
  w22 : Vec F S1x1 .f32
  w23 : Vec F S64x128 .f32
  w24 : Vec F S1x64 .f32

/-- The five scratch buffers between grid points. -/
structure St (F : FTy → Type) where
  smax0 : Vec F S16x128 .f32
  x1 : Vec F S32768x256 .f32
  smax1 : Vec F S16x256 .f32
  ssum : Vec F S16x256 .f32
  scnt : Vec F S16x256 .f32

/-- The first point. -/
abbrev isFirst (i : grid0.Coords) : Prop :=
  Scalar.cmpi .ne (Scalar.extui (Scalar.cmpi .eq (BitVec.ofNat 32 (i 0).val) 0#32) : BitVec 32) 0#32 = 1#1

/-- Two words differ, as the kernel tests it. -/
abbrev differ (v14 v16 : BitVec 32) : Prop := Scalar.cmpi .ne (Scalar.extui (Scalar.cmpi .ne v14 v16) : BitVec 32) 0#32 = 1#1

/-- The block's least and greatest segment, read off the table. -/
def lowAt (i : grid0.Coords) (B : Vec F S16x2 .i32) : BitVec 32 :=
  (VecWindow.window B (k0_off1 i) S1x1.size (k0_off1_inb i) : S1x1.Idx → Elt F .i32) (Shape.Idx.first (numel1_S1x1.symm ▸ Nat.one_pos))
def highAt (i : grid0.Coords) (B : Vec F S16x2 .i32) : BitVec 32 :=
  (VecWindow.window B (k0_off2 i) S1x1.size (k0_off2_inb i) : S1x1.Idx → Elt F .i32) (Shape.Idx.first (numel1_S1x1.symm ▸ Nat.one_pos))

/-- The scratch after the start. -/
def stInit (i : grid0.Coords) (S : St F) : St F :=
  if isFirst i then { S with smax0 := k0_pay1, smax1 := k0_pay2, ssum := k0_pay3, scnt := k0_pay4 } else S

/-- Phase one: the running maximum of the positions, per segment. -/
def maxA (i : grid0.Coords) (T : Vec F S17 .i32) (v14 v16 : BitVec 32) (v30 : Vec F S2048x128 .f32) (X : Vec F S16x128 .f32) : Vec F S16x128 .f32 :=
  let X1 := oneU 128 (k0_cond3 v14 v16 = 1#1) (k0_off3 v14) (k0_pay5 v30) X
  if differ v14 v16 then rowsU 128 T v14 v16 (k0_pay16 (k0_mult1 i) v30 rowIota) X1 allRows else X1

/-- Phase two's layer on one block: the values before the gate, as the six pieces the kernel hands on. -/
def lin1 (i : grid0.Coords) (W : Wins F) (X : Vec F S16x128 .f32) : FVec F S2048x256 .f32 := k0_pay42 (k0_mult1 i) X W.w6 W.w4 W.w5 W.w3 W.w7 W.w8
def mom1 (i : grid0.Coords) (W : Wins F) (X : Vec F S16x128 .f32) : FVec F S2048x1 .f32 := k0_pay46 (k0_mult1 i) X W.w6 W.w4 W.w5 W.w3 W.w7 W.w8
/-- Phase two's layer on one block. -/
def act1 (i : grid0.Coords) (W : Wins F) (X : Vec F S16x128 .f32) : FVec F S2048x256 .f32 :=
  k0_pay10 (lin1 i W X) (k0_pay43 W.w9) (k0_pay44 W.w10) (k0_pay45 W.w11) (mom1 i W X) k0_pay47
def act1' (i : grid0.Coords) (W : Wins F) (X : Vec F S16x128 .f32) : FVec F S2048x256 .f32 :=
  k0_pay9 (lin1 i W X) (k0_pay43 W.w9) (k0_pay44 W.w10) (k0_pay45 W.w11) (mom1 i W X) k0_pay47

/-- Phase two's running maximum of the layer's values, per segment. -/
def maxB (i : grid0.Coords) (T : Vec F S17 .i32) (v14 v16 : BitVec 32) (W : Wins F) (X : Vec F S16x128 .f32) (Y : Vec F S16x256 .f32) : Vec F S16x256 .f32 :=
  let Y1 := oneU 256 (k0_cond22 v14 v16 = 1#1) (k0_off5 v14)
    (k0_pay11 (lin1 i W X) (k0_pay43 W.w9) (k0_pay44 W.w10) (k0_pay45 W.w11) (mom1 i W X) k0_pay47) Y
  if differ v14 v16 then rowsU 256 T v14 v16 (k0_pay29 (k0_mult1 i) (act1' i W X) rowIota) Y1 allRows else Y1

/-- Phase three's one-hot matrix of the block's segments. -/
def hot (i : grid0.Coords) (W : Wins F) : FVec F S2048x16 .f32 := k0_pay52 (k0_mult1 i) W.w4 W.w5

/-- The block of the stored layer values that the point reads. -/
def blkC (i : grid0.Coords) (h : k0_cond40 i = 1#1) (X : Vec F S32768x256 .f32) : Vec F S2048x256 .f32 :=
  VecWindow.window X (k0_off6 i) S2048x256.size (k0_off6_inb i h)

/-- Phase three's addition to the segment sums. -/
def sumC (i : grid0.Coords) (W : Wins F) (Y : Vec F S16x256 .f32) (Z : Vec F S2048x256 .f32) (A : Vec F S16x256 .f32) : Vec F S16x256 .f32 :=
  k0_pay59 (hot i W) (k0_pay53 (k0_mult1 i) W.w4 W.w5 Y W.w12 Z W.w13 W.w14) (k0_pay54 W.w15) (k0_pay55 W.w16) (k0_pay56 W.w17)
    (k0_pay57 (k0_mult1 i) W.w4 W.w5 Y W.w12 Z W.w13 W.w14) k0_pay58 A

/-- The head on the finished sums and counts. -/
def headC (W : Wins F) (A N : Vec F S16x256 .f32) : Vec F S16x64 .f32 :=
  k0_pay15 (k0_pay48 W.w21) (k0_pay49 W.w22) (k0_pay50 A N W.w18 W.w19) (k0_pay51 W.w20) W.w23 W.w24

/-- The scratch after each phase. -/
def stA (i : grid0.Coords) (T : Vec F S17 .i32) (v14 v16 : BitVec 32) (W : Wins F) (S : St F) : St F :=
  if k0_cond2 i = 1#1 then { S with smax0 := maxA i T v14 v16 W.w3 S.smax0 } else S
def stB (i : grid0.Coords) (T : Vec F S17 .i32) (v14 v16 : BitVec 32) (W : Wins F) (S : St F) : St F :=
  if k0_cond21 i = 1#1 then { S with
    x1 := VecWindow.put S.x1 (k0_off4 i) S2048x256.size (act1 i W S.smax0)
    smax1 := maxB i T v14 v16 W S.smax0 S.smax1 } else S
def stC (i : grid0.Coords) (W : Wins F) (S : St F) : St F :=
  if h : k0_cond40 i = 1#1 then { S with
    ssum := sumC i W S.smax1 (blkC i h S.x1) S.ssum
    scnt := k0_pay60 (hot i W) S.scnt } else S
/-- The result's block after phase three. -/
def outC (i : grid0.Coords) (W : Wins F) (S : St F) (O : Vec F S16x64 .f32) : Vec F S16x64 .f32 :=
  if k0_cond40 i = 1#1 ∧ k0_cond41 i = 1#1 then headC W S.ssum S.scnt else O

/-- The scratch after the whole point. -/
def step (i : grid0.Coords) (B : Vec F S16x2 .i32) (T : Vec F S17 .i32) (W : Wins F) (S : St F) : St F :=
  stC i W (stB i T (lowAt i B) (highAt i B) W (stA i T (lowAt i B) (highAt i B) W (stInit i S)))

/-! ## The stretches -/

def initP (i : grid0.Coords) (arg26 : Memref sig .tc .vmem S16x128 .f32) (arg28 : Memref sig .tc .vmem S16x256 .f32) (arg29 : Memref sig .tc .vmem S16x256 .f32) (arg30 : Memref sig .tc .vmem S16x256 .f32) {β : Type} (κ : Prog (TpuEff nD τ sig (Elt F) Λ₀ .tc) β) : Prog (TpuEff nD τ sig (Elt F) Λ₀ .tc) β :=
  if isFirst i then do
    let v31 : Vec F S16x128 .f32 ← Prog.lift (.load arg26 (Rect.unit (s := S16x128) ![0, 0] S16x128.size inb_S16x128_S16x128_0_0).toLoadRect (View.loadsAt_vmem h_S16x128))
    Prog.lift (.store arg26 (Rect.unit (s := S16x128) ![0, 0] S16x128.size inb_S16x128_S16x128_0_0) (k0_pay1 (F := F)) Finset.univ (View.stores_vmem_bits_univ h_S16x128 rfl) (.inl rfl))
    let v35 : Vec F S16x256 .f32 ← Prog.lift (.load arg28 (Rect.unit (s := S16x256) ![0, 0] S16x256.size inb_S16x256_S16x256_0_0).toLoadRect (View.loadsAt_vmem h_S16x256))
    Prog.lift (.store arg28 (Rect.unit (s := S16x256) ![0, 0] S16x256.size inb_S16x256_S16x256_0_0) (k0_pay2 (F := F)) Finset.univ (View.stores_vmem_bits_univ h_S16x256 rfl) (.inl rfl))
    let v39 : Vec F S16x256 .f32 ← Prog.lift (.load arg29 (Rect.unit (s := S16x256) ![0, 0] S16x256.size inb_S16x256_S16x256_0_0).toLoadRect (View.loadsAt_vmem h_S16x256))
    Prog.lift (.store arg29 (Rect.unit (s := S16x256) ![0, 0] S16x256.size inb_S16x256_S16x256_0_0) (k0_pay3 (F := F)) Finset.univ (View.stores_vmem_bits_univ h_S16x256 rfl) (.inl rfl))
    let v43 : Vec F S16x256 .f32 ← Prog.lift (.load arg30 (Rect.unit (s := S16x256) ![0, 0] S16x256.size inb_S16x256_S16x256_0_0).toLoadRect (View.loadsAt_vmem h_S16x256))
    Prog.lift (.store arg30 (Rect.unit (s := S16x256) ![0, 0] S16x256.size inb_S16x256_S16x256_0_0) (k0_pay4 (F := F)) Finset.univ (View.stores_vmem_bits_univ h_S16x256 rfl) (.inl rfl))
    κ
  else κ

def loadAP (arg3 : Memref sig .tc .vmem S2048x128 .f32) {β : Type}
    (κ : Vec F S2048x128 .f32 → Prog (TpuEff nD τ sig (Elt F) Λ₀ .tc) β) : Prog (TpuEff nD τ sig (Elt F) Λ₀ .tc) β := do
    let v30 : Vec F S2048x128 .f32 ← Prog.lift (.load arg3 (Rect.unit (s := S2048x128) ![0, 0] S2048x128.size inb_S2048x128_S2048x128_0_0).toLoadRect (View.loadsAt_vmem h_S2048x128))
    κ v30

def phaseAP (i : grid0.Coords) (arg2 : Memref sig .tc .smem S17 .i32) (arg3 : Memref sig .tc .vmem S2048x128 .f32) (arg26 : Memref sig .tc .vmem S16x128 .f32) (v14 v16 : BitVec 32) (hw : k0_chk1 i v14 v16) {β : Type} (κ : Prog (TpuEff nD τ sig (Elt F) Λ₀ .tc) β) : Prog (TpuEff nD τ sig (Elt F) Λ₀ .tc) β :=
  if h2 : k0_cond2 i = 1#1 then loadAP arg3 fun v30 =>
    oneP 128 h_S1x128 arg26 (k0_cond3 v14 v16 = 1#1) (k0_off3 v14) (fun h3 => hw.1 h2 h3) (k0_pay5 v30)
      (if differ v14 v16 then rowsP 128 h_S1x128 arg2 arg26 v14 v16 (k0_pay16 (k0_mult1 i) v30 rowIota) κ allRows else κ)
  else κ

def loadBP (i : grid0.Coords) (h21 : k0_cond21 i = 1#1) (arg3 : Memref sig .tc .vmem S2048x128 .f32) (arg4 : Memref sig .tc .vmem S1x16 .i32) (arg5 : Memref sig .tc .vmem S1x16 .i32) (arg6 : Memref sig .tc .vmem S256x128 .f32) (arg7 : Memref sig .tc .vmem S256x128 .f32) (arg8 : Memref sig .tc .vmem S1x256 .f32) (arg9 : Memref sig .tc .vmem S1x256 .f32) (arg10 : Memref sig .tc .vmem S1x256 .f32) (arg11 : Memref sig .tc .vmem S1x1 .f32) (arg26 : Memref sig .tc .vmem S16x128 .f32) (arg27 : Memref sig .tc .vmem S32768x256 .f32) {β : Type}
    (κ : Vec F S16x128 .f32 → Vec F S256x128 .f32 → Vec F S1x16 .i32 → Vec F S1x16 .i32 → Vec F S2048x128 .f32 → Vec F S256x128 .f32 → Vec F S1x256 .f32 → Vec F S1x256 .f32 → Vec F S1x256 .f32 → Vec F S1x1 .f32 → Prog (TpuEff nD τ sig (Elt F) Λ₀ .tc) β) : Prog (TpuEff nD τ sig (Elt F) Λ₀ .tc) β := do
    let v30 : Vec F S16x128 .f32 ← Prog.lift (.load arg26 (Rect.unit (s := S16x128) ![0, 0] S16x128.size inb_S16x128_S16x128_0_0).toLoadRect (View.loadsAt_vmem h_S16x128))
    let v31 : Vec F S256x128 .f32 ← Prog.lift (.load arg6 (Rect.unit (s := S256x128) ![0, 0] S256x128.size inb_S256x128_S256x128_0_0).toLoadRect (View.loadsAt_vmem h_S256x128))
    let v33 : Vec F S1x16 .i32 ← Prog.lift (.load arg4 (Rect.unit (s := S1x16) ![0, 0] S1x16.size inb_S1x16_S1x16_0_0).toLoadRect (View.loadsAt_vmem h_S1x16))
    let v35 : Vec F S1x16 .i32 ← Prog.lift (.load arg5 (Rect.unit (s := S1x16) ![0, 0] S1x16.size inb_S1x16_S1x16_0_0).toLoadRect (View.loadsAt_vmem h_S1x16))
    let v48 : Vec F S2048x128 .f32 ← Prog.lift (.load arg3 (Rect.unit (s := S2048x128) ![0, 0] S2048x128.size inb_S2048x128_S2048x128_0_0).toLoadRect (View.loadsAt_vmem h_S2048x128))
    let v49 : Vec F S256x128 .f32 ← Prog.lift (.load arg7 (Rect.unit (s := S256x128) ![0, 0] S256x128.size inb_S256x128_S256x128_0_0).toLoadRect (View.loadsAt_vmem h_S256x128))
    let v51 : Vec F S1x256 .f32 ← Prog.lift (.load arg8 (Rect.unit (s := S1x256) ![0, 0] S1x256.size inb_S1x256_S1x256_0_0).toLoadRect (View.loadsAt_vmem h_S1x256))
    let v56 : Vec F S1x256 .f32 ← Prog.lift (.load arg9 (Rect.unit (s := S1x256) ![0, 0] S1x256.size inb_S1x256_S1x256_0_0).toLoadRect (View.loadsAt_vmem h_S1x256))
    let v58 : Vec F S1x256 .f32 ← Prog.lift (.load arg10 (Rect.unit (s := S1x256) ![0, 0] S1x256.size inb_S1x256_S1x256_0_0).toLoadRect (View.loadsAt_vmem h_S1x256))
    let v60 : Vec F S1x1 .f32 ← Prog.lift (.load arg11 (Rect.unit (s := S1x1) ![0, 0] S1x1.size inb_S1x1_S1x1_0_0).toLoadRect (View.loadsAt_vmem h_S1x1))
    let v92 : Vec F S2048x256 .f32 ← Prog.lift (.load arg27 (Rect.unit (s := S32768x256) (k0_off4 i) S2048x256.size (k0_off4_inb i h21)).toLoadRect (View.loadsAt_vmem h_S2048x256))
    Prog.lift (.store arg27 (Rect.unit (s := S32768x256) (k0_off4 i) S2048x256.size (k0_off4_inb i h21)) (k0_pay10 (k0_pay42 (k0_mult1 i) v30 v31 v33 v35 v48 v49 v51) (k0_pay43 v56) (k0_pay44 v58) (k0_pay45 v60) (k0_pay46 (k0_mult1 i) v30 v31 v33 v35 v48 v49 v51) k0_pay47) Finset.univ (View.stores_vmem_bits_univ h_S2048x256 rfl) (.inl rfl))
    κ v30 v31 v33 v35 v48 v49 v51 v56 v58 v60

def phaseBP (i : grid0.Coords) (arg2 : Memref sig .tc .smem S17 .i32) (arg3 : Memref sig .tc .vmem S2048x128 .f32) (arg4 : Memref sig .tc .vmem S1x16 .i32) (arg5 : Memref sig .tc .vmem S1x16 .i32) (arg6 : Memref sig .tc .vmem S256x128 .f32) (arg7 : Memref sig .tc .vmem S256x128 .f32) (arg8 : Memref sig .tc .vmem S1x256 .f32) (arg9 : Memref sig .tc .vmem S1x256 .f32) (arg10 : Memref sig .tc .vmem S1x256 .f32) (arg11 : Memref sig .tc .vmem S1x1 .f32) (arg26 : Memref sig .tc .vmem S16x128 .f32) (arg27 : Memref sig .tc .vmem S32768x256 .f32) (arg28 : Memref sig .tc .vmem S16x256 .f32) (v14 v16 : BitVec 32) (hw : k0_chk1 i v14 v16) {β : Type} (κ : Prog (TpuEff nD τ sig (Elt F) Λ₀ .tc) β) : Prog (TpuEff nD τ sig (Elt F) Λ₀ .tc) β :=
  if h21 : k0_cond21 i = 1#1 then loadBP i h21 arg3 arg4 arg5 arg6 arg7 arg8 arg9 arg10 arg11 arg26 arg27 fun v30 v31 v33 v35 v48 v49 v51 v56 v58 v60 =>
    oneP 256 h_S1x256 arg28 (k0_cond22 v14 v16 = 1#1) (k0_off5 v14) (fun h3 => hw.2 h21 h3) (k0_pay11 (k0_pay42 (k0_mult1 i) v30 v31 v33 v35 v48 v49 v51) (k0_pay43 v56) (k0_pay44 v58) (k0_pay45 v60) (k0_pay46 (k0_mult1 i) v30 v31 v33 v35 v48 v49 v51) k0_pay47)
      (if differ v14 v16 then rowsP 256 h_S1x256 arg2 arg28 v14 v16 (k0_pay29 (k0_mult1 i) (k0_pay9 (k0_pay42 (k0_mult1 i) v30 v31 v33 v35 v48 v49 v51) (k0_pay43 v56) (k0_pay44 v58) (k0_pay45 v60) (k0_pay46 (k0_mult1 i) v30 v31 v33 v35 v48 v49 v51) k0_pay47) rowIota) κ allRows else κ)
  else κ

def sumP (i : grid0.Coords) (h40 : k0_cond40 i = 1#1) (arg4 : Memref sig .tc .vmem S1x16 .i32) (arg5 : Memref sig .tc .vmem S1x16 .i32) (arg12 : Memref sig .tc .vmem S256x256 .f32) (arg13 : Memref sig .tc .vmem S256x256 .f32) (arg14 : Memref sig .tc .vmem S1x256 .f32) (arg15 : Memref sig .tc .vmem S1x256 .f32) (arg16 : Memref sig .tc .vmem S1x256 .f32) (arg17 : Memref sig .tc .vmem S1x1 .f32) (arg27 : Memref sig .tc .vmem S32768x256 .f32) (arg28 : Memref sig .tc .vmem S16x256 .f32) (arg29 : Memref sig .tc .vmem S16x256 .f32) (arg30 : Memref sig .tc .vmem S16x256 .f32) {β : Type} (κ : Prog (TpuEff nD τ sig (Elt F) Λ₀ .tc) β) : Prog (TpuEff nD τ sig (Elt F) Λ₀ .tc) β :=
  do
    let v30 : Vec F S1x16 .i32 ← Prog.lift (.load arg4 (Rect.unit (s := S1x16) ![0, 0] S1x16.size inb_S1x16_S1x16_0_0).toLoadRect (View.loadsAt_vmem h_S1x16))
    let v32 : Vec F S1x16 .i32 ← Prog.lift (.load arg5 (Rect.unit (s := S1x16) ![0, 0] S1x16.size inb_S1x16_S1x16_0_0).toLoadRect (View.loadsAt_vmem h_S1x16))
    let v44 : Vec F S16x256 .f32 ← Prog.lift (.load arg28 (Rect.unit (s := S16x256) ![0, 0] S16x256.size inb_S16x256_S16x256_0_0).toLoadRect (View.loadsAt_vmem h_S16x256))
    let v45 : Vec F S256x256 .f32 ← Prog.lift (.load arg12 (Rect.unit (s := S256x256) ![0, 0] S256x256.size inb_S256x256_S256x256_0_0).toLoadRect (View.loadsAt_vmem h_S256x256))
    let v49 : Vec F S2048x256 .f32 ← Prog.lift (.load arg27 (Rect.unit (s := S32768x256) (k0_off6 i) S2048x256.size (k0_off6_inb i h40)).toLoadRect (View.loadsAt_vmem h_S2048x256))
    let v50 : Vec F S256x256 .f32 ← Prog.lift (.load arg13 (Rect.unit (s := S256x256) ![0, 0] S256x256.size inb_S256x256_S256x256_0_0).toLoadRect (View.loadsAt_vmem h_S256x256))
    let v52 : Vec F S1x256 .f32 ← Prog.lift (.load arg14 (Rect.unit (s := S1x256) ![0, 0] S1x256.size inb_S1x256_S1x256_0_0).toLoadRect (View.loadsAt_vmem h_S1x256))
    let v57 : Vec F S1x256 .f32 ← Prog.lift (.load arg15 (Rect.unit (s := S1x256) ![0, 0] S1x256.size inb_S1x256_S1x256_0_0).toLoadRect (View.loadsAt_vmem h_S1x256))
    let v59 : Vec F S1x256 .f32 ← Prog.lift (.load arg16 (Rect.unit (s := S1x256) ![0, 0] S1x256.size inb_S1x256_S1x256_0_0).toLoadRect (View.loadsAt_vmem h_S1x256))
    let v61 : Vec F S1x1 .f32 ← Prog.lift (.load arg17 (Rect.unit (s := S1x1) ![0, 0] S1x1.size inb_S1x1_S1x1_0_0).toLoadRect (View.loadsAt_vmem h_S1x1))
    let v92 : Vec F S16x256 .f32 ← Prog.lift (.load arg29 (Rect.unit (s := S16x256) ![0, 0] S16x256.size inb_S16x256_S16x256_0_0).toLoadRect (View.loadsAt_vmem h_S16x256))
    let v95 : Vec F S16x256 .f32 ← Prog.lift (.load arg29 (Rect.unit (s := S16x256) ![0, 0] S16x256.size inb_S16x256_S16x256_0_0).toLoadRect (View.loadsAt_vmem h_S16x256))
    Prog.lift (.store arg29 (Rect.unit (s := S16x256) ![0, 0] S16x256.size inb_S16x256_S16x256_0_0) (k0_pay59 (k0_pay52 (k0_mult1 i) v30 v32) (k0_pay53 (k0_mult1 i) v30 v32 v44 v45 v49 v50 v52) (k0_pay54 v57) (k0_pay55 v59) (k0_pay56 v61) (k0_pay57 (k0_mult1 i) v30 v32 v44 v45 v49 v50 v52) k0_pay58 v92) Finset.univ (View.stores_vmem_bits_univ h_S16x256 rfl) (.inl rfl))
    let v98 : Vec F S16x256 .f32 ← Prog.lift (.load arg30 (Rect.unit (s := S16x256) ![0, 0] S16x256.size inb_S16x256_S16x256_0_0).toLoadRect (View.loadsAt_vmem h_S16x256))
    let v102 : Vec F S16x256 .f32 ← Prog.lift (.load arg30 (Rect.unit (s := S16x256) ![0, 0] S16x256.size inb_S16x256_S16x256_0_0).toLoadRect (View.loadsAt_vmem h_S16x256))
    Prog.lift (.store arg30 (Rect.unit (s := S16x256) ![0, 0] S16x256.size inb_S16x256_S16x256_0_0) (k0_pay60 (k0_pay52 (k0_mult1 i) v30 v32) v98) Finset.univ (View.stores_vmem_bits_univ h_S16x256 rfl) (.inl rfl))
    κ

def headP (i : grid0.Coords) (arg18 : Memref sig .tc .vmem S128x256 .f32) (arg19 : Memref sig .tc .vmem S1x128 .f32) (arg20 : Memref sig .tc .vmem S1x128 .f32) (arg21 : Memref sig .tc .vmem S1x128 .f32) (arg22 : Memref sig .tc .vmem S1x1 .f32) (arg23 : Memref sig .tc .vmem S64x128 .f32) (arg24 : Memref sig .tc .vmem S1x64 .f32) (arg25 : Memref sig .tc .vmem S16x64 .f32) (arg29 : Memref sig .tc .vmem S16x256 .f32) (arg30 : Memref sig .tc .vmem S16x256 .f32) {β : Type} (κ : Prog (TpuEff nD τ sig (Elt F) Λ₀ .tc) β) : Prog (TpuEff nD τ sig (Elt F) Λ₀ .tc) β :=
  if h41 : k0_cond41 i = 1#1 then do
    let v108 : Vec F S16x256 .f32 ← Prog.lift (.load arg29 (Rect.unit (s := S16x256) ![0, 0] S16x256.size inb_S16x256_S16x256_0_0).toLoadRect (View.loadsAt_vmem h_S16x256))
    let v109 : Vec F S16x256 .f32 ← Prog.lift (.load arg30 (Rect.unit (s := S16x256) ![0, 0] S16x256.size inb_S16x256_S16x256_0_0).toLoadRect (View.loadsAt_vmem h_S16x256))
    let v113 : Vec F S128x256 .f32 ← Prog.lift (.load arg18 (Rect.unit (s := S128x256) ![0, 0] S128x256.size inb_S128x256_S128x256_0_0).toLoadRect (View.loadsAt_vmem h_S128x256))
    let v115 : Vec F S1x128 .f32 ← Prog.lift (.load arg19 (Rect.unit (s := S1x128) ![0, 0] S1x128.size inb_S1x128_S1x128_0_0).toLoadRect (View.loadsAt_vmem h_S1x128))
    let v119 : Vec F S1x128 .f32 ← Prog.lift (.load arg20 (Rect.unit (s := S1x128) ![0, 0] S1x128.size inb_S1x128_S1x128_0_0).toLoadRect (View.loadsAt_vmem h_S1x128))
    let v121 : Vec F S1x128 .f32 ← Prog.lift (.load arg21 (Rect.unit (s := S1x128) ![0, 0] S1x128.size inb_S1x128_S1x128_0_0).toLoadRect (View.loadsAt_vmem h_S1x128))
    let v123 : Vec F S1x1 .f32 ← Prog.lift (.load arg22 (Rect.unit (s := S1x1) ![0, 0] S1x1.size inb_S1x1_S1x1_0_0).toLoadRect (View.loadsAt_vmem h_S1x1))
    let v154 : Vec F S64x128 .f32 ← Prog.lift (.load arg23 (Rect.unit (s := S64x128) ![0, 0] S64x128.size inb_S64x128_S64x128_0_0).toLoadRect (View.loadsAt_vmem h_S64x128))
    let v156 : Vec F S1x64 .f32 ← Prog.lift (.load arg24 (Rect.unit (s := S1x64) ![0, 0] S1x64.size inb_S1x64_S1x64_0_0).toLoadRect (View.loadsAt_vmem h_S1x64))
    let v160 : Vec F S16x64 .f32 ← Prog.lift (.load arg25 (Rect.unit (s := S16x64) ![0, 0] S16x64.size inb_S16x64_S16x64_0_0).toLoadRect (View.loadsAt_vmem h_S16x64))
    Prog.lift (.store arg25 (Rect.unit (s := S16x64) ![0, 0] S16x64.size inb_S16x64_S16x64_0_0) (k0_pay15 (k0_pay48 v121) (k0_pay49 v123) (k0_pay50 v108 v109 v113 v115) (k0_pay51 v119) v154 v156) Finset.univ (View.stores_vmem_bits_univ h_S16x64 rfl) (.inl rfl))
    κ
  else κ

def phaseCP (i : grid0.Coords) (arg4 : Memref sig .tc .vmem S1x16 .i32) (arg5 : Memref sig .tc .vmem S1x16 .i32) (arg12 : Memref sig .tc .vmem S256x256 .f32) (arg13 : Memref sig .tc .vmem S256x256 .f32) (arg14 : Memref sig .tc .vmem S1x256 .f32) (arg15 : Memref sig .tc .vmem S1x256 .f32) (arg16 : Memref sig .tc .vmem S1x256 .f32) (arg17 : Memref sig .tc .vmem S1x1 .f32) (arg18 : Memref sig .tc .vmem S128x256 .f32) (arg19 : Memref sig .tc .vmem S1x128 .f32) (arg20 : Memref sig .tc .vmem S1x128 .f32) (arg21 : Memref sig .tc .vmem S1x128 .f32) (arg22 : Memref sig .tc .vmem S1x1 .f32) (arg23 : Memref sig .tc .vmem S64x128 .f32) (arg24 : Memref sig .tc .vmem S1x64 .f32) (arg25 : Memref sig .tc .vmem S16x64 .f32) (arg27 : Memref sig .tc .vmem S32768x256 .f32) (arg28 : Memref sig .tc .vmem S16x256 .f32) (arg29 : Memref sig .tc .vmem S16x256 .f32) (arg30 : Memref sig .tc .vmem S16x256 .f32) {β : Type} (κ : Prog (TpuEff nD τ sig (Elt F) Λ₀ .tc) β) : Prog (TpuEff nD τ sig (Elt F) Λ₀ .tc) β :=
  if h40 : k0_cond40 i = 1#1 then sumP i h40 arg4 arg5 arg12 arg13 arg14 arg15 arg16 arg17 arg27 arg28 arg29 arg30 (headP i arg18 arg19 arg20 arg21 arg22 arg23 arg24 arg25 arg29 arg30 κ) else κ

/-- The two table words and the check on them. -/
def wordsP (i : grid0.Coords) (arg1 : Memref sig .tc .smem S16x2 .i32) {β : Type}
    (κ : (v14 v16 : BitVec 32) → k0_chk1 i v14 v16 → Prog (TpuEff nD τ sig (Elt F) Λ₀ .tc) β) : Prog (TpuEff nD τ sig (Elt F) Λ₀ .tc) β := do
    let v14 : Elt F .i32 ← smemLoad arg1 (Rect.unit (s := S16x2) (k0_off1 i) S1x1.size (k0_off1_inb i)) numel1_S1x1 rfl
    let v16 : Elt F .i32 ← smemLoad arg1 (Rect.unit (s := S16x2) (k0_off2 i) S1x1.size (k0_off2_inb i)) numel1_S1x1 rfl
    have hw : k0_chk1 i v14 v16 := (← Prog.lift (TpuEff.assume (k0_chk1 i v14 v16) (k0_chk1.dec i v14 v16))).down
    κ v14 v16 hw

def bodyP (i : grid0.Coords) (arg1 : Memref sig .tc .smem S16x2 .i32) (arg2 : Memref sig .tc .smem S17 .i32) (arg3 : Memref sig .tc .vmem S2048x128 .f32) (arg4 : Memref sig .tc .vmem S1x16 .i32) (arg5 : Memref sig .tc .vmem S1x16 .i32) (arg6 : Memref sig .tc .vmem S256x128 .f32) (arg7 : Memref sig .tc .vmem S256x128 .f32) (arg8 : Memref sig .tc .vmem S1x256 .f32) (arg9 : Memref sig .tc .vmem S1x256 .f32) (arg10 : Memref sig .tc .vmem S1x256 .f32) (arg11 : Memref sig .tc .vmem S1x1 .f32) (arg12 : Memref sig .tc .vmem S256x256 .f32) (arg13 : Memref sig .tc .vmem S256x256 .f32) (arg14 : Memref sig .tc .vmem S1x256 .f32) (arg15 : Memref sig .tc .vmem S1x256 .f32) (arg16 : Memref sig .tc .vmem S1x256 .f32) (arg17 : Memref sig .tc .vmem S1x1 .f32) (arg18 : Memref sig .tc .vmem S128x256 .f32) (arg19 : Memref sig .tc .vmem S1x128 .f32) (arg20 : Memref sig .tc .vmem S1x128 .f32) (arg21 : Memref sig .tc .vmem S1x128 .f32) (arg22 : Memref sig .tc .vmem S1x1 .f32) (arg23 : Memref sig .tc .vmem S64x128 .f32) (arg24 : Memref sig .tc .vmem S1x64 .f32) (arg25 : Memref sig .tc .vmem S16x64 .f32) (arg26 : Memref sig .tc .vmem S16x128 .f32) (arg27 : Memref sig .tc .vmem S32768x256 .f32) (arg28 : Memref sig .tc .vmem S16x256 .f32) (arg29 : Memref sig .tc .vmem S16x256 .f32) (arg30 : Memref sig .tc .vmem S16x256 .f32) : Prog (TpuEff nD τ sig (Elt F) Λ₀ .tc) PUnit :=
  initP i arg26 arg28 arg29 arg30 do
    wordsP i arg1 fun v14 v16 hw =>
    phaseAP i arg2 arg3 arg26 v14 v16 hw <| phaseBP i arg2 arg3 arg4 arg5 arg6 arg7 arg8 arg9 arg10 arg11 arg26 arg27 arg28 v14 v16 hw <|
      phaseCP i arg4 arg5 arg12 arg13 arg14 arg15 arg16 arg17 arg18 arg19 arg20 arg21 arg22 arg23 arg24 arg25 arg27 arg28 arg29 arg30 <| pure ⟨⟩

set_option maxRecDepth 65536 in
set_option maxHeartbeats 4000000 in
/-- The printed body is that chain. -/
theorem body_eq (i : grid0.Coords) (arg1 : Memref sig .tc .smem S16x2 .i32) (harg1 : arg1.IsWhole) (arg2 : Memref sig .tc .smem S17 .i32) (harg2 : arg2.IsWhole) (arg3 : Memref sig .tc .vmem S2048x128 .f32) (harg3 : arg3.IsWhole) (arg4 : Memref sig .tc .vmem S1x16 .i32) (harg4 : arg4.IsWhole) (arg5 : Memref sig .tc .vmem S1x16 .i32) (harg5 : arg5.IsWhole) (arg6 : Memref sig .tc .vmem S256x128 .f32) (harg6 : arg6.IsWhole) (arg7 : Memref sig .tc .vmem S256x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x1 .f32) (harg17 : arg17.IsWhole) (arg18 : Memref sig .tc .vmem S128x256 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S64x128 .f32) (harg23 : arg23.IsWhole) (arg24 : Memref sig .tc .vmem S1x64 .f32) (harg24 : arg24.IsWhole) (arg25 : Memref sig .tc .vmem S16x64 .f32) (harg25 : arg25.IsWhole) (arg26 : Memref sig .tc .vmem S16x128 .f32) (harg26 : arg26.IsWhole) (arg27 : Memref sig .tc .vmem S32768x256 .f32) (harg27 : arg27.IsWhole) (arg28 : Memref sig .tc .vmem S16x256 .f32) (harg28 : arg28.IsWhole) (arg29 : Memref sig .tc .vmem S16x256 .f32) (harg29 : arg29.IsWhole) (arg30 : Memref sig .tc .vmem S16x256 .f32) (harg30 : arg30.IsWhole) :
    cc0__deepset_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 = bodyP i arg1 arg2 arg3 arg4 arg5 arg6 arg7 arg8 arg9 arg10 arg11 arg12 arg13 arg14 arg15 arg16 arg17 arg18 arg19 arg20 arg21 arg22 arg23 arg24 arg25 arg26 arg27 arg28 arg29 arg30 := by
  rw [cc0__deepset_kernel_eq_skeleton]
  unfold cc0__deepset_kernel_skel
  simp only [part1_rows, part2_rows, part3_rows, part4_rows, rowsP_bind, pure_bind,
    k0_part5_eq_skeleton, k0_part6_eq_skeleton, k0_part7_eq_skeleton, k0_part8_eq_skeleton]
  rfl

end Cert.KernelIdeal.Hand
end
-- ==== Proof.KI.SpecA.lean ====
module

public import proofs.«01_k».proof.Proof.Gen.KernelIdeal
public import proofs.«01_k».proof.Proof.Gen.KernelIdeal.Skeleton
public import proofs.«01_k».proof.Proof.KI.Stretch
public import Idealize.ShloMosaic.Lib.VecWindow
public import Idealize.ShloMosaic.Lib.Pipeline.TableIdle

@[expose] public section

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F] {U : Type} [URA U]
local notation "𝕄" => MT nD τ sig Unit (Elt F) ℕ U ℕ

/-! ## What each stretch does -/

theorem initP_spec (c : Dev nD) (i : grid0.Coords) (arg26 : Memref sig .tc .vmem S16x128 .f32) (arg28 : Memref sig .tc .vmem S16x256 .f32) (arg29 : Memref sig .tc .vmem S16x256 .f32) (arg30 : Memref sig .tc .vmem S16x256 .f32) (S : St F) {β : Type} (κ : Prog (TpuEff nD τ sig (Elt F) Λ₀ .tc) β) (Q : β → sProp 𝕄) :
    (iprop(owns (c : Thread nD τ) arg26 fullShare (S).smax0 ∗ owns (c : Thread nD τ) arg28 fullShare (S).smax1 ∗ owns (c : Thread nD τ) arg29 fullShare (S).ssum ∗ owns (c : Thread nD τ) arg30 fullShare (S).scnt) : sProp 𝕄) ⊢
     iprop(((owns (c : Thread nD τ) arg26 fullShare (stInit i S).smax0 ∗ owns (c : Thread nD τ) arg28 fullShare (stInit i S).smax1 ∗ owns (c : Thread nD τ) arg29 fullShare (stInit i S).ssum ∗ owns (c : Thread nD τ) arg30 fullShare (stInit i S).scnt) -∗ wp frame (wpE (defs₀ (F := F)) Variants.none c none) Set.univ κ Q)
      -∗ wp frame (wpE (defs₀ (F := F)) Variants.none c none) Set.univ (initP i arg26 arg28 arg29 arg30 κ) Q) := by
  rw [owns_eq_rep c.tc arg26, owns_eq_rep c.tc arg28, owns_eq_rep c.tc arg29, owns_eq_rep c.tc arg30]
  unfold initP stInit
  by_cases hC : isFirst i
  · rw [if_pos hC]
    iintro ⟨H26, H28, H29, H30⟩ Hk
    sl_exec
    iapply Hk
    isplitl [H26]
    · unfold owns; iexists _; isplitr; swap; (· iexact H26); ipureintro; rw [View.read_writes_full]
    isplitl [H28]
    · unfold owns; iexists _; isplitr; swap; (· iexact H28); ipureintro; rw [View.read_writes_full]
    isplitl [H29]
    · unfold owns; iexists _; isplitr; swap; (· iexact H29); ipureintro; rw [View.read_writes_full]
    · unfold owns; iexists _; isplitr; swap; (· iexact H30); ipureintro; rw [View.read_writes_full]
  · rw [if_neg hC]
    iintro ⟨H26, H28, H29, H30⟩ Hk
    sl_exec
    iapply Hk
    isplitl [H26]
    · first | iexact H26 | iapply (owns_of_rep c.tc arg26 fullShare _) $$ H26
    isplitl [H28]
    · first | iexact H28 | iapply (owns_of_rep c.tc arg28 fullShare _) $$ H28
    isplitl [H29]
    · first | iexact H29 | iapply (owns_of_rep c.tc arg29 fullShare _) $$ H29
    · first | iexact H30 | iapply (owns_of_rep c.tc arg30 fullShare _) $$ H30

theorem loadAP_spec (c : Dev nD) (arg3 : Memref sig .tc .vmem S2048x128 .f32) (X : Vec F S2048x128 .f32) {β : Type}
    (κ : Vec F S2048x128 .f32 → Prog (TpuEff nD τ sig (Elt F) Λ₀ .tc) β) (Q : β → sProp 𝕄) :
    (owns (c : Thread nD τ) arg3 fullShare X : sProp 𝕄) ⊢
     iprop((owns (c : Thread nD τ) arg3 fullShare X -∗ wp frame (wpE (defs₀ (F := F)) Variants.none c none) Set.univ (κ X) Q) -∗ wp frame (wpE (defs₀ (F := F)) Variants.none c none) Set.univ (loadAP arg3 κ) Q) := by
  rw [owns_eq_rep c.tc arg3]
  unfold loadAP
  iintro H3 Hk
  sl_exec
  rw [View.readAt_rep_full]
  iapply Hk $$ H3

theorem phaseAP_spec (c : Dev nD) (i : grid0.Coords) (arg2 : Memref sig .tc .smem S17 .i32) (arg3 : Memref sig .tc .vmem S2048x128 .f32) (arg26 : Memref sig .tc .vmem S16x128 .f32) (v14 v16 : BitVec 32) (hw : k0_chk1 i v14 v16)
    (q2 : PosShare TreeShare) (T : Vec F S17 .i32) (W : Wins F) (S : St F) {β : Type} (κ : Prog (TpuEff nD τ sig (Elt F) Λ₀ .tc) β) (Q : β → sProp 𝕄) :
    (iprop(owns (c : Thread nD τ) arg2 q2 T ∗ owns (c : Thread nD τ) arg3 fullShare W.w3 ∗ owns (c : Thread nD τ) arg26 fullShare (S).smax0) : sProp 𝕄) ⊢
     iprop(((owns (c : Thread nD τ) arg2 q2 T ∗ owns (c : Thread nD τ) arg3 fullShare W.w3 ∗ owns (c : Thread nD τ) arg26 fullShare (stA i T v14 v16 W S).smax0) -∗ wp frame (wpE (defs₀ (F := F)) Variants.none c none) Set.univ κ Q)
      -∗ wp frame (wpE (defs₀ (F := F)) Variants.none c none) Set.univ (phaseAP i arg2 arg3 arg26 v14 v16 hw κ) Q) := by
  unfold phaseAP stA
  by_cases hC : k0_cond2 i = 1#1
  · rw [if_pos hC, dif_pos hC]
    iintro ⟨H2, H3, H26⟩ Hk
    iapply (loadAP_spec c arg3 W.w3 _ Q) $$ H3
    iintro H3
    iapply (oneP_spec c 128 h_S1x128 arg26 (k0_cond3 v14 v16 = 1#1) (k0_off3 v14) (fun h3 => hw.1 hC h3) (k0_pay5 W.w3) S.smax0) $$ H26
    iintro H26
    unfold maxA
    by_cases hD : differ v14 v16
    · rw [if_pos hD, if_pos hD]
      iapply (rowsP_spec c 128 h_S1x128 arg2 arg26 v14 v16 (k0_pay16 (k0_mult1 i) W.w3 rowIota) q2 T κ Q allRows _) $$ [H2 H26]
      · isplitl [H2] <;> iassumption
      iintro ⟨H2, H26⟩
      iapply Hk
      isplitl [H2]; · iexact H2
      isplitl [H3]; · iexact H3
      iexact H26
    · rw [if_neg hD, if_neg hD]
      iapply Hk
      isplitl [H2]; · iexact H2
      isplitl [H3]; · iexact H3
      iexact H26
  · rw [if_neg hC, dif_neg hC]
    iintro H Hk
    iapply Hk
    iexact H

end Cert.KernelIdeal.Hand
end
-- ==== Proof.KI.SpecB.lean ====
module

public import proofs.«01_k».proof.Proof.Gen.KernelIdeal
public import proofs.«01_k».proof.Proof.Gen.KernelIdeal.Skeleton
public import proofs.«01_k».proof.Proof.KI.Stretch
public import Idealize.ShloMosaic.Lib.VecWindow
public import Idealize.ShloMosaic.Lib.Pipeline.TableIdle

@[expose] public section

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F] {U : Type} [URA U]
local notation "𝕄" => MT nD τ sig Unit (Elt F) ℕ U ℕ

set_option maxHeartbeats 1600000 in
theorem loadBP_spec (c : Dev nD) (i : grid0.Coords) (hC : k0_cond21 i = 1#1) (arg3 : Memref sig .tc .vmem S2048x128 .f32) (arg4 : Memref sig .tc .vmem S1x16 .i32) (arg5 : Memref sig .tc .vmem S1x16 .i32) (arg6 : Memref sig .tc .vmem S256x128 .f32) (arg7 : Memref sig .tc .vmem S256x128 .f32) (arg8 : Memref sig .tc .vmem S1x256 .f32) (arg9 : Memref sig .tc .vmem S1x256 .f32) (arg10 : Memref sig .tc .vmem S1x256 .f32) (arg11 : Memref sig .tc .vmem S1x1 .f32) (arg26 : Memref sig .tc .vmem S16x128 .f32) (arg27 : Memref sig .tc .vmem S32768x256 .f32) (W : Wins F) (S : St F) {β : Type}
    (κ : Vec F S16x128 .f32 → Vec F S256x128 .f32 → Vec F S1x16 .i32 → Vec F S1x16 .i32 → Vec F S2048x128 .f32 → Vec F S256x128 .f32 → Vec F S1x256 .f32 →
      Vec F S1x256 .f32 → Vec F S1x256 .f32 → Vec F S1x1 .f32 → Prog (TpuEff nD τ sig (Elt F) Λ₀ .tc) β) (Q : β → sProp 𝕄) :
    (iprop(owns (c : Thread nD τ) arg3 fullShare W.w3 ∗ owns (c : Thread nD τ) arg4 fullShare W.w4 ∗ owns (c : Thread nD τ) arg5 fullShare W.w5 ∗ owns (c : Thread nD τ) arg6 fullShare W.w6 ∗ owns (c : Thread nD τ) arg7 fullShare W.w7 ∗ owns (c : Thread nD τ) arg8 fullShare W.w8 ∗ owns (c : Thread nD τ) arg9 fullShare W.w9 ∗ owns (c : Thread nD τ) arg10 fullShare W.w10 ∗ owns (c : Thread nD τ) arg11 fullShare W.w11 ∗ owns (c : Thread nD τ) arg26 fullShare (S).smax0 ∗ owns (c : Thread nD τ) arg27 fullShare (S).x1) : sProp 𝕄) ⊢
     iprop(((owns (c : Thread nD τ) arg3 fullShare W.w3 ∗ owns (c : Thread nD τ) arg4 fullShare W.w4 ∗ owns (c : Thread nD τ) arg5 fullShare W.w5 ∗ owns (c : Thread nD τ) arg6 fullShare W.w6 ∗ owns (c : Thread nD τ) arg7 fullShare W.w7 ∗ owns (c : Thread nD τ) arg8 fullShare W.w8 ∗ owns (c : Thread nD τ) arg9 fullShare W.w9 ∗ owns (c : Thread nD τ) arg10 fullShare W.w10 ∗ owns (c : Thread nD τ) arg11 fullShare W.w11 ∗ owns (c : Thread nD τ) arg26 fullShare (S).smax0 ∗ owns (c : Thread nD τ) arg27 fullShare (VecWindow.put S.x1 (k0_off4 i) S2048x256.size (act1 i W S.smax0)))
        -∗ wp frame (wpE (defs₀ (F := F)) Variants.none c none) Set.univ (κ S.smax0 W.w6 W.w4 W.w5 W.w3 W.w7 W.w8 W.w9 W.w10 W.w11) Q)
      -∗ wp frame (wpE (defs₀ (F := F)) Variants.none c none) Set.univ (loadBP i hC arg3 arg4 arg5 arg6 arg7 arg8 arg9 arg10 arg11 arg26 arg27 κ) Q) := by
  rw [owns_eq_rep c.tc arg3, owns_eq_rep c.tc arg4, owns_eq_rep c.tc arg5, owns_eq_rep c.tc arg6, owns_eq_rep c.tc arg7, owns_eq_rep c.tc arg8, owns_eq_rep c.tc arg9, owns_eq_rep c.tc arg10, owns_eq_rep c.tc arg11, owns_eq_rep c.tc arg26, owns_eq_rep c.tc arg27]
  unfold loadBP
  iintro ⟨H3, H4, H5, H6, H7, H8, H9, H10, H11, H26, H27⟩ Hk
  sl_exec
  rw [View.readAt_rep_full, View.readAt_rep_full, View.readAt_rep_full, View.readAt_rep_full, View.readAt_rep_full,
    View.readAt_rep_full, View.readAt_rep_full, View.readAt_rep_full, View.readAt_rep_full, View.readAt_rep_full]
  iapply Hk
  isplitl [H3]
  · first | iexact H3 | iapply (owns_of_rep c.tc arg3 fullShare _) $$ H3
  isplitl [H4]
  · first | iexact H4 | iapply (owns_of_rep c.tc arg4 fullShare _) $$ H4
  isplitl [H5]
  · first | iexact H5 | iapply (owns_of_rep c.tc arg5 fullShare _) $$ H5
  isplitl [H6]
  · first | iexact H6 | iapply (owns_of_rep c.tc arg6 fullShare _) $$ H6
  isplitl [H7]
  · first | iexact H7 | iapply (owns_of_rep c.tc arg7 fullShare _) $$ H7
  isplitl [H8]
  · first | iexact H8 | iapply (owns_of_rep c.tc arg8 fullShare _) $$ H8
  isplitl [H9]
  · first | iexact H9 | iapply (owns_of_rep c.tc arg9 fullShare _) $$ H9
  isplitl [H10]
  · first | iexact H10 | iapply (owns_of_rep c.tc arg10 fullShare _) $$ H10
  isplitl [H11]
  · first | iexact H11 | iapply (owns_of_rep c.tc arg11 fullShare _) $$ H11
  isplitl [H26]
  · first | iexact H26 | iapply (owns_of_rep c.tc arg26 fullShare _) $$ H26
  · unfold owns; iexists _; isplitr; swap; (· iexact H27); ipureintro; rw [View.read_writes_rep_unit _ _ _ _ rfl]; unfold act1 lin1 mom1; first | done | rfl

theorem phaseBP_spec (c : Dev nD) (i : grid0.Coords) (arg2 : Memref sig .tc .smem S17 .i32) (arg3 : Memref sig .tc .vmem S2048x128 .f32) (arg4 : Memref sig .tc .vmem S1x16 .i32) (arg5 : Memref sig .tc .vmem S1x16 .i32) (arg6 : Memref sig .tc .vmem S256x128 .f32) (arg7 : Memref sig .tc .vmem S256x128 .f32) (arg8 : Memref sig .tc .vmem S1x256 .f32) (arg9 : Memref sig .tc .vmem S1x256 .f32) (arg10 : Memref sig .tc .vmem S1x256 .f32) (arg11 : Memref sig .tc .vmem S1x1 .f32) (arg26 : Memref sig .tc .vmem S16x128 .f32) (arg27 : Memref sig .tc .vmem S32768x256 .f32) (arg28 : Memref sig .tc .vmem S16x256 .f32) (v14 v16 : BitVec 32) (hw : k0_chk1 i v14 v16)
    (q2 : PosShare TreeShare) (T : Vec F S17 .i32) (W : Wins F) (S : St F) {β : Type} (κ : Prog (TpuEff nD τ sig (Elt F) Λ₀ .tc) β) (Q : β → sProp 𝕄) :
    (iprop(owns (c : Thread nD τ) arg2 q2 T ∗ owns (c : Thread nD τ) arg3 fullShare W.w3 ∗ owns (c : Thread nD τ) arg4 fullShare W.w4 ∗ owns (c : Thread nD τ) arg5 fullShare W.w5 ∗ owns (c : Thread nD τ) arg6 fullShare W.w6 ∗ owns (c : Thread nD τ) arg7 fullShare W.w7 ∗ owns (c : Thread nD τ) arg8 fullShare W.w8 ∗ owns (c : Thread nD τ) arg9 fullShare W.w9 ∗ owns (c : Thread nD τ) arg10 fullShare W.w10 ∗ owns (c : Thread nD τ) arg11 fullShare W.w11 ∗ owns (c : Thread nD τ) arg26 fullShare (S).smax0 ∗ owns (c : Thread nD τ) arg27 fullShare (S).x1 ∗ owns (c : Thread nD τ) arg28 fullShare (S).smax1) : sProp 𝕄) ⊢
     iprop(((owns (c : Thread nD τ) arg2 q2 T ∗ owns (c : Thread nD τ) arg3 fullShare W.w3 ∗ owns (c : Thread nD τ) arg4 fullShare W.w4 ∗ owns (c : Thread nD τ) arg5 fullShare W.w5 ∗ owns (c : Thread nD τ) arg6 fullShare W.w6 ∗ owns (c : Thread nD τ) arg7 fullShare W.w7 ∗ owns (c : Thread nD τ) arg8 fullShare W.w8 ∗ owns (c : Thread nD τ) arg9 fullShare W.w9 ∗ owns (c : Thread nD τ) arg10 fullShare W.w10 ∗ owns (c : Thread nD τ) arg11 fullShare W.w11 ∗ owns (c : Thread nD τ) arg26 fullShare (stB i T v14 v16 W S).smax0 ∗ owns (c : Thread nD τ) arg27 fullShare (stB i T v14 v16 W S).x1 ∗ owns (c : Thread nD τ) arg28 fullShare (stB i T v14 v16 W S).smax1) -∗ wp frame (wpE (defs₀ (F := F)) Variants.none c none) Set.univ κ Q)
      -∗ wp frame (wpE (defs₀ (F := F)) Variants.none c none) Set.univ (phaseBP i arg2 arg3 arg4 arg5 arg6 arg7 arg8 arg9 arg10 arg11 arg26 arg27 arg28 v14 v16 hw κ) Q) := by
  unfold phaseBP stB
  by_cases hC : k0_cond21 i = 1#1
  · rw [if_pos hC, dif_pos hC]
    iintro ⟨H2, H3, H4, H5, H6, H7, H8, H9, H10, H11, H26, H27, H28⟩ Hk
    iapply (loadBP_spec c i hC arg3 arg4 arg5 arg6 arg7 arg8 arg9 arg10 arg11 arg26 arg27 W S _ Q) $$ [H3 H4 H5 H6 H7 H8 H9 H10 H11 H26 H27]
    · isplitl [H3]
      · first | iexact H3 | iapply (owns_of_rep c.tc arg3 fullShare _) $$ H3
      isplitl [H4]
      · first | iexact H4 | iapply (owns_of_rep c.tc arg4 fullShare _) $$ H4
      isplitl [H5]
      · first | iexact H5 | iapply (owns_of_rep c.tc arg5 fullShare _) $$ H5
      isplitl [H6]
      · first | iexact H6 | iapply (owns_of_rep c.tc arg6 fullShare _) $$ H6
      isplitl [H7]
      · first | iexact H7 | iapply (owns_of_rep c.tc arg7 fullShare _) $$ H7
      isplitl [H8]
      · first | iexact H8 | iapply (owns_of_rep c.tc arg8 fullShare _) $$ H8
      isplitl [H9]
      · first | iexact H9 | iapply (owns_of_rep c.tc arg9 fullShare _) $$ H9
      isplitl [H10]
      · first | iexact H10 | iapply (owns_of_rep c.tc arg10 fullShare _) $$ H10
      isplitl [H11]
      · first | iexact H11 | iapply (owns_of_rep c.tc arg11 fullShare _) $$ H11
      isplitl [H26]
      · first | iexact H26 | iapply (owns_of_rep c.tc arg26 fullShare _) $$ H26
      · first | iexact H27 | iapply (owns_of_rep c.tc arg27 fullShare _) $$ H27
    iintro ⟨H3, H4, H5, H6, H7, H8, H9, H10, H11, H26, H27⟩
    iapply (oneP_spec c 256 h_S1x256 arg28 (k0_cond22 v14 v16 = 1#1) (k0_off5 v14) (fun h3 => hw.2 hC h3) (k0_pay11 (lin1 i W S.smax0) (k0_pay43 W.w9) (k0_pay44 W.w10) (k0_pay45 W.w11) (mom1 i W S.smax0) k0_pay47) S.smax1) $$ H28
    iintro H28
    unfold maxB
    by_cases hD : differ v14 v16
    · rw [if_pos hD, if_pos hD]
      iapply (rowsP_spec c 256 h_S1x256 arg2 arg28 v14 v16 (k0_pay29 (k0_mult1 i) (act1' i W S.smax0) rowIota) q2 T κ Q allRows _) $$ [H2 H28]
      · isplitl [H2] <;> iassumption
      iintro ⟨H2, H28⟩
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H26]; · iexact H26
      isplitl [H27]; · iexact H27
      iexact H28
    · rw [if_neg hD, if_neg hD]
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H26]; · iexact H26
      isplitl [H27]; · iexact H27
      iexact H28
  · rw [if_neg hC, dif_neg hC]
    iintro H Hk
    iapply Hk
    iexact H

end Cert.KernelIdeal.Hand
end
-- ==== Proof.KI.SpecC.lean ====
module

public import proofs.«01_k».proof.Proof.Gen.KernelIdeal
public import proofs.«01_k».proof.Proof.Gen.KernelIdeal.Skeleton
public import proofs.«01_k».proof.Proof.KI.Stretch
public import Idealize.ShloMosaic.Lib.VecWindow
public import Idealize.ShloMosaic.Lib.Pipeline.TableIdle

@[expose] public section

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F] {U : Type} [URA U]
local notation "𝕄" => MT nD τ sig Unit (Elt F) ℕ U ℕ

/-- The scratch after phase three's sums. -/
def stC' (i : grid0.Coords) (h : k0_cond40 i = 1#1) (W : Wins F) (S : St F) : St F := { S with
    ssum := sumC i W S.smax1 (blkC i h S.x1) S.ssum
    scnt := k0_pay60 (hot i W) S.scnt }

theorem sumP_spec (c : Dev nD) (i : grid0.Coords) (hC : k0_cond40 i = 1#1) (arg4 : Memref sig .tc .vmem S1x16 .i32) (arg5 : Memref sig .tc .vmem S1x16 .i32) (arg12 : Memref sig .tc .vmem S256x256 .f32) (arg13 : Memref sig .tc .vmem S256x256 .f32) (arg14 : Memref sig .tc .vmem S1x256 .f32) (arg15 : Memref sig .tc .vmem S1x256 .f32) (arg16 : Memref sig .tc .vmem S1x256 .f32) (arg17 : Memref sig .tc .vmem S1x1 .f32) (arg27 : Memref sig .tc .vmem S32768x256 .f32) (arg28 : Memref sig .tc .vmem S16x256 .f32) (arg29 : Memref sig .tc .vmem S16x256 .f32) (arg30 : Memref sig .tc .vmem S16x256 .f32)
    (W : Wins F) (S : St F) {β : Type} (κ : Prog (TpuEff nD τ sig (Elt F) Λ₀ .tc) β) (Q : β → sProp 𝕄) :
    (iprop(owns (c : Thread nD τ) arg4 fullShare W.w4 ∗ owns (c : Thread nD τ) arg5 fullShare W.w5 ∗ owns (c : Thread nD τ) arg12 fullShare W.w12 ∗ owns (c : Thread nD τ) arg13 fullShare W.w13 ∗ owns (c : Thread nD τ) arg14 fullShare W.w14 ∗ owns (c : Thread nD τ) arg15 fullShare W.w15 ∗ owns (c : Thread nD τ) arg16 fullShare W.w16 ∗ owns (c : Thread nD τ) arg17 fullShare W.w17 ∗ owns (c : Thread nD τ) arg27 fullShare (S).x1 ∗ owns (c : Thread nD τ) arg28 fullShare (S).smax1 ∗ owns (c : Thread nD τ) arg29 fullShare (S).ssum ∗ owns (c : Thread nD τ) arg30 fullShare (S).scnt) : sProp 𝕄) ⊢
     iprop(((owns (c : Thread nD τ) arg4 fullShare W.w4 ∗ owns (c : Thread nD τ) arg5 fullShare W.w5 ∗ owns (c : Thread nD τ) arg12 fullShare W.w12 ∗ owns (c : Thread nD τ) arg13 fullShare W.w13 ∗ owns (c : Thread nD τ) arg14 fullShare W.w14 ∗ owns (c : Thread nD τ) arg15 fullShare W.w15 ∗ owns (c : Thread nD τ) arg16 fullShare W.w16 ∗ owns (c : Thread nD τ) arg17 fullShare W.w17 ∗ owns (c : Thread nD τ) arg27 fullShare (stC' i hC W S).x1 ∗ owns (c : Thread nD τ) arg28 fullShare (stC' i hC W S).smax1 ∗ owns (c : Thread nD τ) arg29 fullShare (stC' i hC W S).ssum ∗ owns (c : Thread nD τ) arg30 fullShare (stC' i hC W S).scnt) -∗ wp frame (wpE (defs₀ (F := F)) Variants.none c none) Set.univ κ Q)
      -∗ wp frame (wpE (defs₀ (F := F)) Variants.none c none) Set.univ (sumP i hC arg4 arg5 arg12 arg13 arg14 arg15 arg16 arg17 arg27 arg28 arg29 arg30 κ) Q) := by
  rw [owns_eq_rep c.tc arg4, owns_eq_rep c.tc arg5, owns_eq_rep c.tc arg12, owns_eq_rep c.tc arg13, owns_eq_rep c.tc arg14, owns_eq_rep c.tc arg15, owns_eq_rep c.tc arg16, owns_eq_rep c.tc arg17, owns_eq_rep c.tc arg27, owns_eq_rep c.tc arg28, owns_eq_rep c.tc arg29, owns_eq_rep c.tc arg30]
  unfold sumP stC'
  iintro ⟨H4, H5, H12, H13, H14, H15, H16, H17, H27, H28, H29, H30⟩ Hk
  sl_exec
  iapply Hk
  isplitl [H4]
  · first | iexact H4 | iapply (owns_of_rep c.tc arg4 fullShare _) $$ H4
  isplitl [H5]
  · first | iexact H5 | iapply (owns_of_rep c.tc arg5 fullShare _) $$ H5
  isplitl [H12]
  · first | iexact H12 | iapply (owns_of_rep c.tc arg12 fullShare _) $$ H12
  isplitl [H13]
  · first | iexact H13 | iapply (owns_of_rep c.tc arg13 fullShare _) $$ H13
  isplitl [H14]
  · first | iexact H14 | iapply (owns_of_rep c.tc arg14 fullShare _) $$ H14
  isplitl [H15]
  · first | iexact H15 | iapply (owns_of_rep c.tc arg15 fullShare _) $$ H15
  isplitl [H16]
  · first | iexact H16 | iapply (owns_of_rep c.tc arg16 fullShare _) $$ H16
  isplitl [H17]
  · first | iexact H17 | iapply (owns_of_rep c.tc arg17 fullShare _) $$ H17
  isplitl [H27]
  · first | iexact H27 | iapply (owns_of_rep c.tc arg27 fullShare _) $$ H27
  isplitl [H28]
  · first | iexact H28 | iapply (owns_of_rep c.tc arg28 fullShare _) $$ H28
  isplitl [H29]
  · unfold owns; iexists _; isplitr; swap; (· iexact H29); ipureintro; dsimp only [sumC, hot, blkC]; rw [View.read_writes_full]; (repeat rw [View.readAt_rep_full]); rw [View.readAt_rep_unit _ _ _ rfl (k0_off6_inb i hC)]
  · unfold owns; iexists _; isplitr; swap; (· iexact H30); ipureintro; dsimp only [hot]; rw [View.read_writes_full]; (repeat rw [View.readAt_rep_full])

theorem headP_spec (c : Dev nD) (i : grid0.Coords) (arg18 : Memref sig .tc .vmem S128x256 .f32) (arg19 : Memref sig .tc .vmem S1x128 .f32) (arg20 : Memref sig .tc .vmem S1x128 .f32) (arg21 : Memref sig .tc .vmem S1x128 .f32) (arg22 : Memref sig .tc .vmem S1x1 .f32) (arg23 : Memref sig .tc .vmem S64x128 .f32) (arg24 : Memref sig .tc .vmem S1x64 .f32) (arg25 : Memref sig .tc .vmem S16x64 .f32) (arg29 : Memref sig .tc .vmem S16x256 .f32) (arg30 : Memref sig .tc .vmem S16x256 .f32)
    (W : Wins F) (S : St F) (O : Vec F S16x64 .f32) {β : Type} (κ : Prog (TpuEff nD τ sig (Elt F) Λ₀ .tc) β) (Q : β → sProp 𝕄) :
    (iprop(owns (c : Thread nD τ) arg18 fullShare W.w18 ∗ owns (c : Thread nD τ) arg19 fullShare W.w19 ∗ owns (c : Thread nD τ) arg20 fullShare W.w20 ∗ owns (c : Thread nD τ) arg21 fullShare W.w21 ∗ owns (c : Thread nD τ) arg22 fullShare W.w22 ∗ owns (c : Thread nD τ) arg23 fullShare W.w23 ∗ owns (c : Thread nD τ) arg24 fullShare W.w24 ∗ owns (c : Thread nD τ) arg25 fullShare O ∗ owns (c : Thread nD τ) arg29 fullShare (S).ssum ∗ owns (c : Thread nD τ) arg30 fullShare (S).scnt) : sProp 𝕄) ⊢
     iprop(((owns (c : Thread nD τ) arg18 fullShare W.w18 ∗ owns (c : Thread nD τ) arg19 fullShare W.w19 ∗ owns (c : Thread nD τ) arg20 fullShare W.w20 ∗ owns (c : Thread nD τ) arg21 fullShare W.w21 ∗ owns (c : Thread nD τ) arg22 fullShare W.w22 ∗ owns (c : Thread nD τ) arg23 fullShare W.w23 ∗ owns (c : Thread nD τ) arg24 fullShare W.w24 ∗ owns (c : Thread nD τ) arg25 fullShare (if k0_cond41 i = 1#1 then headC W S.ssum S.scnt else O) ∗ owns (c : Thread nD τ) arg29 fullShare (S).ssum ∗ owns (c : Thread nD τ) arg30 fullShare (S).scnt) -∗ wp frame (wpE (defs₀ (F := F)) Variants.none c none) Set.univ κ Q)
      -∗ wp frame (wpE (defs₀ (F := F)) Variants.none c none) Set.univ (headP i arg18 arg19 arg20 arg21 arg22 arg23 arg24 arg25 arg29 arg30 κ) Q) := by
  rw [owns_eq_rep c.tc arg18, owns_eq_rep c.tc arg19, owns_eq_rep c.tc arg20, owns_eq_rep c.tc arg21, owns_eq_rep c.tc arg22, owns_eq_rep c.tc arg23, owns_eq_rep c.tc arg24, owns_eq_rep c.tc arg25, owns_eq_rep c.tc arg29, owns_eq_rep c.tc arg30]
  unfold headP
  by_cases hC : k0_cond41 i = 1#1
  · rw [if_pos hC]
    iintro ⟨H18, H19, H20, H21, H22, H23, H24, H25, H29, H30⟩ Hk
    sl_exec
    iapply Hk
    isplitl [H18]
    · first | iexact H18 | iapply (owns_of_rep c.tc arg18 fullShare _) $$ H18
    isplitl [H19]
    · first | iexact H19 | iapply (owns_of_rep c.tc arg19 fullShare _) $$ H19
    isplitl [H20]
    · first | iexact H20 | iapply (owns_of_rep c.tc arg20 fullShare _) $$ H20
    isplitl [H21]
    · first | iexact H21 | iapply (owns_of_rep c.tc arg21 fullShare _) $$ H21
    isplitl [H22]
    · first | iexact H22 | iapply (owns_of_rep c.tc arg22 fullShare _) $$ H22
    isplitl [H23]
    · first | iexact H23 | iapply (owns_of_rep c.tc arg23 fullShare _) $$ H23
    isplitl [H24]
    · first | iexact H24 | iapply (owns_of_rep c.tc arg24 fullShare _) $$ H24
    isplitl [H25]
    · unfold owns; iexists _; isplitr; swap; (· iexact H25); ipureintro; dsimp only [headC]; rw [View.read_writes_full]; (repeat rw [View.readAt_rep_full])
    isplitl [H29]
    · first | iexact H29 | iapply (owns_of_rep c.tc arg29 fullShare _) $$ H29
    · first | iexact H30 | iapply (owns_of_rep c.tc arg30 fullShare _) $$ H30
  · rw [if_neg hC]
    iintro ⟨H18, H19, H20, H21, H22, H23, H24, H25, H29, H30⟩ Hk
    sl_exec
    iapply Hk
    isplitl [H18]
    · first | iexact H18 | iapply (owns_of_rep c.tc arg18 fullShare _) $$ H18
    isplitl [H19]
    · first | iexact H19 | iapply (owns_of_rep c.tc arg19 fullShare _) $$ H19
    isplitl [H20]
    · first | iexact H20 | iapply (owns_of_rep c.tc arg20 fullShare _) $$ H20
    isplitl [H21]
    · first | iexact H21 | iapply (owns_of_rep c.tc arg21 fullShare _) $$ H21
    isplitl [H22]
    · first | iexact H22 | iapply (owns_of_rep c.tc arg22 fullShare _) $$ H22
    isplitl [H23]
    · first | iexact H23 | iapply (owns_of_rep c.tc arg23 fullShare _) $$ H23
    isplitl [H24]
    · first | iexact H24 | iapply (owns_of_rep c.tc arg24 fullShare _) $$ H24
    isplitl [H25]
    · first | iexact H25 | iapply (owns_of_rep c.tc arg25 fullShare _) $$ H25
    isplitl [H29]
    · first | iexact H29 | iapply (owns_of_rep c.tc arg29 fullShare _) $$ H29
    · first | iexact H30 | iapply (owns_of_rep c.tc arg30 fullShare _) $$ H30

end Cert.KernelIdeal.Hand
end
-- ==== Proof.KI.SpecD.lean ====
module

public import proofs.«01_k».proof.Proof.Gen.KernelIdeal
public import proofs.«01_k».proof.Proof.Gen.KernelIdeal.Skeleton
public import proofs.«01_k».proof.Proof.KI.SpecC
public import Idealize.ShloMosaic.Lib.VecWindow
public import Idealize.ShloMosaic.Lib.Pipeline.TableIdle

@[expose] public section

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F] {U : Type} [URA U]
local notation "𝕄" => MT nD τ sig Unit (Elt F) ℕ U ℕ

attribute [local irreducible] sumP headP

theorem phaseCP_spec (c : Dev nD) (i : grid0.Coords) (arg4 : Memref sig .tc .vmem S1x16 .i32) (arg5 : Memref sig .tc .vmem S1x16 .i32) (arg12 : Memref sig .tc .vmem S256x256 .f32) (arg13 : Memref sig .tc .vmem S256x256 .f32) (arg14 : Memref sig .tc .vmem S1x256 .f32) (arg15 : Memref sig .tc .vmem S1x256 .f32) (arg16 : Memref sig .tc .vmem S1x256 .f32) (arg17 : Memref sig .tc .vmem S1x1 .f32) (arg18 : Memref sig .tc .vmem S128x256 .f32) (arg19 : Memref sig .tc .vmem S1x128 .f32) (arg20 : Memref sig .tc .vmem S1x128 .f32) (arg21 : Memref sig .tc .vmem S1x128 .f32) (arg22 : Memref sig .tc .vmem S1x1 .f32) (arg23 : Memref sig .tc .vmem S64x128 .f32) (arg24 : Memref sig .tc .vmem S1x64 .f32) (arg25 : Memref sig .tc .vmem S16x64 .f32) (arg27 : Memref sig .tc .vmem S32768x256 .f32) (arg28 : Memref sig .tc .vmem S16x256 .f32) (arg29 : Memref sig .tc .vmem S16x256 .f32) (arg30 : Memref sig .tc .vmem S16x256 .f32)
    (W : Wins F) (S : St F) (O : Vec F S16x64 .f32) {β : Type} (κ : Prog (TpuEff nD τ sig (Elt F) Λ₀ .tc) β) (Q : β → sProp 𝕄) :
    (iprop(owns (c : Thread nD τ) arg4 fullShare W.w4 ∗ owns (c : Thread nD τ) arg5 fullShare W.w5 ∗ owns (c : Thread nD τ) arg12 fullShare W.w12 ∗ owns (c : Thread nD τ) arg13 fullShare W.w13 ∗ owns (c : Thread nD τ) arg14 fullShare W.w14 ∗ owns (c : Thread nD τ) arg15 fullShare W.w15 ∗ owns (c : Thread nD τ) arg16 fullShare W.w16 ∗ owns (c : Thread nD τ) arg17 fullShare W.w17 ∗ owns (c : Thread nD τ) arg18 fullShare W.w18 ∗ owns (c : Thread nD τ) arg19 fullShare W.w19 ∗ owns (c : Thread nD τ) arg20 fullShare W.w20 ∗ owns (c : Thread nD τ) arg21 fullShare W.w21 ∗ owns (c : Thread nD τ) arg22 fullShare W.w22 ∗ owns (c : Thread nD τ) arg23 fullShare W.w23 ∗ owns (c : Thread nD τ) arg24 fullShare W.w24 ∗ owns (c : Thread nD τ) arg25 fullShare O ∗ owns (c : Thread nD τ) arg27 fullShare (S).x1 ∗ owns (c : Thread nD τ) arg28 fullShare (S).smax1 ∗ owns (c : Thread nD τ) arg29 fullShare (S).ssum ∗ owns (c : Thread nD τ) arg30 fullShare (S).scnt) : sProp 𝕄) ⊢
     iprop(((owns (c : Thread nD τ) arg4 fullShare W.w4 ∗ owns (c : Thread nD τ) arg5 fullShare W.w5 ∗ owns (c : Thread nD τ) arg12 fullShare W.w12 ∗ owns (c : Thread nD τ) arg13 fullShare W.w13 ∗ owns (c : Thread nD τ) arg14 fullShare W.w14 ∗ owns (c : Thread nD τ) arg15 fullShare W.w15 ∗ owns (c : Thread nD τ) arg16 fullShare W.w16 ∗ owns (c : Thread nD τ) arg17 fullShare W.w17 ∗ owns (c : Thread nD τ) arg18 fullShare W.w18 ∗ owns (c : Thread nD τ) arg19 fullShare W.w19 ∗ owns (c : Thread nD τ) arg20 fullShare W.w20 ∗ owns (c : Thread nD τ) arg21 fullShare W.w21 ∗ owns (c : Thread nD τ) arg22 fullShare W.w22 ∗ owns (c : Thread nD τ) arg23 fullShare W.w23 ∗ owns (c : Thread nD τ) arg24 fullShare W.w24 ∗ owns (c : Thread nD τ) arg25 fullShare (outC i W (stC i W S) O) ∗ owns (c : Thread nD τ) arg27 fullShare (stC i W S).x1 ∗ owns (c : Thread nD τ) arg28 fullShare (stC i W S).smax1 ∗ owns (c : Thread nD τ) arg29 fullShare (stC i W S).ssum ∗ owns (c : Thread nD τ) arg30 fullShare (stC i W S).scnt) -∗ wp frame (wpE (defs₀ (F := F)) Variants.none c none) Set.univ κ Q)
      -∗ wp frame (wpE (defs₀ (F := F)) Variants.none c none) Set.univ (phaseCP i arg4 arg5 arg12 arg13 arg14 arg15 arg16 arg17 arg18 arg19 arg20 arg21 arg22 arg23 arg24 arg25 arg27 arg28 arg29 arg30 κ) Q) := by
  unfold phaseCP outC stC
  by_cases hC : k0_cond40 i = 1#1
  · have ho : ∀ a : Vec F S16x64 .f32, (if k0_cond40 i = 1#1 ∧ k0_cond41 i = 1#1 then a else O) = if k0_cond41 i = 1#1 then a else O := fun a => by
      by_cases hD : k0_cond41 i = 1#1
      · rw [if_pos hD, if_pos ⟨hC, hD⟩]
      · rw [if_neg hD, if_neg (fun h => hD h.2)]
    rw [dif_pos hC, dif_pos hC, ho]
    iintro ⟨H4, H5, H12, H13, H14, H15, H16, H17, H18, H19, H20, H21, H22, H23, H24, H25, H27, H28, H29, H30⟩ Hk
    iapply (sumP_spec c i hC arg4 arg5 arg12 arg13 arg14 arg15 arg16 arg17 arg27 arg28 arg29 arg30 W S _ Q) $$ [H4 H5 H12 H13 H14 H15 H16 H17 H27 H28 H29 H30]
    · isplitl [H4]
      · first | iexact H4 | iapply (owns_of_rep c.tc arg4 fullShare _) $$ H4
      isplitl [H5]
      · first | iexact H5 | iapply (owns_of_rep c.tc arg5 fullShare _) $$ H5
      isplitl [H12]
      · first | iexact H12 | iapply (owns_of_rep c.tc arg12 fullShare _) $$ H12
      isplitl [H13]
      · first | iexact H13 | iapply (owns_of_rep c.tc arg13 fullShare _) $$ H13
      isplitl [H14]
      · first | iexact H14 | iapply (owns_of_rep c.tc arg14 fullShare _) $$ H14
      isplitl [H15]
      · first | iexact H15 | iapply (owns_of_rep c.tc arg15 fullShare _) $$ H15
      isplitl [H16]
      · first | iexact H16 | iapply (owns_of_rep c.tc arg16 fullShare _) $$ H16
      isplitl [H17]
      · first | iexact H17 | iapply (owns_of_rep c.tc arg17 fullShare _) $$ H17
      isplitl [H27]
      · first | iexact H27 | iapply (owns_of_rep c.tc arg27 fullShare _) $$ H27
      isplitl [H28]
      · first | iexact H28 | iapply (owns_of_rep c.tc arg28 fullShare _) $$ H28
      isplitl [H29]
      · first | iexact H29 | iapply (owns_of_rep c.tc arg29 fullShare _) $$ H29
      · first | iexact H30 | iapply (owns_of_rep c.tc arg30 fullShare _) $$ H30
    iintro ⟨H4, H5, H12, H13, H14, H15, H16, H17, H27, H28, H29, H30⟩
    iapply (headP_spec c i arg18 arg19 arg20 arg21 arg22 arg23 arg24 arg25 arg29 arg30 W (stC' i hC W S) O κ Q) $$ [H18 H19 H20 H21 H22 H23 H24 H25 H29 H30]
    · isplitl [H18]
      · first | iexact H18 | iapply (owns_of_rep c.tc arg18 fullShare _) $$ H18
      isplitl [H19]
      · first | iexact H19 | iapply (owns_of_rep c.tc arg19 fullShare _) $$ H19
      isplitl [H20]
      · first | iexact H20 | iapply (owns_of_rep c.tc arg20 fullShare _) $$ H20
      isplitl [H21]
      · first | iexact H21 | iapply (owns_of_rep c.tc arg21 fullShare _) $$ H21
      isplitl [H22]
      · first | iexact H22 | iapply (owns_of_rep c.tc arg22 fullShare _) $$ H22
      isplitl [H23]
      · first | iexact H23 | iapply (owns_of_rep c.tc arg23 fullShare _) $$ H23
      isplitl [H24]
      · first | iexact H24 | iapply (owns_of_rep c.tc arg24 fullShare _) $$ H24
      isplitl [H25]
      · first | iexact H25 | iapply (owns_of_rep c.tc arg25 fullShare _) $$ H25
      isplitl [H29]
      · first | iexact H29 | iapply (owns_of_rep c.tc arg29 fullShare _) $$ H29
      · first | iexact H30 | iapply (owns_of_rep c.tc arg30 fullShare _) $$ H30
    iintro ⟨H18, H19, H20, H21, H22, H23, H24, H25, H29, H30⟩
    iapply Hk
    isplitl [H4]
    · first | iexact H4 | iapply (owns_of_rep c.tc arg4 fullShare _) $$ H4
    isplitl [H5]
    · first | iexact H5 | iapply (owns_of_rep c.tc arg5 fullShare _) $$ H5
    isplitl [H12]
    · first | iexact H12 | iapply (owns_of_rep c.tc arg12 fullShare _) $$ H12
    isplitl [H13]
    · first | iexact H13 | iapply (owns_of_rep c.tc arg13 fullShare _) $$ H13
    isplitl [H14]
    · first | iexact H14 | iapply (owns_of_rep c.tc arg14 fullShare _) $$ H14
    isplitl [H15]
    · first | iexact H15 | iapply (owns_of_rep c.tc arg15 fullShare _) $$ H15
    isplitl [H16]
    · first | iexact H16 | iapply (owns_of_rep c.tc arg16 fullShare _) $$ H16
    isplitl [H17]
    · first | iexact H17 | iapply (owns_of_rep c.tc arg17 fullShare _) $$ H17
    isplitl [H18]
    · first | iexact H18 | iapply (owns_of_rep c.tc arg18 fullShare _) $$ H18
    isplitl [H19]
    · first | iexact H19 | iapply (owns_of_rep c.tc arg19 fullShare _) $$ H19
    isplitl [H20]
    · first | iexact H20 | iapply (owns_of_rep c.tc arg20 fullShare _) $$ H20
    isplitl [H21]
    · first | iexact H21 | iapply (owns_of_rep c.tc arg21 fullShare _) $$ H21
    isplitl [H22]
    · first | iexact H22 | iapply (owns_of_rep c.tc arg22 fullShare _) $$ H22
    isplitl [H23]
    · first | iexact H23 | iapply (owns_of_rep c.tc arg23 fullShare _) $$ H23
    isplitl [H24]
    · first | iexact H24 | iapply (owns_of_rep c.tc arg24 fullShare _) $$ H24
    isplitl [H25]
    · first | iexact H25 | iapply (owns_of_rep c.tc arg25 fullShare _) $$ H25
    isplitl [H27]
    · first | iexact H27 | iapply (owns_of_rep c.tc arg27 fullShare _) $$ H27
    isplitl [H28]
    · first | iexact H28 | iapply (owns_of_rep c.tc arg28 fullShare _) $$ H28
    isplitl [H29]
    · first | iexact H29 | iapply (owns_of_rep c.tc arg29 fullShare _) $$ H29
    · first | iexact H30 | iapply (owns_of_rep c.tc arg30 fullShare _) $$ H30
  · rw [dif_neg hC, dif_neg hC, if_neg (fun h => hC h.1)]
    iintro H Hk
    iapply Hk
    iexact H

theorem stA_keep_x1 (i : grid0.Coords) (T : Vec F S17 .i32) (v14 v16 : BitVec 32) (W : Wins F) (S : St F) : (stA i T v14 v16 W S).x1 = S.x1 := by unfold stA; split <;> rfl
theorem stA_keep_smax1 (i : grid0.Coords) (T : Vec F S17 .i32) (v14 v16 : BitVec 32) (W : Wins F) (S : St F) : (stA i T v14 v16 W S).smax1 = S.smax1 := by unfold stA; split <;> rfl
theorem stA_keep_ssum (i : grid0.Coords) (T : Vec F S17 .i32) (v14 v16 : BitVec 32) (W : Wins F) (S : St F) : (stA i T v14 v16 W S).ssum = S.ssum := by unfold stA; split <;> rfl
theorem stA_keep_scnt (i : grid0.Coords) (T : Vec F S17 .i32) (v14 v16 : BitVec 32) (W : Wins F) (S : St F) : (stA i T v14 v16 W S).scnt = S.scnt := by unfold stA; split <;> rfl
theorem stB_keep_smax0 (i : grid0.Coords) (T : Vec F S17 .i32) (v14 v16 : BitVec 32) (W : Wins F) (S : St F) : (stB i T v14 v16 W S).smax0 = S.smax0 := by unfold stB; split <;> rfl
theorem stB_keep_ssum (i : grid0.Coords) (T : Vec F S17 .i32) (v14 v16 : BitVec 32) (W : Wins F) (S : St F) : (stB i T v14 v16 W S).ssum = S.ssum := by unfold stB; split <;> rfl
theorem stB_keep_scnt (i : grid0.Coords) (T : Vec F S17 .i32) (v14 v16 : BitVec 32) (W : Wins F) (S : St F) : (stB i T v14 v16 W S).scnt = S.scnt := by unfold stB; split <;> rfl
theorem stC_keep_smax0 (i : grid0.Coords) (W : Wins F) (S : St F) : (stC i W S).smax0 = S.smax0 := by unfold stC; split <;> rfl
theorem stC_keep_x1 (i : grid0.Coords) (W : Wins F) (S : St F) : (stC i W S).x1 = S.x1 := by unfold stC; split <;> rfl
theorem stC_keep_smax1 (i : grid0.Coords) (W : Wins F) (S : St F) : (stC i W S).smax1 = S.smax1 := by unfold stC; split <;> rfl
theorem stInit_keep_x1 (i : grid0.Coords) (S : St F) : (stInit i S).x1 = S.x1 := by unfold stInit; split <;> rfl

/-- The two table words and the check on them. -/
theorem words_spec (c : Dev nD) (i : grid0.Coords) (arg1 : Memref sig .tc .smem S16x2 .i32) (q1 : PosShare TreeShare) (B : Vec F S16x2 .i32)
    (hw : k0_chk1 i (lowAt i B) (highAt i B)) {β : Type}
    (κ : (v14 v16 : BitVec 32) → k0_chk1 i v14 v16 → Prog (TpuEff nD τ sig (Elt F) Λ₀ .tc) β) (Q : β → sProp 𝕄) :
    (owns (c : Thread nD τ) arg1 q1 B : sProp 𝕄) ⊢
     iprop((owns (c : Thread nD τ) arg1 q1 B -∗ wp frame (wpE (defs₀ (F := F)) Variants.none c none) Set.univ (κ (lowAt i B) (highAt i B) hw) Q)
      -∗ wp frame (wpE (defs₀ (F := F)) Variants.none c none) Set.univ (wordsP i arg1 κ) Q) := by
  have e0 : (View.readAt (Elt F) arg1.view (Rect.unit (s := S16x2) (k0_off1 i) S1x1.size (k0_off1_inb i)).toLoadRect (arg1.view.rep B) : S1x1.Idx → Elt F .i32)
      (Shape.Idx.first (numel1_S1x1.symm ▸ Nat.one_pos)) = lowAt i B := by rw [View.readAt_rep_unit _ _ _ rfl (k0_off1_inb i)]; rfl
  have e1 : (View.readAt (Elt F) arg1.view (Rect.unit (s := S16x2) (k0_off2 i) S1x1.size (k0_off2_inb i)).toLoadRect (arg1.view.rep B) : S1x1.Idx → Elt F .i32)
      (Shape.Idx.first (numel1_S1x1.symm ▸ Nat.one_pos)) = highAt i B := by rw [View.readAt_rep_unit _ _ _ rfl (k0_off2_inb i)]; rfl
  rw [owns_eq_rep c.tc arg1]
  unfold wordsP
  have hw' := hw
  rw [← e0, ← e1] at hw'
  iintro H1 Hk
  sl_exec
  rw [← owns_eq_rep c.tc arg1]
  have hh : ∀ (a b : BitVec 32) (ha : a = lowAt i B) (hb : b = highAt i B) (h : k0_chk1 i a b), κ a b h = κ (lowAt i B) (highAt i B) hw := by
    intro a b ha hb h; subst ha hb; rfl
  have r0 : words_spec.sl.r c i arg1 B = lowAt i B := e0
  have r1 : words_spec.sl.r_1 c i arg1 B = highAt i B := e1
  rw [hh _ _ r0 r1]
  exact (show (iprop(owns (c : Thread nD τ) arg1 q1 B ∗ (owns (c : Thread nD τ) arg1 q1 B -∗ wp frame (wpE (defs₀ (F := F)) Variants.none c none) Set.univ (κ (lowAt i B) (highAt i B) hw) Q)) : sProp 𝕄)
    ⊢ wp frame (wpE (defs₀ (F := F)) Variants.none c none) Set.univ (κ (lowAt i B) (highAt i B) hw) Q from by iintro ⟨H1, Hk⟩; iapply Hk $$ H1)

end Cert.KernelIdeal.Hand
end
-- ==== Proof.KI.BodySpec.lean ====
module

public import proofs.«01_k».proof.Proof.Gen.KernelIdeal
public import proofs.«01_k».proof.Proof.Gen.KernelIdeal.Skeleton
public import proofs.«01_k».proof.Proof.KI.SpecA
public import proofs.«01_k».proof.Proof.KI.SpecB
public import proofs.«01_k».proof.Proof.KI.SpecD
public import Idealize.ShloMosaic.Lib.VecWindow
public import Idealize.ShloMosaic.Lib.Pipeline.TableIdle

@[expose] public section

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F] {U : Type} [URA U]
local notation "𝕄" => MT nD τ sig Unit (Elt F) ℕ U ℕ

attribute [local irreducible] initP phaseAP phaseBP phaseCP wordsP

/-- The scratch and the result's block after one point, from the two table words. -/
theorem bodyP_spec (c : Dev nD) (i : grid0.Coords) (arg1 : Memref sig .tc .smem S16x2 .i32) (arg2 : Memref sig .tc .smem S17 .i32) (arg3 : Memref sig .tc .vmem S2048x128 .f32) (arg4 : Memref sig .tc .vmem S1x16 .i32) (arg5 : Memref sig .tc .vmem S1x16 .i32) (arg6 : Memref sig .tc .vmem S256x128 .f32) (arg7 : Memref sig .tc .vmem S256x128 .f32) (arg8 : Memref sig .tc .vmem S1x256 .f32) (arg9 : Memref sig .tc .vmem S1x256 .f32) (arg10 : Memref sig .tc .vmem S1x256 .f32) (arg11 : Memref sig .tc .vmem S1x1 .f32) (arg12 : Memref sig .tc .vmem S256x256 .f32) (arg13 : Memref sig .tc .vmem S256x256 .f32) (arg14 : Memref sig .tc .vmem S1x256 .f32) (arg15 : Memref sig .tc .vmem S1x256 .f32) (arg16 : Memref sig .tc .vmem S1x256 .f32) (arg17 : Memref sig .tc .vmem S1x1 .f32) (arg18 : Memref sig .tc .vmem S128x256 .f32) (arg19 : Memref sig .tc .vmem S1x128 .f32) (arg20 : Memref sig .tc .vmem S1x128 .f32) (arg21 : Memref sig .tc .vmem S1x128 .f32) (arg22 : Memref sig .tc .vmem S1x1 .f32) (arg23 : Memref sig .tc .vmem S64x128 .f32) (arg24 : Memref sig .tc .vmem S1x64 .f32) (arg25 : Memref sig .tc .vmem S16x64 .f32) (arg26 : Memref sig .tc .vmem S16x128 .f32) (arg27 : Memref sig .tc .vmem S32768x256 .f32) (arg28 : Memref sig .tc .vmem S16x256 .f32) (arg29 : Memref sig .tc .vmem S16x256 .f32) (arg30 : Memref sig .tc .vmem S16x256 .f32)
    (q1 q2 : PosShare TreeShare) (B : Vec F S16x2 .i32) (T : Vec F S17 .i32) (W : Wins F) (S : St F) (O : Vec F S16x64 .f32)
    (hw : k0_chk1 i (lowAt i B) (highAt i B)) (Q : PUnit → sProp 𝕄) :
    (iprop(owns (c : Thread nD τ) arg1 q1 B ∗ owns (c : Thread nD τ) arg2 q2 T ∗ owns (c : Thread nD τ) arg3 fullShare W.w3 ∗ owns (c : Thread nD τ) arg4 fullShare W.w4 ∗ owns (c : Thread nD τ) arg5 fullShare W.w5 ∗ owns (c : Thread nD τ) arg6 fullShare W.w6 ∗ owns (c : Thread nD τ) arg7 fullShare W.w7 ∗ owns (c : Thread nD τ) arg8 fullShare W.w8 ∗ owns (c : Thread nD τ) arg9 fullShare W.w9 ∗ owns (c : Thread nD τ) arg10 fullShare W.w10 ∗ owns (c : Thread nD τ) arg11 fullShare W.w11 ∗ owns (c : Thread nD τ) arg12 fullShare W.w12 ∗ owns (c : Thread nD τ) arg13 fullShare W.w13 ∗ owns (c : Thread nD τ) arg14 fullShare W.w14 ∗ owns (c : Thread nD τ) arg15 fullShare W.w15 ∗ owns (c : Thread nD τ) arg16 fullShare W.w16 ∗ owns (c : Thread nD τ) arg17 fullShare W.w17 ∗ owns (c : Thread nD τ) arg18 fullShare W.w18 ∗ owns (c : Thread nD τ) arg19 fullShare W.w19 ∗ owns (c : Thread nD τ) arg20 fullShare W.w20 ∗ owns (c : Thread nD τ) arg21 fullShare W.w21 ∗ owns (c : Thread nD τ) arg22 fullShare W.w22 ∗ owns (c : Thread nD τ) arg23 fullShare W.w23 ∗ owns (c : Thread nD τ) arg24 fullShare W.w24 ∗ owns (c : Thread nD τ) arg25 fullShare O ∗ owns (c : Thread nD τ) arg26 fullShare (S).smax0 ∗ owns (c : Thread nD τ) arg27 fullShare (S).x1 ∗ owns (c : Thread nD τ) arg28 fullShare (S).smax1 ∗ owns (c : Thread nD τ) arg29 fullShare (S).ssum ∗ owns (c : Thread nD τ) arg30 fullShare (S).scnt) : sProp 𝕄) ⊢
     iprop(((owns (c : Thread nD τ) arg1 q1 B ∗ owns (c : Thread nD τ) arg2 q2 T ∗ owns (c : Thread nD τ) arg3 fullShare W.w3 ∗ owns (c : Thread nD τ) arg4 fullShare W.w4 ∗ owns (c : Thread nD τ) arg5 fullShare W.w5 ∗ owns (c : Thread nD τ) arg6 fullShare W.w6 ∗ owns (c : Thread nD τ) arg7 fullShare W.w7 ∗ owns (c : Thread nD τ) arg8 fullShare W.w8 ∗ owns (c : Thread nD τ) arg9 fullShare W.w9 ∗ owns (c : Thread nD τ) arg10 fullShare W.w10 ∗ owns (c : Thread nD τ) arg11 fullShare W.w11 ∗ owns (c : Thread nD τ) arg12 fullShare W.w12 ∗ owns (c : Thread nD τ) arg13 fullShare W.w13 ∗ owns (c : Thread nD τ) arg14 fullShare W.w14 ∗ owns (c : Thread nD τ) arg15 fullShare W.w15 ∗ owns (c : Thread nD τ) arg16 fullShare W.w16 ∗ owns (c : Thread nD τ) arg17 fullShare W.w17 ∗ owns (c : Thread nD τ) arg18 fullShare W.w18 ∗ owns (c : Thread nD τ) arg19 fullShare W.w19 ∗ owns (c : Thread nD τ) arg20 fullShare W.w20 ∗ owns (c : Thread nD τ) arg21 fullShare W.w21 ∗ owns (c : Thread nD τ) arg22 fullShare W.w22 ∗ owns (c : Thread nD τ) arg23 fullShare W.w23 ∗ owns (c : Thread nD τ) arg24 fullShare W.w24 ∗ owns (c : Thread nD τ) arg25 fullShare (outC i W (step i B T W S) O) ∗ owns (c : Thread nD τ) arg26 fullShare (step i B T W S).smax0 ∗ owns (c : Thread nD τ) arg27 fullShare (step i B T W S).x1 ∗ owns (c : Thread nD τ) arg28 fullShare (step i B T W S).smax1 ∗ owns (c : Thread nD τ) arg29 fullShare (step i B T W S).ssum ∗ owns (c : Thread nD τ) arg30 fullShare (step i B T W S).scnt) -∗ Q ⟨⟩)
      -∗ wp frame (wpE (defs₀ (F := F)) Variants.none c none) Set.univ (bodyP i arg1 arg2 arg3 arg4 arg5 arg6 arg7 arg8 arg9 arg10 arg11 arg12 arg13 arg14 arg15 arg16 arg17 arg18 arg19 arg20 arg21 arg22 arg23 arg24 arg25 arg26 arg27 arg28 arg29 arg30) Q) := by
  unfold bodyP step
  iintro ⟨H1, H2, H3, H4, H5, H6, H7, H8, H9, H10, H11, H12, H13, H14, H15, H16, H17, H18, H19, H20, H21, H22, H23, H24, H25, H26, H27, H28, H29, H30⟩ Hk
  iapply (initP_spec c i arg26 arg28 arg29 arg30 S _ Q) $$ [H26 H28 H29 H30]
  · isplitl [H26]
    · first | iexact H26 | iapply (owns_of_rep c.tc arg26 fullShare _) $$ H26
    isplitl [H28]
    · first | iexact H28 | iapply (owns_of_rep c.tc arg28 fullShare _) $$ H28
    isplitl [H29]
    · first | iexact H29 | iapply (owns_of_rep c.tc arg29 fullShare _) $$ H29
    · first | iexact H30 | iapply (owns_of_rep c.tc arg30 fullShare _) $$ H30
  iintro ⟨H26, H28, H29, H30⟩
  iapply (words_spec c i arg1 q1 B hw _ Q) $$ H1
  iintro H1
  iapply (phaseAP_spec c i arg2 arg3 arg26 _ _ hw q2 T W (stInit i S) _ Q) $$ [H2 H3 H26]
  · isplitl [H2]
    · first | iexact H2 | iapply (owns_of_rep c.tc arg2 fullShare _) $$ H2
    isplitl [H3]
    · first | iexact H3 | iapply (owns_of_rep c.tc arg3 fullShare _) $$ H3
    · first | iexact H26 | iapply (owns_of_rep c.tc arg26 fullShare _) $$ H26
  iintro ⟨H2, H3, H26⟩
  iapply (phaseBP_spec c i arg2 arg3 arg4 arg5 arg6 arg7 arg8 arg9 arg10 arg11 arg26 arg27 arg28 _ _ hw q2 T W (stA i T (lowAt i B) (highAt i B) W (stInit i S)) _ Q) $$ [H2 H3 H4 H5 H6 H7 H8 H9 H10 H11 H26 H27 H28]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H26]; · iexact H26
    isplitl [H27]; · rw [stA_keep_x1, stInit_keep_x1]; iexact H27
    rw [stA_keep_smax1]; iexact H28
  iintro ⟨H2, H3, H4, H5, H6, H7, H8, H9, H10, H11, H26, H27, H28⟩
  iapply (phaseCP_spec c i arg4 arg5 arg12 arg13 arg14 arg15 arg16 arg17 arg18 arg19 arg20 arg21 arg22 arg23 arg24 arg25 arg27 arg28 arg29 arg30 W (stB i T (lowAt i B) (highAt i B) W (stA i T (lowAt i B) (highAt i B) W (stInit i S))) O _ Q) $$ [H4 H5 H12 H13 H14 H15 H16 H17 H18 H19 H20 H21 H22 H23 H24 H25 H27 H28 H29 H30]
  · isplitl [H4]; · iexact H4
    isplitl [H5]; · iexact H5
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H27]; · iexact H27
    isplitl [H28]; · iexact H28
    isplitl [H29]; · rw [stB_keep_ssum, stA_keep_ssum]; iexact H29
    rw [stB_keep_scnt, stA_keep_scnt]; iexact H30
  iintro ⟨H4, H5, H12, H13, H14, H15, H16, H17, H18, H19, H20, H21, H22, H23, H24, H25, H27, H28, H29, H30⟩
  rw [wp_pure]
  imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · rw [stC_keep_smax0, stB_keep_smax0]; iexact H26
  isplitl [H27]; · iexact H27
  isplitl [H28]; · iexact H28
  isplitl [H29]; · iexact H29
  iexact H30

end Cert.KernelIdeal.Hand
end
-- ==== Proof.KI.State.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.KI.Stretch
public import Idealize.ShloMosaic.Lib.VecWindow
public import Idealize.ShloMosaic.Lib.Pipeline.TableIdle

@[expose] public section

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F] {U : Type} [URA U]
local notation "𝕄" => MT nD τ sig Unit (Elt F) ℕ U ℕ

/-! ## The grid's arithmetic

The grid is one axis of 48 points, three sweeps of sixteen blocks. Which sweep a point belongs to, and where its block lies,
as the kernel computes them. -/

theorem isFirst_iff : ∀ t : Fin grid0.N, isFirst (grid0.coords t) ↔ t.val = 0 := by decide +kernel
theorem cond2_iff : ∀ t : Fin grid0.N, k0_cond2 (grid0.coords t) = 1#1 ↔ t.val < 16 := by decide +kernel
theorem cond21_iff : ∀ t : Fin grid0.N, k0_cond21 (grid0.coords t) = 1#1 ↔ 16 ≤ t.val ∧ t.val < 32 := by decide +kernel
theorem cond40_iff : ∀ t : Fin grid0.N, k0_cond40 (grid0.coords t) = 1#1 ↔ 32 ≤ t.val := by decide +kernel
theorem cond41_iff : ∀ t : Fin grid0.N, k0_cond41 (grid0.coords t) = 1#1 ↔ t.val = 47 := by decide +kernel
theorem off4_eq : ∀ t : Fin grid0.N, 16 ≤ t.val ∧ t.val < 32 → k0_off4 (grid0.coords t) = ![2048 * (t.val - 16), 0] := by decide +kernel
theorem off6_eq : ∀ t : Fin grid0.N, 32 ≤ t.val → k0_off6 (grid0.coords t) = ![2048 * (t.val - 32), 0] := by decide +kernel
theorem off1_eq : ∀ t : Fin grid0.N, k0_off1 (grid0.coords t) = ![t.val % 16, 0] := by decide +kernel
theorem off2_eq : ∀ t : Fin grid0.N, k0_off2 (grid0.coords t) = ![t.val % 16, 1] := by decide +kernel
theorem mult1_eq : ∀ t : Fin grid0.N, k0_mult1 (grid0.coords t) = BitVec.ofNat 32 (2048 * (t.val % 16)) := by decide +kernel

/-- Point `n` of the grid. -/
def pnt (n : ℕ) : Fin grid0.N := ⟨n % 48, by rw [N_0]; omega⟩

theorem pnt_val (t : Fin grid0.N) : pnt t.val = t := Fin.ext (Nat.mod_eq_of_lt (lt_of_lt_of_eq t.isLt N_0))

/-! ## The run of the scratch

The stored layer values start at anything; every block of them is written before it is read, so the run from any contents
agrees with the run from one chosen contents in everything that is read. -/

/-- The scratch before point `n`, from `S`. -/
def stAt (B : Vec F S16x2 .i32) (T : Vec F S17 .i32) (W : Fin grid0.N → Wins F) (S : St F) : ℕ → St F
  | 0 => S
  | n + 1 => step (grid0.coords (pnt n)) B T (W (pnt n)) (stAt B T W S n)

theorem window_at {α : Type} {s : Shape} (X : s.Idx → α) {off off' : Fin s.rank → ℕ} {size : Fin s.rank → ℕ} (h : off = off')
    (inb : ∀ a, off a + size a ≤ s.size a) : VecWindow.window X off size inb = VecWindow.window X off' size (h ▸ inb) := by
  subst h; rfl

theorem blk_inb (j : ℕ) (h : j < 16) : ∀ a, (![2048 * j, 0] : Fin 2 → ℕ) a + S2048x256.size a ≤ S32768x256.size a := by
  intro a; fin_cases a
  · show 2048 * j + 2048 ≤ 32768; omega
  · show 0 + 256 ≤ 256; omega

/-- Block `j` of the stored layer values. -/
abbrev x1Blk (X : Vec F S32768x256 .f32) (j : ℕ) (h : j < 16) : Vec F S2048x256 .f32 :=
  VecWindow.window X ![2048 * j, 0] S2048x256.size (blk_inb j h)

/-- Two scratch states before point `n` agree in everything written so far. -/
structure Agree (n : ℕ) (S A : St F) : Prop where
  smax0 : 0 < n → S.smax0 = A.smax0
  smax1 : 0 < n → S.smax1 = A.smax1
  ssum : 0 < n → S.ssum = A.ssum
  scnt : 0 < n → S.scnt = A.scnt
  x1 : ∀ j (h : j < 16), 16 + j < n → x1Blk S.x1 j h = x1Blk A.x1 j h

theorem Agree.start (S A : St F) : Agree 0 S A :=
  ⟨fun h => absurd h (lt_irrefl _), fun h => absurd h (lt_irrefl _), fun h => absurd h (lt_irrefl _), fun h => absurd h (lt_irrefl _),
    fun _ _ h => absurd h (by omega)⟩

/-- Agreement in the four small buffers, and in the blocks `P` holds of. -/
structure Same (P : ℕ → Prop) (S A : St F) : Prop where
  smax0 : S.smax0 = A.smax0
  smax1 : S.smax1 = A.smax1
  ssum : S.ssum = A.ssum
  scnt : S.scnt = A.scnt
  x1 : ∀ j (h : j < 16), P j → x1Blk S.x1 j h = x1Blk A.x1 j h

theorem Same.init (t : Fin grid0.N) {S A : St F} (h : Agree t.val S A) :
    Same (fun j => 16 + j < t.val) (stInit (grid0.coords t) S) (stInit (grid0.coords t) A) := by
  unfold stInit
  by_cases h0 : t.val = 0
  · rw [if_pos ((isFirst_iff t).mpr h0), if_pos ((isFirst_iff t).mpr h0)]
    exact ⟨rfl, rfl, rfl, rfl, h.x1⟩
  · rw [if_neg fun e => h0 ((isFirst_iff t).mp e), if_neg fun e => h0 ((isFirst_iff t).mp e)]
    have hp := Nat.pos_of_ne_zero h0
    exact ⟨h.smax0 hp, h.smax1 hp, h.ssum hp, h.scnt hp, h.x1⟩

theorem Same.phaseA (i : grid0.Coords) (T : Vec F S17 .i32) (a b : BitVec 32) (W : Wins F) {P : ℕ → Prop} {S A : St F} (h : Same P S A) :
    Same P (stA i T a b W S) (stA i T a b W A) := by
  unfold stA
  split
  · exact ⟨by rw [h.smax0], h.smax1, h.ssum, h.scnt, h.x1⟩
  · exact h

theorem Same.phaseB (t : Fin grid0.N) (T : Vec F S17 .i32) (a b : BitVec 32) (W : Wins F) {S A : St F} (h : Same (fun j => 16 + j < t.val) S A) :
    Same (fun j => 16 + j < t.val + 1) (stB (grid0.coords t) T a b W S) (stB (grid0.coords t) T a b W A) := by
  unfold stB
  by_cases hc : 16 ≤ t.val ∧ t.val < 32
  · rw [if_pos ((cond21_iff t).mpr hc), if_pos ((cond21_iff t).mpr hc)]
    refine ⟨h.smax0, by rw [h.smax0, h.smax1], h.ssum, h.scnt, fun j hj hlt => ?_⟩
    dsimp only
    rw [off4_eq t hc, h.smax0]
    rcases Nat.lt_or_ge (16 + j) t.val with hlt' | hge
    · have hd : (![2048 * j, 0] : Fin 2 → ℕ) 0 + S2048x256.size 0 ≤ (![2048 * (t.val - 16), 0] : Fin 2 → ℕ) 0 := by
        show 2048 * j + 2048 ≤ 2048 * (t.val - 16)
        omega
      unfold x1Blk
      rw [VecWindow.window_put_of_disjoint _ _ _ _ _ _ _ 0 (Or.inl hd), VecWindow.window_put_of_disjoint _ _ _ _ _ _ _ 0 (Or.inl hd)]
      exact h.x1 j hj hlt'
    · obtain rfl : j = t.val - 16 := by omega
      unfold x1Blk
      rw [VecWindow.window_put_same, VecWindow.window_put_same]
  · rw [if_neg fun e => hc ((cond21_iff t).mp e), if_neg fun e => hc ((cond21_iff t).mp e)]
    exact ⟨h.smax0, h.smax1, h.ssum, h.scnt, fun j hj hlt => h.x1 j hj (by omega)⟩

theorem Same.phaseC (t : Fin grid0.N) (W : Wins F) {S A : St F} (h : Same (fun j => 16 + j < t.val + 1) S A) :
    Same (fun j => 16 + j < t.val + 1) (stC (grid0.coords t) W S) (stC (grid0.coords t) W A) := by
  unfold stC
  by_cases hc : 32 ≤ t.val
  · rw [dif_pos ((cond40_iff t).mpr hc), dif_pos ((cond40_iff t).mpr hc)]
    have hN : t.val < 48 := lt_of_lt_of_eq t.isLt N_0
    have hb : blkC (grid0.coords t) ((cond40_iff t).mpr hc) S.x1 = blkC (grid0.coords t) ((cond40_iff t).mpr hc) A.x1 := by
      have h1 := h.x1 (t.val - 32) (by omega) (by omega)
      unfold blkC
      rw [window_at S.x1 (off6_eq t hc), window_at A.x1 (off6_eq t hc)]
      exact h1
    exact ⟨h.smax0, h.smax1, by rw [h.smax1, h.ssum, hb], by rw [h.scnt], h.x1⟩
  · rw [dif_neg fun e => hc ((cond40_iff t).mp e), dif_neg fun e => hc ((cond40_iff t).mp e)]
    exact h

theorem Agree.step (t : Fin grid0.N) (B : Vec F S16x2 .i32) (T : Vec F S17 .i32) (W : Wins F) {S A : St F} (h : Agree t.val S A) :
    Agree (t.val + 1) (step (grid0.coords t) B T W S) (step (grid0.coords t) B T W A) := by
  have h' := Same.phaseC t W (Same.phaseB t T (lowAt (grid0.coords t) B) (highAt (grid0.coords t) B) W
    (Same.phaseA (grid0.coords t) T (lowAt (grid0.coords t) B) (highAt (grid0.coords t) B) W (Same.init t h)))
  exact ⟨fun _ => h'.smax0, fun _ => h'.smax1, fun _ => h'.ssum, fun _ => h'.scnt, h'.x1⟩

end Cert.KernelIdeal.Hand
end
-- ==== Proof.KI.Data.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.KI.BodySpec
public import proofs.«01_k».proof.Proof.KI.State
public import Idealize.ShloMosaic.Lib.VecWindow
public import Idealize.ShloMosaic.Lib.Pipeline.FrameBody
public import Idealize.ShloMosaic.Lib.Pipeline.RegionArraysTS
public import Idealize.ShloMosaic.Lib.Pipeline.TableIdle

@[expose] public section

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]
open Idealize.ShloMosaic.Rounds

/-- The algebra: the pipeline library's, twice. -/
abbrev UU (nD : Nat) (τ : Topo) : Type := UR sig nD τ × UR sig nD τ

local notation "𝕄" => MT nD τ sig Unit (Elt F) ℕ (UU nD τ) ℕ

abbrev EP : Emb (UR sig nD τ) (MT nD τ sig Unit (Elt F) ℕ (UU nD τ) ℕ) := embL

variable (m : (ℓ : Loc nD τ sig) → Buf (Elt F) ℓ) (ρ : Dev nD → PrngReg)

/-! ## The buffers when the region is entered -/

/-- Core `c`'s buffers at launch, as the operations' valuation; -/
abbrev V₀ (c : Dev nD) : Valuation τ sig (Elt F) := fun b => (s₀ m ρ).mem ((c : Dev nD), b)
/-- and when the region is entered: the host operations have run. -/
abbrev V (c : Dev nD) (b : Ref sig .tc) : Buf (Elt F) ((c : Thread nD τ).loc b) := StableHlo.after hostOps0 (V₀ m ρ c) b

/-- The prefetched tables as the host operations leave them. -/
def pf : pre0.Contents (Elt F) := fun k => V m ρ 0 (pre0.ref k)

theorem pf_ok : ok0 (F := F) (pf m ρ) := by unfold ok0; trivial

def adm (_ : Fin 1) : (pcfg0 (F := F)).Adm := ⟨pf m ρ, pf_ok m ρ⟩

/-- The pipeline at them. -/
abbrev cfgA : Cfg sig Λ₀ := cfg0 (adm m ρ 0)

/-- The table of each block's least and greatest segment, and the table of segment ends. -/
abbrev tblB : Vec F S16x2 .i32 := pf m ρ 0
abbrev tblT : Vec F S17 .i32 := pf m ρ 1

/-- The block of window `w` at point `t`. -/
abbrev blkA (c : Dev nD) (w : Fin 23) (t : Fin (cfgA m ρ).N) : ((cfgA m ρ).win w).block.Idx → Elt F ((cfgA m ρ).win w).elt :=
  (((cfgA m ρ).win w).blk t).view.read (Elt F) (V m ρ c (Pipeline.arrRef spec0 w))

/-- The input windows' blocks at point `t`. -/
def winsAt (c : Dev nD) (t : Fin (cfgA m ρ).N) : Wins F where
  w3 := blkA m ρ c 0 t
  w4 := blkA m ρ c 1 t
  w5 := blkA m ρ c 2 t
  w6 := blkA m ρ c 3 t
  w7 := blkA m ρ c 4 t
  w8 := blkA m ρ c 5 t
  w9 := blkA m ρ c 6 t
  w10 := blkA m ρ c 7 t
  w11 := blkA m ρ c 8 t
  w12 := blkA m ρ c 9 t
  w13 := blkA m ρ c 10 t
  w14 := blkA m ρ c 11 t
  w15 := blkA m ρ c 12 t
  w16 := blkA m ρ c 13 t
  w17 := blkA m ρ c 14 t
  w18 := blkA m ρ c 15 t
  w19 := blkA m ρ c 16 t
  w20 := blkA m ρ c 17 t
  w21 := blkA m ρ c 18 t
  w22 := blkA m ρ c 19 t
  w23 := blkA m ρ c 20 t
  w24 := blkA m ρ c 21 t

/-- The scratch before point `n` of the run whose stored layer values start at one value. -/
def stFix (c : Dev nD) (n : ℕ) : St F :=
  stAt (tblB m ρ) (tblT m ρ) (winsAt m ρ c) ⟨k0_pay1, fun _ => Classical.choice ((inferInstance : ∀ e, Nonempty (Elt F e)) _), k0_pay2, k0_pay3, k0_pay4⟩ n

/-- The result's block: the head on the scratch after point `t`. -/
def outAt (c : Dev nD) (t : Fin (cfgA m ρ).N) : Vec F S16x64 .f32 :=
  headC (winsAt m ρ c t) (stFix m ρ c (t.val + 1)).ssum (stFix m ρ c (t.val + 1)).scnt

/-- The scratch buffers at `S`. -/
def scratch (c : Dev nD) (S : St F) : sProp 𝕄 :=
  iprop(owns (c : Thread nD τ) (Memref.whole cc0_scratch0) fullShare S.smax0 ∗ owns (c : Thread nD τ) (Memref.whole cc0_scratch1) fullShare S.x1 ∗ owns (c : Thread nD τ) (Memref.whole cc0_scratch2) fullShare S.smax1 ∗ owns (c : Thread nD τ) (Memref.whole cc0_scratch3) fullShare S.ssum ∗ owns (c : Thread nD τ) (Memref.whole cc0_scratch4) fullShare S.scnt)

/-- The two tables at their contents. -/
def tables (c : Dev nD) : sProp 𝕄 :=
  iprop(owns (c : Thread nD τ) (Memref.whole main_v16) fullShare (tblB m ρ) ∗ owns (c : Thread nD τ) (Memref.whole main_v7) fullShare (tblT m ρ))

/-- The invariant before point `n`: the tables, and the scratch at contents that agree with the run's. -/
def inv (c : Dev nD) (n : ℕ) : sProp 𝕄 :=
  iprop(tables m ρ c ∗ ∃ S, ⌜Agree n S (stFix m ρ c n)⌝ ∗ scratch c S)

/-- The proof data over entry contents `X`, the result's block left at `Z`: each input window is left as fetched. -/
def datOf (a : (pcfg0 (F := F)).Adm) (c : Dev nD) (X : (b : Ref sig .tc) → Buf (Elt F) ((c : Thread nD τ).loc b)) (Z : Fin (cfg0 a).N → Vec F S16x64 .f32)
    (Φ : Fin ((cfg0 a).N + 1) → sProp 𝕄) : Dat τ (Elt F) Unit ℕ (UU nD τ) ℕ (cfg0 a) c where
  A w := X (Pipeline.arrRef spec0 w)
  after w t := match w with
    | ⟨0, _⟩ => (((cfg0 a).win 0).blk t).view.read (Elt F) (X (Pipeline.arrRef spec0 0))
    | ⟨1, _⟩ => (((cfg0 a).win 1).blk t).view.read (Elt F) (X (Pipeline.arrRef spec0 1))
    | ⟨2, _⟩ => (((cfg0 a).win 2).blk t).view.read (Elt F) (X (Pipeline.arrRef spec0 2))
    | ⟨3, _⟩ => (((cfg0 a).win 3).blk t).view.read (Elt F) (X (Pipeline.arrRef spec0 3))
    | ⟨4, _⟩ => (((cfg0 a).win 4).blk t).view.read (Elt F) (X (Pipeline.arrRef spec0 4))
    | ⟨5, _⟩ => (((cfg0 a).win 5).blk t).view.read (Elt F) (X (Pipeline.arrRef spec0 5))
    | ⟨6, _⟩ => (((cfg0 a).win 6).blk t).view.read (Elt F) (X (Pipeline.arrRef spec0 6))
    | ⟨7, _⟩ => (((cfg0 a).win 7).blk t).view.read (Elt F) (X (Pipeline.arrRef spec0 7))
    | ⟨8, _⟩ => (((cfg0 a).win 8).blk t).view.read (Elt F) (X (Pipeline.arrRef spec0 8))
    | ⟨9, _⟩ => (((cfg0 a).win 9).blk t).view.read (Elt F) (X (Pipeline.arrRef spec0 9))
    | ⟨10, _⟩ => (((cfg0 a).win 10).blk t).view.read (Elt F) (X (Pipeline.arrRef spec0 10))
    | ⟨11, _⟩ => (((cfg0 a).win 11).blk t).view.read (Elt F) (X (Pipeline.arrRef spec0 11))
    | ⟨12, _⟩ => (((cfg0 a).win 12).blk t).view.read (Elt F) (X (Pipeline.arrRef spec0 12))
    | ⟨13, _⟩ => (((cfg0 a).win 13).blk t).view.read (Elt F) (X (Pipeline.arrRef spec0 13))
    | ⟨14, _⟩ => (((cfg0 a).win 14).blk t).view.read (Elt F) (X (Pipeline.arrRef spec0 14))
    | ⟨15, _⟩ => (((cfg0 a).win 15).blk t).view.read (Elt F) (X (Pipeline.arrRef spec0 15))
    | ⟨16, _⟩ => (((cfg0 a).win 16).blk t).view.read (Elt F) (X (Pipeline.arrRef spec0 16))
    | ⟨17, _⟩ => (((cfg0 a).win 17).blk t).view.read (Elt F) (X (Pipeline.arrRef spec0 17))
    | ⟨18, _⟩ => (((cfg0 a).win 18).blk t).view.read (Elt F) (X (Pipeline.arrRef spec0 18))
    | ⟨19, _⟩ => (((cfg0 a).win 19).blk t).view.read (Elt F) (X (Pipeline.arrRef spec0 19))
    | ⟨20, _⟩ => (((cfg0 a).win 20).blk t).view.read (Elt F) (X (Pipeline.arrRef spec0 20))
    | ⟨21, _⟩ => (((cfg0 a).win 21).blk t).view.read (Elt F) (X (Pipeline.arrRef spec0 21))
    | ⟨22, _⟩ => Z t
    | ⟨_ + 23, h⟩ => absurd h (Nat.not_lt.2 (Nat.le_add_left _ _))
  Φ := Φ
  q _ := fullShare
  owed _ := 0

/-- Each input window's buffer holds its block whenever the body runs. -/
theorem before_d0 (a : (pcfg0 (F := F)).Adm) (c : Dev nD) (X Z Φ) (t : Fin (cfg0 a).N) (d) : (datOf a c X Z Φ).before 0 t d = (((cfg0 a).win 0).blk t).view.read (Elt F) (X (Pipeline.arrRef spec0 0)) :=
  (Dat.before_in_eq_fetched (datOf a c X Z Φ) 0 rfl (fun _ => rfl) (fun _ _ _ => rfl) (fun _ => rfl) t d).trans rfl
theorem before_d1 (a : (pcfg0 (F := F)).Adm) (c : Dev nD) (X Z Φ) (t : Fin (cfg0 a).N) (d) : (datOf a c X Z Φ).before 1 t d = (((cfg0 a).win 1).blk t).view.read (Elt F) (X (Pipeline.arrRef spec0 1)) :=
  (Dat.before_in_eq_fetched (datOf a c X Z Φ) 1 rfl (fun _ => rfl) (fun _ _ _ => rfl) (fun _ => rfl) t d).trans rfl
theorem before_d2 (a : (pcfg0 (F := F)).Adm) (c : Dev nD) (X Z Φ) (t : Fin (cfg0 a).N) (d) : (datOf a c X Z Φ).before 2 t d = (((cfg0 a).win 2).blk t).view.read (Elt F) (X (Pipeline.arrRef spec0 2)) :=
  (Dat.before_in_eq_fetched (datOf a c X Z Φ) 2 rfl (fun _ => rfl) (fun _ _ _ => rfl) (fun _ => rfl) t d).trans rfl
theorem before_d3 (a : (pcfg0 (F := F)).Adm) (c : Dev nD) (X Z Φ) (t : Fin (cfg0 a).N) (d) : (datOf a c X Z Φ).before 3 t d = (((cfg0 a).win 3).blk t).view.read (Elt F) (X (Pipeline.arrRef spec0 3)) :=
  (Dat.before_in_eq_fetched (datOf a c X Z Φ) 3 rfl (fun _ => rfl) (fun _ _ _ => rfl) (fun _ => rfl) t d).trans rfl
theorem before_d4 (a : (pcfg0 (F := F)).Adm) (c : Dev nD) (X Z Φ) (t : Fin (cfg0 a).N) (d) : (datOf a c X Z Φ).before 4 t d = (((cfg0 a).win 4).blk t).view.read (Elt F) (X (Pipeline.arrRef spec0 4)) :=
  (Dat.before_in_eq_fetched (datOf a c X Z Φ) 4 rfl (fun _ => rfl) (fun _ _ _ => rfl) (fun _ => rfl) t d).trans rfl
theorem before_d5 (a : (pcfg0 (F := F)).Adm) (c : Dev nD) (X Z Φ) (t : Fin (cfg0 a).N) (d) : (datOf a c X Z Φ).before 5 t d = (((cfg0 a).win 5).blk t).view.read (Elt F) (X (Pipeline.arrRef spec0 5)) :=
  (Dat.before_in_eq_fetched (datOf a c X Z Φ) 5 rfl (fun _ => rfl) (fun _ _ _ => rfl) (fun _ => rfl) t d).trans rfl
theorem before_d6 (a : (pcfg0 (F := F)).Adm) (c : Dev nD) (X Z Φ) (t : Fin (cfg0 a).N) (d) : (datOf a c X Z Φ).before 6 t d = (((cfg0 a).win 6).blk t).view.read (Elt F) (X (Pipeline.arrRef spec0 6)) :=
  (Dat.before_in_eq_fetched (datOf a c X Z Φ) 6 rfl (fun _ => rfl) (fun _ _ _ => rfl) (fun _ => rfl) t d).trans rfl
theorem before_d7 (a : (pcfg0 (F := F)).Adm) (c : Dev nD) (X Z Φ) (t : Fin (cfg0 a).N) (d) : (datOf a c X Z Φ).before 7 t d = (((cfg0 a).win 7).blk t).view.read (Elt F) (X (Pipeline.arrRef spec0 7)) :=
  (Dat.before_in_eq_fetched (datOf a c X Z Φ) 7 rfl (fun _ => rfl) (fun _ _ _ => rfl) (fun _ => rfl) t d).trans rfl
theorem before_d8 (a : (pcfg0 (F := F)).Adm) (c : Dev nD) (X Z Φ) (t : Fin (cfg0 a).N) (d) : (datOf a c X Z Φ).before 8 t d = (((cfg0 a).win 8).blk t).view.read (Elt F) (X (Pipeline.arrRef spec0 8)) :=
  (Dat.before_in_eq_fetched (datOf a c X Z Φ) 8 rfl (fun _ => rfl) (fun _ _ _ => rfl) (fun _ => rfl) t d).trans rfl
theorem before_d9 (a : (pcfg0 (F := F)).Adm) (c : Dev nD) (X Z Φ) (t : Fin (cfg0 a).N) (d) : (datOf a c X Z Φ).before 9 t d = (((cfg0 a).win 9).blk t).view.read (Elt F) (X (Pipeline.arrRef spec0 9)) :=
  (Dat.before_in_eq_fetched (datOf a c X Z Φ) 9 rfl (fun _ => rfl) (fun _ _ _ => rfl) (fun _ => rfl) t d).trans rfl
theorem before_d10 (a : (pcfg0 (F := F)).Adm) (c : Dev nD) (X Z Φ) (t : Fin (cfg0 a).N) (d) : (datOf a c X Z Φ).before 10 t d = (((cfg0 a).win 10).blk t).view.read (Elt F) (X (Pipeline.arrRef spec0 10)) :=
  (Dat.before_in_eq_fetched (datOf a c X Z Φ) 10 rfl (fun _ => rfl) (fun _ _ _ => rfl) (fun _ => rfl) t d).trans rfl
theorem before_d11 (a : (pcfg0 (F := F)).Adm) (c : Dev nD) (X Z Φ) (t : Fin (cfg0 a).N) (d) : (datOf a c X Z Φ).before 11 t d = (((cfg0 a).win 11).blk t).view.read (Elt F) (X (Pipeline.arrRef spec0 11)) :=
  (Dat.before_in_eq_fetched (datOf a c X Z Φ) 11 rfl (fun _ => rfl) (fun _ _ _ => rfl) (fun _ => rfl) t d).trans rfl
theorem before_d12 (a : (pcfg0 (F := F)).Adm) (c : Dev nD) (X Z Φ) (t : Fin (cfg0 a).N) (d) : (datOf a c X Z Φ).before 12 t d = (((cfg0 a).win 12).blk t).view.read (Elt F) (X (Pipeline.arrRef spec0 12)) :=
  (Dat.before_in_eq_fetched (datOf a c X Z Φ) 12 rfl (fun _ => rfl) (fun _ _ _ => rfl) (fun _ => rfl) t d).trans rfl
theorem before_d13 (a : (pcfg0 (F := F)).Adm) (c : Dev nD) (X Z Φ) (t : Fin (cfg0 a).N) (d) : (datOf a c X Z Φ).before 13 t d = (((cfg0 a).win 13).blk t).view.read (Elt F) (X (Pipeline.arrRef spec0 13)) :=
  (Dat.before_in_eq_fetched (datOf a c X Z Φ) 13 rfl (fun _ => rfl) (fun _ _ _ => rfl) (fun _ => rfl) t d).trans rfl
theorem before_d14 (a : (pcfg0 (F := F)).Adm) (c : Dev nD) (X Z Φ) (t : Fin (cfg0 a).N) (d) : (datOf a c X Z Φ).before 14 t d = (((cfg0 a).win 14).blk t).view.read (Elt F) (X (Pipeline.arrRef spec0 14)) :=
  (Dat.before_in_eq_fetched (datOf a c X Z Φ) 14 rfl (fun _ => rfl) (fun _ _ _ => rfl) (fun _ => rfl) t d).trans rfl
theorem before_d15 (a : (pcfg0 (F := F)).Adm) (c : Dev nD) (X Z Φ) (t : Fin (cfg0 a).N) (d) : (datOf a c X Z Φ).before 15 t d = (((cfg0 a).win 15).blk t).view.read (Elt F) (X (Pipeline.arrRef spec0 15)) :=
  (Dat.before_in_eq_fetched (datOf a c X Z Φ) 15 rfl (fun _ => rfl) (fun _ _ _ => rfl) (fun _ => rfl) t d).trans rfl
theorem before_d16 (a : (pcfg0 (F := F)).Adm) (c : Dev nD) (X Z Φ) (t : Fin (cfg0 a).N) (d) : (datOf a c X Z Φ).before 16 t d = (((cfg0 a).win 16).blk t).view.read (Elt F) (X (Pipeline.arrRef spec0 16)) :=
  (Dat.before_in_eq_fetched (datOf a c X Z Φ) 16 rfl (fun _ => rfl) (fun _ _ _ => rfl) (fun _ => rfl) t d).trans rfl
theorem before_d17 (a : (pcfg0 (F := F)).Adm) (c : Dev nD) (X Z Φ) (t : Fin (cfg0 a).N) (d) : (datOf a c X Z Φ).before 17 t d = (((cfg0 a).win 17).blk t).view.read (Elt F) (X (Pipeline.arrRef spec0 17)) :=
  (Dat.before_in_eq_fetched (datOf a c X Z Φ) 17 rfl (fun _ => rfl) (fun _ _ _ => rfl) (fun _ => rfl) t d).trans rfl
theorem before_d18 (a : (pcfg0 (F := F)).Adm) (c : Dev nD) (X Z Φ) (t : Fin (cfg0 a).N) (d) : (datOf a c X Z Φ).before 18 t d = (((cfg0 a).win 18).blk t).view.read (Elt F) (X (Pipeline.arrRef spec0 18)) :=
  (Dat.before_in_eq_fetched (datOf a c X Z Φ) 18 rfl (fun _ => rfl) (fun _ _ _ => rfl) (fun _ => rfl) t d).trans rfl
theorem before_d19 (a : (pcfg0 (F := F)).Adm) (c : Dev nD) (X Z Φ) (t : Fin (cfg0 a).N) (d) : (datOf a c X Z Φ).before 19 t d = (((cfg0 a).win 19).blk t).view.read (Elt F) (X (Pipeline.arrRef spec0 19)) :=
  (Dat.before_in_eq_fetched (datOf a c X Z Φ) 19 rfl (fun _ => rfl) (fun _ _ _ => rfl) (fun _ => rfl) t d).trans rfl
theorem before_d20 (a : (pcfg0 (F := F)).Adm) (c : Dev nD) (X Z Φ) (t : Fin (cfg0 a).N) (d) : (datOf a c X Z Φ).before 20 t d = (((cfg0 a).win 20).blk t).view.read (Elt F) (X (Pipeline.arrRef spec0 20)) :=
  (Dat.before_in_eq_fetched (datOf a c X Z Φ) 20 rfl (fun _ => rfl) (fun _ _ _ => rfl) (fun _ => rfl) t d).trans rfl
theorem before_d21 (a : (pcfg0 (F := F)).Adm) (c : Dev nD) (X Z Φ) (t : Fin (cfg0 a).N) (d) : (datOf a c X Z Φ).before 21 t d = (((cfg0 a).win 21).blk t).view.read (Elt F) (X (Pipeline.arrRef spec0 21)) :=
  (Dat.before_in_eq_fetched (datOf a c X Z Φ) 21 rfl (fun _ => rfl) (fun _ _ _ => rfl) (fun _ => rfl) t d).trans rfl

/-- The proof data of this run. -/
def dats (_ : Fin 1) (c : Dev nD) : Dat τ (Elt F) Unit ℕ (UU nD τ) ℕ (cfgA m ρ) c :=
  datOf (adm m ρ 0) c (V m ρ c) (outAt m ρ c) fun t => inv m ρ c t.val

theorem A_eq (c : Dev nD) (w : Fin (cfgA m ρ).W) : (dats m ρ 0 c).A w = V m ρ c (Pipeline.arrRef spec0 w) := by
  dsimp only [dats, datOf]

/-- The body at point `t`, as the pipeline calls it. -/
abbrev bodyAt (t : Fin (cfgA m ρ).N) : Prog (TpuEff nD τ sig (Elt F) Λ₀ .tc) PUnit :=
  cc0__deepset_kernel (grid0.coords t) (Memref.whole main_v16) (Memref.isWhole_whole _) (Memref.whole main_v7) (Memref.isWhole_whole _) (spec0_0.stage ((cfgA m ρ).slots t 0)) (hstage0_0 (((cfgA m ρ).slots t 0).cast nbuf0_0)) (spec0_1.stage ((cfgA m ρ).slots t 1)) (hstage0_1 (((cfgA m ρ).slots t 1).cast nbuf0_1)) (spec0_2.stage ((cfgA m ρ).slots t 2)) (hstage0_2 (((cfgA m ρ).slots t 2).cast nbuf0_2)) (spec0_3.stage ((cfgA m ρ).slots t 3)) (hstage0_3 (((cfgA m ρ).slots t 3).cast nbuf0_3)) (spec0_4.stage ((cfgA m ρ).slots t 4)) (hstage0_4 (((cfgA m ρ).slots t 4).cast nbuf0_4)) (spec0_5.stage ((cfgA m ρ).slots t 5)) (hstage0_5 (((cfgA m ρ).slots t 5).cast nbuf0_5)) (spec0_6.stage ((cfgA m ρ).slots t 6)) (hstage0_6 (((cfgA m ρ).slots t 6).cast nbuf0_6)) (spec0_7.stage ((cfgA m ρ).slots t 7)) (hstage0_7 (((cfgA m ρ).slots t 7).cast nbuf0_7)) (spec0_8.stage ((cfgA m ρ).slots t 8)) (hstage0_8 (((cfgA m ρ).slots t 8).cast nbuf0_8)) (spec0_9.stage ((cfgA m ρ).slots t 9)) (hstage0_9 (((cfgA m ρ).slots t 9).cast nbuf0_9)) (spec0_10.stage ((cfgA m ρ).slots t 10)) (hstage0_10 (((cfgA m ρ).slots t 10).cast nbuf0_10)) (spec0_11.stage ((cfgA m ρ).slots t 11)) (hstage0_11 (((cfgA m ρ).slots t 11).cast nbuf0_11)) (spec0_12.stage ((cfgA m ρ).slots t 12)) (hstage0_12 (((cfgA m ρ).slots t 12).cast nbuf0_12)) (spec0_13.stage ((cfgA m ρ).slots t 13)) (hstage0_13 (((cfgA m ρ).slots t 13).cast nbuf0_13)) (spec0_14.stage ((cfgA m ρ).slots t 14)) (hstage0_14 (((cfgA m ρ).slots t 14).cast nbuf0_14)) (spec0_15.stage ((cfgA m ρ).slots t 15)) (hstage0_15 (((cfgA m ρ).slots t 15).cast nbuf0_15)) (spec0_16.stage ((cfgA m ρ).slots t 16)) (hstage0_16 (((cfgA m ρ).slots t 16).cast nbuf0_16)) (spec0_17.stage ((cfgA m ρ).slots t 17)) (hstage0_17 (((cfgA m ρ).slots t 17).cast nbuf0_17)) (spec0_18.stage ((cfgA m ρ).slots t 18)) (hstage0_18 (((cfgA m ρ).slots t 18).cast nbuf0_18)) (spec0_19.stage ((cfgA m ρ).slots t 19)) (hstage0_19 (((cfgA m ρ).slots t 19).cast nbuf0_19)) (spec0_20.stage ((cfgA m ρ).slots t 20)) (hstage0_20 (((cfgA m ρ).slots t 20).cast nbuf0_20)) (spec0_21.stage ((cfgA m ρ).slots t 21)) (hstage0_21 (((cfgA m ρ).slots t 21).cast nbuf0_21)) (spec0_22.stage ((cfgA m ρ).slots t 22)) (hstage0_22 (((cfgA m ρ).slots t 22).cast nbuf0_22)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

theorem defs₀_row (t : Fin (cfgA m ρ).N) : defs₀ (F := F) .tc (cfgA m ρ).body ((cfgA m ρ).bodyArgs t ((cfgA m ρ).slots t)) = bodyAt m ρ t := by
  unfold defs₀; rw [Defs.onTc_tc]

/-- In this run: the blocks the body is given. -/
theorem before_w0 (c : Dev nD) (t : Fin (cfgA m ρ).N) (d) : (dats m ρ 0 c).before 0 t d = blkA m ρ c 0 t := before_d0 (adm m ρ 0) c (V m ρ c) _ _ t d
theorem before_w1 (c : Dev nD) (t : Fin (cfgA m ρ).N) (d) : (dats m ρ 0 c).before 1 t d = blkA m ρ c 1 t := before_d1 (adm m ρ 0) c (V m ρ c) _ _ t d
theorem before_w2 (c : Dev nD) (t : Fin (cfgA m ρ).N) (d) : (dats m ρ 0 c).before 2 t d = blkA m ρ c 2 t := before_d2 (adm m ρ 0) c (V m ρ c) _ _ t d
theorem before_w3 (c : Dev nD) (t : Fin (cfgA m ρ).N) (d) : (dats m ρ 0 c).before 3 t d = blkA m ρ c 3 t := before_d3 (adm m ρ 0) c (V m ρ c) _ _ t d
theorem before_w4 (c : Dev nD) (t : Fin (cfgA m ρ).N) (d) : (dats m ρ 0 c).before 4 t d = blkA m ρ c 4 t := before_d4 (adm m ρ 0) c (V m ρ c) _ _ t d
theorem before_w5 (c : Dev nD) (t : Fin (cfgA m ρ).N) (d) : (dats m ρ 0 c).before 5 t d = blkA m ρ c 5 t := before_d5 (adm m ρ 0) c (V m ρ c) _ _ t d
theorem before_w6 (c : Dev nD) (t : Fin (cfgA m ρ).N) (d) : (dats m ρ 0 c).before 6 t d = blkA m ρ c 6 t := before_d6 (adm m ρ 0) c (V m ρ c) _ _ t d
theorem before_w7 (c : Dev nD) (t : Fin (cfgA m ρ).N) (d) : (dats m ρ 0 c).before 7 t d = blkA m ρ c 7 t := before_d7 (adm m ρ 0) c (V m ρ c) _ _ t d
theorem before_w8 (c : Dev nD) (t : Fin (cfgA m ρ).N) (d) : (dats m ρ 0 c).before 8 t d = blkA m ρ c 8 t := before_d8 (adm m ρ 0) c (V m ρ c) _ _ t d
theorem before_w9 (c : Dev nD) (t : Fin (cfgA m ρ).N) (d) : (dats m ρ 0 c).before 9 t d = blkA m ρ c 9 t := before_d9 (adm m ρ 0) c (V m ρ c) _ _ t d
theorem before_w10 (c : Dev nD) (t : Fin (cfgA m ρ).N) (d) : (dats m ρ 0 c).before 10 t d = blkA m ρ c 10 t := before_d10 (adm m ρ 0) c (V m ρ c) _ _ t d
theorem before_w11 (c : Dev nD) (t : Fin (cfgA m ρ).N) (d) : (dats m ρ 0 c).before 11 t d = blkA m ρ c 11 t := before_d11 (adm m ρ 0) c (V m ρ c) _ _ t d
theorem before_w12 (c : Dev nD) (t : Fin (cfgA m ρ).N) (d) : (dats m ρ 0 c).before 12 t d = blkA m ρ c 12 t := before_d12 (adm m ρ 0) c (V m ρ c) _ _ t d
theorem before_w13 (c : Dev nD) (t : Fin (cfgA m ρ).N) (d) : (dats m ρ 0 c).before 13 t d = blkA m ρ c 13 t := before_d13 (adm m ρ 0) c (V m ρ c) _ _ t d
theorem before_w14 (c : Dev nD) (t : Fin (cfgA m ρ).N) (d) : (dats m ρ 0 c).before 14 t d = blkA m ρ c 14 t := before_d14 (adm m ρ 0) c (V m ρ c) _ _ t d
theorem before_w15 (c : Dev nD) (t : Fin (cfgA m ρ).N) (d) : (dats m ρ 0 c).before 15 t d = blkA m ρ c 15 t := before_d15 (adm m ρ 0) c (V m ρ c) _ _ t d
theorem before_w16 (c : Dev nD) (t : Fin (cfgA m ρ).N) (d) : (dats m ρ 0 c).before 16 t d = blkA m ρ c 16 t := before_d16 (adm m ρ 0) c (V m ρ c) _ _ t d
theorem before_w17 (c : Dev nD) (t : Fin (cfgA m ρ).N) (d) : (dats m ρ 0 c).before 17 t d = blkA m ρ c 17 t := before_d17 (adm m ρ 0) c (V m ρ c) _ _ t d
theorem before_w18 (c : Dev nD) (t : Fin (cfgA m ρ).N) (d) : (dats m ρ 0 c).before 18 t d = blkA m ρ c 18 t := before_d18 (adm m ρ 0) c (V m ρ c) _ _ t d
theorem before_w19 (c : Dev nD) (t : Fin (cfgA m ρ).N) (d) : (dats m ρ 0 c).before 19 t d = blkA m ρ c 19 t := before_d19 (adm m ρ 0) c (V m ρ c) _ _ t d
theorem before_w20 (c : Dev nD) (t : Fin (cfgA m ρ).N) (d) : (dats m ρ 0 c).before 20 t d = blkA m ρ c 20 t := before_d20 (adm m ρ 0) c (V m ρ c) _ _ t d
theorem before_w21 (c : Dev nD) (t : Fin (cfgA m ρ).N) (d) : (dats m ρ 0 c).before 21 t d = blkA m ρ c 21 t := before_d21 (adm m ρ 0) c (V m ρ c) _ _ t d

end Cert.KernelIdeal.Hand
end
-- ==== Proof.KI.Oblig.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.KI.BodySpec
public import proofs.«01_k».proof.Proof.KI.State
public import proofs.«01_k».proof.Proof.KI.Data
public import Idealize.ShloMosaic.Lib.VecWindow
public import Idealize.ShloMosaic.Lib.Pipeline.FrameBody
public import Idealize.ShloMosaic.Lib.Pipeline.RegionArraysTS
public import Idealize.ShloMosaic.Lib.Pipeline.TableIdle

@[expose] public section

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]
open Idealize.ShloMosaic.Rounds

local notation "𝕄" => MT nD τ sig Unit (Elt F) ℕ (UU nD τ) ℕ

variable (m : (ℓ : Loc nD τ sig) → Buf (Elt F) ℓ) (ρ : Dev nD → PrngReg)

/-! ## The body's triple at every point -/

/-- The tables' words pass the body's bounds checks at every point. -/
def Checked : Prop := ∀ t : Fin grid0.N, k0_chk1 (grid0.coords t) (lowAt (grid0.coords t) (tblB m ρ)) (highAt (grid0.coords t) (tblB m ρ))

theorem idle22 : ∀ t : Fin grid0.N, idle0 22 (grid0.coords t) = !decide (t.val = 47) := by decide +kernel

theorem flush22 (t : Fin (cfgA m ρ).N) (h : t.val ≠ 47) : ((cfgA m ρ).win 22).flush t = false := by
  unfold Window.flush
  rw [Bool.and_eq_false_iff]; right
  rw [Bool.or_eq_false_iff]
  refine ⟨decide_eq_false fun e => h ?_, decide_eq_false ?_⟩
  · have := N_0; have e' : t.val + 1 = grid0.N := e; omega
  · rintro ⟨_, hne⟩; exact hne rfl

/-- What the body leaves of the result's buffer at point `t`: as found before the last point, the head's value there. -/
def left22 (c : Dev nD) (t : Fin (cfgA m ρ).N) : sProp 𝕄 :=
  match (cfgA m ρ).idle 22 ((cfgA m ρ).grid.coords t) with
  | true =>
    match ((cfgA m ρ).win 22).flush t with
    | false => iprop(∃ d, owns (c : Thread nD τ) (((cfgA m ρ).win 22).stage ((cfgA m ρ).slots t 22)) fullShare ((dats m ρ 0 c).before 22 t d))
    | true => owns (c : Thread nD τ) (((cfgA m ρ).win 22).stage ((cfgA m ρ).slots t 22)) fullShare ((dats m ρ 0 c).after 22 t)
  | false => owns (c : Thread nD τ) (((cfgA m ρ).win 22).stage ((cfgA m ρ).slots t 22)) fullShare ((dats m ρ 0 c).after 22 t)

theorem outC_last (c : Dev nD) (t : Fin (cfgA m ρ).N) (h : t.val = 47) (S : St F) (hS : Agree (t.val + 1) S (stFix m ρ c (t.val + 1))) (O : Vec F S16x64 .f32) :
    outC (grid0.coords t) (winsAt m ρ c t) S O = outAt m ρ c t := by
  unfold outC outAt
  rw [if_pos ⟨(cond40_iff t).mpr (by omega), (cond41_iff t).mpr h⟩, hS.ssum (Nat.succ_pos _), hS.scnt (Nat.succ_pos _)]

theorem outC_idle (t : Fin grid0.N) (h : t.val ≠ 47) (W : Wins F) (S : St F) (O : Vec F S16x64 .f32) : outC (grid0.coords t) W S O = O := by
  unfold outC
  rw [if_neg fun e => h ((cond41_iff t).mp e.2)]

theorem left22_intro (c : Dev nD) (t : Fin (cfgA m ρ).N) (S : St F) (hS : Agree (t.val + 1) S (stFix m ρ c (t.val + 1))) (d) :
    (owns (c : Thread nD τ) (((cfgA m ρ).win 22).stage ((cfgA m ρ).slots t 22)) fullShare
      (outC (grid0.coords t) (winsAt m ρ c t) S ((dats m ρ 0 c).before 22 t d)) : sProp 𝕄) ⊢ left22 m ρ c t := by
  have hi : (cfgA m ρ).idle 22 ((cfgA m ρ).grid.coords t) = !decide (t.val = 47) := idle22 t
  by_cases h : t.val = 47
  · unfold left22
    rw [hi, decide_eq_true h]
    exact Entails.of_eq (congrArg (fun X => owns (c : Thread nD τ) (((cfgA m ρ).win 22).stage ((cfgA m ρ).slots t 22)) fullShare X)
      (outC_last m ρ c t h S hS _))
  · unfold left22
    rw [hi, decide_eq_false h, flush22 m ρ t h]
    exact (Entails.of_eq (congrArg (fun X => owns (c : Thread nD τ) (((cfgA m ρ).win 22).stage ((cfgA m ρ).slots t 22)) fullShare X)
      (outC_idle t h (winsAt m ρ c t) S _))).trans
      (show _ ⊢ iprop(∃ d, owns (c : Thread nD τ) (((cfgA m ρ).win 22).stage ((cfgA m ρ).slots t 22)) fullShare ((dats m ρ 0 c).before 22 t d)) from by iintro H; iexists d; iexact H)

theorem stFix_succ (c : Dev nD) (t : Fin (cfgA m ρ).N) :
    stFix m ρ c (t.val + 1) = step (grid0.coords t) (tblB m ρ) (tblT m ρ) (winsAt m ρ c t) (stFix m ρ c t.val) := by
  unfold stFix
  show step (grid0.coords (pnt t.val)) _ _ (winsAt m ρ c (pnt t.val)) _ = _
  rw [pnt_val t]

theorem bodyAt_eq (t : Fin (cfgA m ρ).N) : bodyAt m ρ t = bodyP (grid0.coords t) (Memref.whole main_v16) (Memref.whole main_v7) (((cfgA m ρ).win 0).stage ((cfgA m ρ).slots t 0)) (((cfgA m ρ).win 1).stage ((cfgA m ρ).slots t 1)) (((cfgA m ρ).win 2).stage ((cfgA m ρ).slots t 2)) (((cfgA m ρ).win 3).stage ((cfgA m ρ).slots t 3)) (((cfgA m ρ).win 4).stage ((cfgA m ρ).slots t 4)) (((cfgA m ρ).win 5).stage ((cfgA m ρ).slots t 5)) (((cfgA m ρ).win 6).stage ((cfgA m ρ).slots t 6)) (((cfgA m ρ).win 7).stage ((cfgA m ρ).slots t 7)) (((cfgA m ρ).win 8).stage ((cfgA m ρ).slots t 8)) (((cfgA m ρ).win 9).stage ((cfgA m ρ).slots t 9)) (((cfgA m ρ).win 10).stage ((cfgA m ρ).slots t 10)) (((cfgA m ρ).win 11).stage ((cfgA m ρ).slots t 11)) (((cfgA m ρ).win 12).stage ((cfgA m ρ).slots t 12)) (((cfgA m ρ).win 13).stage ((cfgA m ρ).slots t 13)) (((cfgA m ρ).win 14).stage ((cfgA m ρ).slots t 14)) (((cfgA m ρ).win 15).stage ((cfgA m ρ).slots t 15)) (((cfgA m ρ).win 16).stage ((cfgA m ρ).slots t 16)) (((cfgA m ρ).win 17).stage ((cfgA m ρ).slots t 17)) (((cfgA m ρ).win 18).stage ((cfgA m ρ).slots t 18)) (((cfgA m ρ).win 19).stage ((cfgA m ρ).slots t 19)) (((cfgA m ρ).win 20).stage ((cfgA m ρ).slots t 20)) (((cfgA m ρ).win 21).stage ((cfgA m ρ).slots t 21)) (((cfgA m ρ).win 22).stage ((cfgA m ρ).slots t 22)) (Memref.whole cc0_scratch0) (Memref.whole cc0_scratch1) (Memref.whole cc0_scratch2) (Memref.whole cc0_scratch3) (Memref.whole cc0_scratch4) :=
  body_eq ..

theorem wins_w4 (c : Dev nD) (t : Fin (cfgA m ρ).N) : blkA m ρ c 1 t = (winsAt m ρ c t).w4 := by dsimp only [winsAt]
theorem wins_w5 (c : Dev nD) (t : Fin (cfgA m ρ).N) : blkA m ρ c 2 t = (winsAt m ρ c t).w5 := by dsimp only [winsAt]

set_option maxHeartbeats 3000000 in
theorem sound_body (hchk : Checked m ρ) (c : Dev nD) (t : Fin (cfgA m ρ).N) :
    iprop(inv m ρ c t.val ∗ (dats m ρ 0 c).owesAt () t.castSucc ∗ (∃ d, owns (c : Thread nD τ) (((cfgA m ρ).win 0).stage ((cfgA m ρ).slots t 0)) fullShare ((dats m ρ 0 c).before 0 t d)) ∗ (∃ d, owns (c : Thread nD τ) (((cfgA m ρ).win 1).stage ((cfgA m ρ).slots t 1)) fullShare ((dats m ρ 0 c).before 1 t d)) ∗ (∃ d, owns (c : Thread nD τ) (((cfgA m ρ).win 2).stage ((cfgA m ρ).slots t 2)) fullShare ((dats m ρ 0 c).before 2 t d)) ∗ (∃ d, owns (c : Thread nD τ) (((cfgA m ρ).win 3).stage ((cfgA m ρ).slots t 3)) fullShare ((dats m ρ 0 c).before 3 t d)) ∗ (∃ d, owns (c : Thread nD τ) (((cfgA m ρ).win 4).stage ((cfgA m ρ).slots t 4)) fullShare ((dats m ρ 0 c).before 4 t d)) ∗ (∃ d, owns (c : Thread nD τ) (((cfgA m ρ).win 5).stage ((cfgA m ρ).slots t 5)) fullShare ((dats m ρ 0 c).before 5 t d)) ∗ (∃ d, owns (c : Thread nD τ) (((cfgA m ρ).win 6).stage ((cfgA m ρ).slots t 6)) fullShare ((dats m ρ 0 c).before 6 t d)) ∗ (∃ d, owns (c : Thread nD τ) (((cfgA m ρ).win 7).stage ((cfgA m ρ).slots t 7)) fullShare ((dats m ρ 0 c).before 7 t d)) ∗ (∃ d, owns (c : Thread nD τ) (((cfgA m ρ).win 8).stage ((cfgA m ρ).slots t 8)) fullShare ((dats m ρ 0 c).before 8 t d)) ∗ (∃ d, owns (c : Thread nD τ) (((cfgA m ρ).win 9).stage ((cfgA m ρ).slots t 9)) fullShare ((dats m ρ 0 c).before 9 t d)) ∗ (∃ d, owns (c : Thread nD τ) (((cfgA m ρ).win 10).stage ((cfgA m ρ).slots t 10)) fullShare ((dats m ρ 0 c).before 10 t d)) ∗ (∃ d, owns (c : Thread nD τ) (((cfgA m ρ).win 11).stage ((cfgA m ρ).slots t 11)) fullShare ((dats m ρ 0 c).before 11 t d)) ∗ (∃ d, owns (c : Thread nD τ) (((cfgA m ρ).win 12).stage ((cfgA m ρ).slots t 12)) fullShare ((dats m ρ 0 c).before 12 t d)) ∗ (∃ d, owns (c : Thread nD τ) (((cfgA m ρ).win 13).stage ((cfgA m ρ).slots t 13)) fullShare ((dats m ρ 0 c).before 13 t d)) ∗ (∃ d, owns (c : Thread nD τ) (((cfgA m ρ).win 14).stage ((cfgA m ρ).slots t 14)) fullShare ((dats m ρ 0 c).before 14 t d)) ∗ (∃ d, owns (c : Thread nD τ) (((cfgA m ρ).win 15).stage ((cfgA m ρ).slots t 15)) fullShare ((dats m ρ 0 c).before 15 t d)) ∗ (∃ d, owns (c : Thread nD τ) (((cfgA m ρ).win 16).stage ((cfgA m ρ).slots t 16)) fullShare ((dats m ρ 0 c).before 16 t d)) ∗ (∃ d, owns (c : Thread nD τ) (((cfgA m ρ).win 17).stage ((cfgA m ρ).slots t 17)) fullShare ((dats m ρ 0 c).before 17 t d)) ∗ (∃ d, owns (c : Thread nD τ) (((cfgA m ρ).win 18).stage ((cfgA m ρ).slots t 18)) fullShare ((dats m ρ 0 c).before 18 t d)) ∗ (∃ d, owns (c : Thread nD τ) (((cfgA m ρ).win 19).stage ((cfgA m ρ).slots t 19)) fullShare ((dats m ρ 0 c).before 19 t d)) ∗ (∃ d, owns (c : Thread nD τ) (((cfgA m ρ).win 20).stage ((cfgA m ρ).slots t 20)) fullShare ((dats m ρ 0 c).before 20 t d)) ∗ (∃ d, owns (c : Thread nD τ) (((cfgA m ρ).win 21).stage ((cfgA m ρ).slots t 21)) fullShare ((dats m ρ 0 c).before 21 t d)) ∗ (∃ d, owns (c : Thread nD τ) (((cfgA m ρ).win 22).stage ((cfgA m ρ).slots t 22)) fullShare ((dats m ρ 0 c).before 22 t d)))
      ⊢ wp frame (wpE (defs₀ (F := F)) Variants.none c none) Set.univ (bodyAt m ρ t) fun _ =>
        (iprop(inv m ρ c (t.val + 1) ∗ (dats m ρ 0 c).owesAt () t.succ ∗ owns (c : Thread nD τ) (((cfgA m ρ).win 0).stage ((cfgA m ρ).slots t 0)) fullShare ((dats m ρ 0 c).after 0 t) ∗ owns (c : Thread nD τ) (((cfgA m ρ).win 1).stage ((cfgA m ρ).slots t 1)) fullShare ((dats m ρ 0 c).after 1 t) ∗ owns (c : Thread nD τ) (((cfgA m ρ).win 2).stage ((cfgA m ρ).slots t 2)) fullShare ((dats m ρ 0 c).after 2 t) ∗ owns (c : Thread nD τ) (((cfgA m ρ).win 3).stage ((cfgA m ρ).slots t 3)) fullShare ((dats m ρ 0 c).after 3 t) ∗ owns (c : Thread nD τ) (((cfgA m ρ).win 4).stage ((cfgA m ρ).slots t 4)) fullShare ((dats m ρ 0 c).after 4 t) ∗ owns (c : Thread nD τ) (((cfgA m ρ).win 5).stage ((cfgA m ρ).slots t 5)) fullShare ((dats m ρ 0 c).after 5 t) ∗ owns (c : Thread nD τ) (((cfgA m ρ).win 6).stage ((cfgA m ρ).slots t 6)) fullShare ((dats m ρ 0 c).after 6 t) ∗ owns (c : Thread nD τ) (((cfgA m ρ).win 7).stage ((cfgA m ρ).slots t 7)) fullShare ((dats m ρ 0 c).after 7 t) ∗ owns (c : Thread nD τ) (((cfgA m ρ).win 8).stage ((cfgA m ρ).slots t 8)) fullShare ((dats m ρ 0 c).after 8 t) ∗ owns (c : Thread nD τ) (((cfgA m ρ).win 9).stage ((cfgA m ρ).slots t 9)) fullShare ((dats m ρ 0 c).after 9 t) ∗ owns (c : Thread nD τ) (((cfgA m ρ).win 10).stage ((cfgA m ρ).slots t 10)) fullShare ((dats m ρ 0 c).after 10 t) ∗ owns (c : Thread nD τ) (((cfgA m ρ).win 11).stage ((cfgA m ρ).slots t 11)) fullShare ((dats m ρ 0 c).after 11 t) ∗ owns (c : Thread nD τ) (((cfgA m ρ).win 12).stage ((cfgA m ρ).slots t 12)) fullShare ((dats m ρ 0 c).after 12 t) ∗ owns (c : Thread nD τ) (((cfgA m ρ).win 13).stage ((cfgA m ρ).slots t 13)) fullShare ((dats m ρ 0 c).after 13 t) ∗ owns (c : Thread nD τ) (((cfgA m ρ).win 14).stage ((cfgA m ρ).slots t 14)) fullShare ((dats m ρ 0 c).after 14 t) ∗ owns (c : Thread nD τ) (((cfgA m ρ).win 15).stage ((cfgA m ρ).slots t 15)) fullShare ((dats m ρ 0 c).after 15 t) ∗ owns (c : Thread nD τ) (((cfgA m ρ).win 16).stage ((cfgA m ρ).slots t 16)) fullShare ((dats m ρ 0 c).after 16 t) ∗ owns (c : Thread nD τ) (((cfgA m ρ).win 17).stage ((cfgA m ρ).slots t 17)) fullShare ((dats m ρ 0 c).after 17 t) ∗ owns (c : Thread nD τ) (((cfgA m ρ).win 18).stage ((cfgA m ρ).slots t 18)) fullShare ((dats m ρ 0 c).after 18 t) ∗ owns (c : Thread nD τ) (((cfgA m ρ).win 19).stage ((cfgA m ρ).slots t 19)) fullShare ((dats m ρ 0 c).after 19 t) ∗ owns (c : Thread nD τ) (((cfgA m ρ).win 20).stage ((cfgA m ρ).slots t 20)) fullShare ((dats m ρ 0 c).after 20 t) ∗ owns (c : Thread nD τ) (((cfgA m ρ).win 21).stage ((cfgA m ρ).slots t 21)) fullShare ((dats m ρ 0 c).after 21 t) ∗ left22 m ρ c t) : sProp 𝕄) := by
  rw [bodyAt_eq]
  unfold inv tables scratch
  iintro ⟨⟨⟨HB, HT⟩, ⟨%S, %hS, ⟨S0, S1, S2, S3, S4⟩⟩⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  have hS' : Agree (t.val + 1) (step (grid0.coords t) (tblB m ρ) (tblT m ρ) (winsAt m ρ c t) S) (stFix m ρ c (t.val + 1)) := by
    rw [stFix_succ]; exact Agree.step t _ _ _ hS
  rw [before_w0 m ρ c t d0, before_w1 m ρ c t d1, before_w2 m ρ c t d2, before_w3 m ρ c t d3, before_w4 m ρ c t d4, before_w5 m ρ c t d5, before_w6 m ρ c t d6, before_w7 m ρ c t d7, before_w8 m ρ c t d8, before_w9 m ρ c t d9, before_w10 m ρ c t d10, before_w11 m ρ c t d11, before_w12 m ρ c t d12, before_w13 m ρ c t d13, before_w14 m ρ c t d14, before_w15 m ρ c t d15, before_w16 m ρ c t d16, before_w17 m ρ c t d17, before_w18 m ρ c t d18, before_w19 m ρ c t d19, before_w20 m ρ c t d20, before_w21 m ρ c t d21, wins_w4, wins_w5]
  iapply (bodyP_spec c (grid0.coords t) (Memref.whole main_v16) (Memref.whole main_v7) (((cfgA m ρ).win 0).stage ((cfgA m ρ).slots t 0)) (((cfgA m ρ).win 1).stage ((cfgA m ρ).slots t 1)) (((cfgA m ρ).win 2).stage ((cfgA m ρ).slots t 2)) (((cfgA m ρ).win 3).stage ((cfgA m ρ).slots t 3)) (((cfgA m ρ).win 4).stage ((cfgA m ρ).slots t 4)) (((cfgA m ρ).win 5).stage ((cfgA m ρ).slots t 5)) (((cfgA m ρ).win 6).stage ((cfgA m ρ).slots t 6)) (((cfgA m ρ).win 7).stage ((cfgA m ρ).slots t 7)) (((cfgA m ρ).win 8).stage ((cfgA m ρ).slots t 8)) (((cfgA m ρ).win 9).stage ((cfgA m ρ).slots t 9)) (((cfgA m ρ).win 10).stage ((cfgA m ρ).slots t 10)) (((cfgA m ρ).win 11).stage ((cfgA m ρ).slots t 11)) (((cfgA m ρ).win 12).stage ((cfgA m ρ).slots t 12)) (((cfgA m ρ).win 13).stage ((cfgA m ρ).slots t 13)) (((cfgA m ρ).win 14).stage ((cfgA m ρ).slots t 14)) (((cfgA m ρ).win 15).stage ((cfgA m ρ).slots t 15)) (((cfgA m ρ).win 16).stage ((cfgA m ρ).slots t 16)) (((cfgA m ρ).win 17).stage ((cfgA m ρ).slots t 17)) (((cfgA m ρ).win 18).stage ((cfgA m ρ).slots t 18)) (((cfgA m ρ).win 19).stage ((cfgA m ρ).slots t 19)) (((cfgA m ρ).win 20).stage ((cfgA m ρ).slots t 20)) (((cfgA m ρ).win 21).stage ((cfgA m ρ).slots t 21)) (((cfgA m ρ).win 22).stage ((cfgA m ρ).slots t 22)) (Memref.whole cc0_scratch0) (Memref.whole cc0_scratch1) (Memref.whole cc0_scratch2) (Memref.whole cc0_scratch3) (Memref.whole cc0_scratch4)
    fullShare fullShare (tblB m ρ) (tblT m ρ) (winsAt m ρ c t) S ((dats m ρ 0 c).before 22 t d22) (hchk t)) $$ [HB HT H0 H1 H2 H3 H4 H5 H6 H7 H8 H9 H10 H11 H12 H13 H14 H15 H16 H17 H18 H19 H20 H21 H22 S0 S1 S2 S3 S4]
  · isplitl [HB]; · iexact HB
    isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [S0]; · iexact S0
    isplitl [S1]; · iexact S1
    isplitl [S2]; · iexact S2
    isplitl [S3]; · iexact S3
    iexact S4
  iintro ⟨HB, HT, H0, H1, H2, H3, H4, H5, H6, H7, H8, H9, H10, H11, H12, H13, H14, H15, H16, H17, H18, H19, H20, H21, H22, S0, S1, S2, S3, S4⟩
  isplitl [HB HT S0 S1 S2 S3 S4]
  · isplitl [HB HT]
    · isplitl [HB]; · iexact HB
      iexact HT
    iexists (step (grid0.coords t) (tblB m ρ) (tblT m ρ) (winsAt m ρ c t) S)
    isplitr; · ipureintro; exact hS'
    isplitl [S0]; · iexact S0
    isplitl [S1]; · iexact S1
    isplitl [S2]; · iexact S2
    isplitl [S3]; · iexact S3
    iexact S4
  isplitl [HO]
  · unfold Dat.owesAt Pipeline.owesWithin
    icases HO with ⟨%W, -, HO⟩; iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iapply (left22_intro m ρ c t _ hS' d22); iexact H22

end Cert.KernelIdeal.Hand
end
-- ==== Proof.KI.Body.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.KI.BodySpec
public import proofs.«01_k».proof.Proof.KI.State
public import proofs.«01_k».proof.Proof.KI.Data
public import proofs.«01_k».proof.Proof.KI.Oblig
public import Idealize.ShloMosaic.Lib.VecWindow
public import Idealize.ShloMosaic.Lib.Pipeline.FrameBody
public import Idealize.ShloMosaic.Lib.Pipeline.RegionArraysTS
public import Idealize.ShloMosaic.Lib.Pipeline.TableIdle

@[expose] public section

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]
open Idealize.ShloMosaic.Rounds

local notation "𝕄" => MT nD τ sig Unit (Elt F) ℕ (UU nD τ) ℕ

variable (m : (ℓ : Loc nD τ sig) → Buf (Elt F) ℓ) (ρ : Dev nD → PrngReg)

set_option maxHeartbeats 4000000 in
/-- The body meets its obligation at every point of the grid. -/
theorem body_obligation (hchk : Checked m ρ) (c : Dev nD) : BodyObligationLoose (dats m ρ 0 c) (defs₀ (F := F)) Variants.none () Set.univ := fun t => by
  rw [bigSep_W0, bigSep_W0, defs₀_row]
  exact triple_restated (sound_body m ρ hchk c t) rfl .rfl fun _ => .rfl

end Cert.KernelIdeal.Hand
end
-- ==== Proof.KI.Run.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.KI.BodySpec
public import proofs.«01_k».proof.Proof.KI.State
public import proofs.«01_k».proof.Proof.KI.Data
public import proofs.«01_k».proof.Proof.KI.Oblig
public import proofs.«01_k».proof.Proof.KI.Body
public import Idealize.ShloMosaic.Lib.Pipeline.Regions
public import Idealize.ShloMosaic.Lib.VecWindow
public import Idealize.ShloMosaic.Lib.Pipeline.FrameBody
public import Idealize.ShloMosaic.Lib.Pipeline.RegionArraysTS
public import Idealize.ShloMosaic.Lib.Pipeline.TableIdle

@[expose] public section

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]
open Idealize.ShloMosaic.Rounds

local notation "𝕄" => MT nD τ sig Unit (Elt F) ℕ (UU nD τ) ℕ

variable (m : (ℓ : Loc nD τ sig) → Buf (Elt F) ℓ) (ρ : Dev nD → PrngReg)

/-! ## The launch: the host operations, then the pallas_call's region -/

/-- What the host operations write. -/
def written : List (Ref sig .tc) := [main_v0, main_v1, main_v2, main_v3, main_v4, main_v5, main_v6, main_c, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39]

/-- A buffer no host operation writes reaches the region as launched. -/
theorem not_written (b : Ref sig .tc) (hb : b ∉ written) : ∀ op ∈ (hostOps0 (F := F)), Proc.devRef .tc b ∉ op.writes := by
  intro op hop
  have hne : ∀ y ∈ written, b ≠ y := fun y hy e => hb (e ▸ hy)
  simp only [List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (hne _ (by decide))

theorem V_kept (c : Dev nD) (b : Ref sig .tc) (hb : b ∉ written) : V m ρ c b = m ((c : Thread nD τ).loc b) :=
  StableHlo.after_of_forall_not_mem (b := Proc.devRef .tc b) hostOps0 (V₀ m ρ c) (not_written b hb)

/-- The levels: one index at every cell of a TensorCore. -/
abbrev L : GSem nD τ sig → Finset Unit := fun g => if g.1.2 = .tc then {()} else ∅
abbrev lv : GSem nD τ sig → Unit → ℕ := fun _ _ => 0

def u₀ : UU nD τ := (initOf (Pipeline.cells (Pipeline.pin (pcfgs (F := F)) (adm m ρ)) (cellOf_inj (adm m ρ))) (Pipeline.launchToks (Pipeline.pin (pcfgs (F := F)) (adm m ρ)) (cellOf_inj (adm m ρ))), 1)

abbrev R (c : Dev nD) : sProp 𝕄 := iprop(∃ W, owes (c : Thread nD τ) (0 : CellTallies nD τ sig Unit) W)

/-- The host operations, over the unscoped buffers. -/
def seg0 : Pipeline.HostSeg (Name := ℕ) (U := UU nD τ) (pcfgs (F := F)) defs₀ Variants.none L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

theorem cut : Pipeline.LevelCut (pcfgs (F := F)) (adm m ρ) () L lv 0 (fun _ => 0) (fun _ : Dev nD => 0) where
  hι c w s := by simp [L]
  hιb _ _ _ := le_rfl
  hD c g i h := absurd h (lt_irrefl _)

theorem bigSep_two {M : Type} [URA M] (Φ : Fin 2 → sProp M) : bigSep Finset.univ Φ = iprop(Φ 0 ∗ Φ 1) :=
  bigSep_univ_eq_bigSepL [(0 : Fin 2), (1 : Fin 2)] (by decide) (by decide) Φ

theorem arr_unscoped : ∀ w : Fin 23, (Pipeline.arrRef spec0 w).isScoped = false := by decide
theorem tbl_unscoped : ∀ k : Fin 2, (pre0.ref k).isScoped = false := by decide
theorem only_out : ∀ w : Fin 23, (spec0 w).isOut = false ∨ w = 22 := by decide

/-- The region's invariant is entered from the scoped buffers and the tables; -/
theorem enter (c : Dev nD) : iprop(iprop(Pipeline.scopedRest (Pipeline.pin (pcfgs (F := F)) (adm m ρ) 0).spec c ∗ emp) ∗ Pipeline.tablesAt (pcfgs (F := F)) (adm m ρ) 0 c)
    ⊢ ((dats m ρ 0 c).Φ 0 : sProp 𝕄) := by
  show iprop(iprop(Pipeline.scopedRest spec0 c ∗ emp) ∗ bigSep Finset.univ fun k : Fin 2 => ((c : Thread nD τ).loc (pre0.ref k)) ↦{fullShare} pf m ρ k) ⊢ inv m ρ c 0
  unfold inv tables scratch
  rw [scopedRest0_eq, bigSep_two]
  simp only [owns_whole]
  iintro ⟨⟨⟨⟨%f0, H0⟩, ⟨%f1, H1⟩, ⟨%f2, H2⟩, ⟨%f3, H3⟩, ⟨%f4, H4⟩⟩, -⟩, HB, HT⟩
  isplitl [HB HT]
  · isplitl [HB]; · iexact HB
    iexact HT
  iexists (⟨f0, f1, f2, f3, f4⟩ : St F)
  isplitr; · ipureintro; exact Agree.start _ _
  isplitl [H0]; · iexact H0
  isplitl [H1]; · iexact H1
  isplitl [H2]; · iexact H2
  isplitl [H3]; · iexact H3
  iexact H4

/-- and gives them back. -/
theorem leave (c : Dev nD) : ((dats m ρ 0 c).Φ (Fin.last (Pipeline.pin (pcfgs (F := F)) (adm m ρ) 0).N) : sProp 𝕄)
    ⊢ iprop(iprop(Pipeline.scopedRest (Pipeline.pin (pcfgs (F := F)) (adm m ρ) 0).spec c ∗ emp) ∗ Pipeline.tablesAt (pcfgs (F := F)) (adm m ρ) 0 c) := by
  show inv m ρ c grid0.N ⊢ iprop(iprop(Pipeline.scopedRest spec0 c ∗ emp) ∗ bigSep Finset.univ fun k : Fin 2 => ((c : Thread nD τ).loc (pre0.ref k)) ↦{fullShare} pf m ρ k)
  unfold inv tables scratch
  rw [scopedRest0_eq, bigSep_two]
  simp only [owns_whole]
  iintro ⟨⟨HB, HT⟩, ⟨%S, -, H0, H1, H2, H3, H4⟩⟩
  isplitl [H0 H1 H2 H3 H4]
  · isplitl
    · isplitl [H0]; · iexists _; iexact H0
      isplitl [H1]; · iexists _; iexact H1
      isplitl [H2]; · iexists _; iexact H2
      isplitl [H3]; · iexists _; iexact H3
      iexists _; iexact H4
    iempintro
  isplitl [HB]; · iexact HB
  iexact HT

set_option backward.isDefEq.respectTransparency.types false in
/-- The region. -/
def reg0 (hchk : Checked m ρ) : Pipeline.RegionSeg (pcfgs (F := F)) (adm m ρ) (dats m ρ) () defs₀ Variants.none L lv 0 :=
  Pipeline.RegionSeg.ofHeldInT (pcfgs (F := F)) (adm m ρ) (dats m ρ) () defs₀ Variants.none L lv 0 (fun _ => 0) (Pipeline.ucRefs τ sig)
    (fun _ => iprop(emp)) (fun _ => iprop(emp)) launch0 (body_obligation m ρ hchk) (fun _ _ => rfl) (fun _ => rfl)
    (fun c => (dats m ρ 0 c).share_full fun _ => rfl) (enter m ρ) (leave m ρ) (fun _ => 0) (cut m ρ) (fun _ => iprop(emp))
    (fun c => StableHlo.after hostOps0 (V₀ m ρ c)) (fun c w => A_eq m ρ c w) (fun c k => by obtain rfl : c = 0 := Subsingleton.elim _ _; rfl)

theorem arrs_sub : Pipeline.arrRefs (pcfgs (F := F) 0).spec ⊆ Pipeline.ucRefs τ sig := by
  intro b hb
  obtain ⟨r, hr, rfl⟩ := Finset.mem_map.mp hb
  obtain ⟨w, -, rfl⟩ := Finset.mem_image.mp hr
  exact Finset.mem_filter.mpr ⟨Finset.mem_map.mpr ⟨_, Finset.mem_univ _, rfl⟩, fun h => Bool.false_ne_true ((arr_unscoped w).symm.trans h)⟩

theorem tbls_sub : Pipeline.tblRefs (pcfgs (F := F) 0).pre ⊆ Pipeline.ucRefs τ sig := by
  intro b hb
  obtain ⟨r, hr, rfl⟩ := Finset.mem_map.mp hb
  obtain ⟨k, -, rfl⟩ := Finset.mem_image.mp hr
  exact Finset.mem_filter.mpr ⟨Finset.mem_map.mpr ⟨_, Finset.mem_univ _, rfl⟩, fun h => Bool.false_ne_true ((tbl_unscoped k).symm.trans h)⟩

/-- Every unscoped buffer after the run. -/
abbrev Vₙ (c : Dev nD) : Valuation τ sig (Elt F) := Pipeline.afterRegion (dats m ρ 0 c) (StableHlo.after hostOps0 (V₀ m ρ c))

abbrev segs (hchk : Checked m ρ) : List (Pipeline.Seg (pcfgs (F := F)) (adm m ρ) (dats m ρ) () defs₀ Variants.none L lv) := [.host (seg0 m ρ), .region (reg0 m ρ hchk)]

set_option backward.isDefEq.respectTransparency.types false in
/-- Every weakly fair execution of @main terminates without fault, with every counter zero, and every unscoped buffer at
`Vₙ`. -/
theorem run_main (hchk : Checked m ρ) : θ_run defs (onTc (τ := τ) (main (F := F))) (s₀ m ρ)
    (fun r => (∀ c : Dev nD, ∀ b ∈ Pipeline.ucRefs τ sig, r.2.mem ((c : Dev nD), b) = Vₙ m ρ c b) ∧ r.2.sem = fun _ => 0) :=
  Pipeline.θ_run_regions_kit_sems (pcfgs (F := F)) (adm m ρ) (dats m ρ) () (cellOf_inj (adm m ρ)) EP defs₀ Variants.none L lv m ρ main (segs m ρ hchk)
    (fun c Q => by rw [main_segs (adm m ρ) (dats m ρ) () Variants.none L lv (seg0 m ρ) (reg0 m ρ hchk) rfl c])
    (by simp only [Pipeline.Seg.pipes_host, Pipeline.Seg.pipes_region, Pipeline.Seg.pipes_nil]; decide) (O₀ := 0)
    (hL := fun g hg => if_neg hg) (G := fun _ => iprop(emp)) (u₀ := u₀ m ρ)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (Vₙ m ρ c))
    (hch := ⟨fun _ => .rfl, fun c => by
        refine Idealize.SL.BI.BIBase.Entails.trans ?_ (Pipeline.RegionSeg.ofHeldInT_pre arrs_sub tbls_sub c)
        show iprop(StableHlo.held (c : Thread nD τ) (Pipeline.ucRefs τ sig) (StableHlo.after hostOps0 (V₀ m ρ c)) ∗ R c) ⊢ _
        iintro ⟨Hh, HO⟩
        isplitl [Hh]; · iexact Hh
        isplitl [HO]; · iexact HO
        isplitl <;> iempintro,
      fun c => by
        refine Idealize.SL.BI.BIBase.Entails.trans (Pipeline.RegionSeg.ofHeldInT_post arrs_sub tbls_sub c) ?_
        iintro ⟨Hh, HO, -, -⟩
        isplitl [Hh]; · iexact Hh
        iexact HO⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = Vₙ m ρ c b)
    (hfin := fun c s' => by
      unfold StableHlo.held
      iintro ⟨Hh, HSI⟩
      ihave Hr := (pointsTo_read_all (Pipeline.ucRefs τ sig) (fun b => ((c : Dev nD), b)) (Vₙ m ρ c) s') $$ [Hh HSI]
      · isplitl [Hh]; · iexact Hh
        iexact HSI
      imodintro
      iexact Hr)
    (hQ := fun _ h hz => ⟨h, funext fun g => hz g (.inr (by revert g; decide))⟩)

/-- A TensorCore's unscoped buffer is among those read off. -/
theorem mem_uc (b : Ref sig .tc) (hb : b.isScoped = false) : Proc.devRef .tc b ∈ Pipeline.ucRefs τ sig :=
  Finset.mem_filter.mpr ⟨Finset.mem_map.mpr ⟨b, Finset.mem_univ _, rfl⟩, by rw [show (Proc.devRef .tc b : DevRef τ sig).isScoped = b.isScoped from rfl, hb]; exact Bool.false_ne_true⟩

/-- The buffers no window writes end as the region found them. -/
theorem Vₙ_kept (c : Dev nD) (b : Ref sig .tc) (hb : b ≠ main_v40) : Vₙ m ρ c (Proc.devRef .tc b) = V m ρ c b :=
  Pipeline.afterRegion_keeps (dats m ρ 0 c) _ winFacts0.arr_inj (A_eq m ρ c) b (by
    intro w hw
    rcases only_out w with h | h
    · exact h
    · subst h; exact absurd hw.symm hb)

end Cert.KernelIdeal.Hand
end
-- ==== Proof.KI.Frame.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.KI.BodySpec
public import proofs.«01_k».proof.Proof.KI.State
public import proofs.«01_k».proof.Proof.KI.Data
public import proofs.«01_k».proof.Proof.KI.Oblig
public import proofs.«01_k».proof.Proof.KI.Body
public import proofs.«01_k».proof.Proof.KI.Run
public import Idealize.ShloMosaic.Lib.StableHlo.ReadAt
public import Idealize.ShloMosaic.Lib.StableHlo.RunRead
public import Idealize.ShloMosaic.Lib.VecWindow
public import Idealize.ShloMosaic.Lib.Pipeline.Regions

@[expose] public section

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]
open Idealize.ShloMosaic.Rounds

variable (m : (ℓ : Loc nD τ sig) → Buf (Elt F) ℓ) (ρ : Dev nD → PrngReg)

/-! ## The frame: the words the kernel reads as row numbers are segment numbers -/

/-- The table of block bounds, from the segment numbers: for each block its first and its last. -/
theorem bounds_eq (c : Dev nD) : V m ρ c main_v16 = concatenate S16x2 1
    [⟨S16x1, broadcastInDim S16x1 ![0] bcast_S16_S16x1_0 (Host.slice S16 ![0] ![2048] (m ((c : Thread nD τ).loc main_arg1)) slicesBy_S32768_S16_0s2048)⟩,
     ⟨S16x1, broadcastInDim S16x1 ![0] bcast_S16_S16x1_0 (Host.slice S16 ![2047] ![2048] (m ((c : Thread nD τ).loc main_arg1)) slicesBy_S32768_S16_2047s2048)⟩]
    concatenates_S16x1_S16x1_S16x2_d1 := by
  unfold V
  after_reads_simp
  rfl

/-- A property of every entry of every part of a concatenation holds of every entry of the whole. -/
theorem concatenate_all {α : Type} {t : Shape} {a : Fin t.rank} {xs : List ((s : Shape) × (s.Idx → α))}
    {h : Shape.Concatenates (xs.map (·.1)) t a} (p : α → Prop) (hp : ∀ x ∈ xs, ∀ i, p (x.2 i)) (j : t.Idx) :
    p (concatenate t a xs h j) := by
  unfold concatenate
  exact hp _ (List.getElem_mem _) _

/-- Every segment number is below the number of segments. -/
def Ranged : Prop := ∀ (c : Dev nD) (n : S32768.Idx), ((m ((c : Thread nD τ).loc main_arg1) : Vec F S32768 .i32) n : BitVec 32).toNat < 16

/-- So is every entry of the table of block bounds. -/
theorem bounds_lt (h : Ranged m) (j : S16x2.Idx) : (tblB m ρ j : BitVec 32).toNat < 16 := by
  have e : tblB m ρ = V m ρ 0 main_v16 := rfl
  rw [e, bounds_eq]
  refine concatenate_all (α := BitVec 32) (fun v => v.toNat < 16) ?_ j
  intro x hx i
  simp only [List.mem_cons, List.mem_nil_iff, or_false] at hx
  rcases hx with rfl | rfl
  · exact h 0 _
  · exact h 0 _

/-- A row of the maxima named by a segment number lies inside. -/
theorem rows_inb : ∀ n : Fin 16, (∀ a, k0_off3 (BitVec.ofNat 32 n.val) a + S1x128.size a ≤ S16x128.size a) ∧
    ∀ a, k0_off5 (BitVec.ofNat 32 n.val) a + S1x256.size a ≤ S16x256.size a := by decide

theorem rows_inb' (v : BitVec 32) (h : v.toNat < 16) : (∀ a, k0_off3 v a + S1x128.size a ≤ S16x128.size a) ∧
    ∀ a, k0_off5 v a + S1x256.size a ≤ S16x256.size a := by
  have := rows_inb ⟨v.toNat, h⟩
  simpa using this

/-- Where every segment number is below the number of segments, the rows the kernel addresses by one lie inside. -/
theorem checked_of_ranged (h : Ranged m) : Checked m ρ := fun t =>
  have hv := rows_inb' (lowAt (grid0.coords t) (tblB m ρ)) (bounds_lt m ρ h _)
  ⟨fun _ _ => hv.1, fun _ _ => hv.2⟩

/-- A word that is at least zero and less than sixteen, both as signed, is below sixteen. -/
theorem lt_of_bits (v : BitVec 32) (h : IntOp.andi (IntOp.cmpi .sge v 0#32) (IntOp.cmpi .slt v 16#32) = 1#1) : v.toNat < 16 := by
  simp only [IntOp.andi, IntOp.cmpi] at h
  have h1 : (0#32).sle v = true := by
    cases e : (0#32).sle v <;> simp [e] at h ⊢
  have h2 : v.slt 16#32 = true := by
    cases e : v.slt 16#32 <;> simp [e] at h ⊢
  rw [BitVec.sle_iff_toInt_le] at h1
  rw [BitVec.slt_iff_toInt_lt] at h2
  have e0 : (0#32).toInt = 0 := by decide
  have e1 : (16#32).toInt = 16 := by decide
  rw [e0] at h1
  rw [e1] at h2
  rw [BitVec.toInt_eq_toNat_cond] at h1 h2
  split at h2 <;> omega

/-- The program run from any memory whose segment numbers are in range ends, gives every argument back as it was, and leaves every semaphore at zero. -/
theorem frame (h : Ranged m) : θ_run (defs (F := F)) (onTc (τ := τ) (main (F := F))) (s₀ m ρ) fun r =>
    (∀ c : Dev nD, ∀ b : Ref sig .tc, b.isScoped = false → b ≠ main_v40 → b ∉ written → r.2.mem ((c.tc : Thread nD τ).loc b) = m ((c.tc : Thread nD τ).loc b)) ∧
      r.2.sem = fun _ => 0 :=
  (θ_run defs _ _).mono (fun _ hr => ⟨fun c b hs hb hw => (hr.1 c _ (mem_uc b hs)).trans ((Vₙ_kept m ρ c b hb).trans (V_kept m ρ c b hw)), hr.2⟩)
    (run_main m ρ (checked_of_ranged m ρ h))

end Cert.KernelIdeal.Hand
-- ==== Proof.Value.PreFacts.lean ====
module

public import proofs.«01_k».proof.Pre_segments_finite
public import Idealize.ShloMosaic.Lib.Decide

@[expose] public section

set_option Elab.async false
namespace Cert.Pre_segments_finite.Val
open Idealize.ShloMosaic Cert.Pre_segments_finite

/-- The shape relations the precondition's operations take. -/
instance facts : Cert.Pre_segments_finite.Facts where
  bcast_S_S32768 := by decide
  reducesTo_S32768_S_d0 := by decide
  h_S_ := by decide
  slices_S32768_S32767_0 := by decide
  slices_S32768_S32767_1 := by decide
  reducesTo_S32767_S_d0 := by decide
  bcast_S_S32768x128 := by decide
  reducesTo_S32768x128_S_d0_1 := by decide
  bcast_S_S256x128 := by decide
  reducesTo_S256x128_S_d0_1 := by decide
  bcast_S_S256 := by decide
  reducesTo_S256_S_d0 := by decide
  reducesTo_S_S_d := by decide
  bcast_S_S256x256 := by decide
  reducesTo_S256x256_S_d0_1 := by decide
  bcast_S_S128x256 := by decide
  reducesTo_S128x256_S_d0_1 := by decide
  bcast_S_S128 := by decide
  reducesTo_S128_S_d0 := by decide

end Cert.Pre_segments_finite.Val
-- ==== Proof.Value.Math.lean ====
module

public import Idealize.ShloMosaic.Lib.Pointwise
public import Mathlib.Data.EReal.Inv

@[expose] public section

noncomputable section
namespace Cert.Val
open Idealize.ShloMosaic

/-! ## The mathematics of one layer

Values are extended reals. The layer norm is written twice, as the kernel and as the reference compute it; on finite rows
the two agree. -/

/-- The small constant under the root. -/
abbrev eps : EReal := Ideal.ofBits .f32 0x3727C5AC#32

/-- A row's mean, its length given as `D`. -/
def mean {W : ℕ} (D : EReal) (h : Fin W → EReal) : EReal := Ideal.div (∑ x, h x) D

/-- The layer norm with the variance as the mean square less the squared mean. -/
def lnK {W : ℕ} (D : EReal) (h : Fin W → EReal) (w b : EReal) (f : Fin W) : EReal :=
  (h f - mean D h) * Ideal.rsqrt (max (Ideal.div (∑ x, h x * h x) D - mean D h * mean D h) 0 + eps) * w + b

/-- The layer norm with the variance as the mean squared deviation. -/
def lnR {W : ℕ} (D : EReal) (h : Fin W → EReal) (w b : EReal) (f : Fin W) : EReal :=
  Ideal.div (h f - mean D h) (Ideal.sqrt (Ideal.div (∑ x, (h x - mean D h) * (h x - mean D h)) D + eps)) * w + b

/-- The gate. -/
def prelu (a y : EReal) : EReal := if 0 ≤ y then y else a * y

/-- The value is a real number. -/
def Fin' (x : EReal) : Prop := ∃ r : ℝ, x = r

theorem Fin'.coe (r : ℝ) : Fin' (r : EReal) := ⟨r, rfl⟩
theorem Fin'.zero : Fin' 0 := ⟨0, rfl⟩
theorem Fin'.one : Fin' 1 := ⟨1, rfl⟩
theorem Fin'.add {x y : EReal} : Fin' x → Fin' y → Fin' (x + y)
  | ⟨a, ha⟩, ⟨b, hb⟩ => ⟨a + b, by rw [ha, hb, EReal.coe_add]⟩
theorem Fin'.sub {x y : EReal} : Fin' x → Fin' y → Fin' (x - y)
  | ⟨a, ha⟩, ⟨b, hb⟩ => ⟨a - b, by rw [ha, hb, EReal.coe_sub]⟩
theorem Fin'.mul {x y : EReal} : Fin' x → Fin' y → Fin' (x * y)
  | ⟨a, ha⟩, ⟨b, hb⟩ => ⟨a * b, by rw [ha, hb, EReal.coe_mul]⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem Fin'.sum {ι : Type} [Fintype ι] {f : ι → EReal} (h : ∀ i, Fin' (f i)) : Fin' (∑ i, f i) := by
  choose g hg using h
  exact ⟨∑ i, g i, by rw [coe_sum]; exact Finset.sum_congr rfl fun i _ => hg i⟩
theorem Fin'.of_abs {x : EReal} (h : max x (-x) < ⊤) : Fin' x := by
  induction x with
  | bot => simp at h
  | top => simp at h
  | coe r => exact ⟨r, rfl⟩

theorem div_coe (a d : ℝ) (hd : d ≠ 0) : Ideal.div (a : EReal) d = ((a / d : ℝ) : EReal) := by
  unfold Ideal.div
  rw [if_neg (by exact_mod_cast hd), ← EReal.coe_inv, ← EReal.coe_mul, div_eq_mul_inv]

theorem Fin'.div {x : EReal} (hx : Fin' x) (d : ℝ) (hd : d ≠ 0) : Fin' (Ideal.div x d) := by
  obtain ⟨a, rfl⟩ := hx
  exact ⟨_, div_coe a d hd⟩

theorem eps_pos : ∃ e : ℝ, 0 < e ∧ eps = e := by
  refine ⟨(10995116 : ℝ) * 2 ^ (-40 : ℤ), by positivity, ?_⟩
  simp [eps, Ideal.ofBits, Ideal.ieee, -EReal.coe_mul]

theorem lit256 : Ideal.ofBits .f32 0x43800000#32 = ((256 : ℝ) : EReal) := by
  simp [Ideal.ofBits, Ideal.ieee, -EReal.coe_mul]; norm_num
theorem lit128 : Ideal.ofBits .f32 0x43000000#32 = ((128 : ℝ) : EReal) := by
  simp [Ideal.ofBits, Ideal.ieee, -EReal.coe_mul]; norm_num
theorem lit_top : Ideal.ofBits .f32 0x7F800000#32 = ⊤ := by
  simp [Ideal.ofBits, Ideal.ieee]
theorem lit_bot : Ideal.ofBits .f32 0xFF800000#32 = ⊥ := by
  simp [Ideal.ofBits, Ideal.ieee]

theorem rsqrt_pos (v : ℝ) (h : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (not_lt.2 h.le), if_neg h.ne']

theorem sqrt_nonneg (v : ℝ) (h : 0 ≤ v) : Ideal.sqrt (v : EReal) = ((Real.sqrt v : ℝ) : EReal) := by
  show (if v < 0 then ⊥ else ((Real.sqrt v : ℝ) : EReal)) = _
  rw [if_neg (not_lt.2 h)]

/-- The mean squared deviation of real numbers is their mean square less their squared mean. -/
theorem var_real {W : ℕ} (hW : 0 < W) (r : Fin W → ℝ) :
    (∑ x, (r x - (∑ y, r y) / W) * (r x - (∑ y, r y) / W)) / W = (∑ x, r x * r x) / W - (∑ y, r y) / W * ((∑ y, r y) / W) := by
  have hW' : (W : ℝ) ≠ 0 := by exact_mod_cast hW.ne'
  have e : ∀ x, (r x - (∑ y, r y) / W) * (r x - (∑ y, r y) / W)
      = r x * r x - 2 * ((∑ y, r y) / W) * r x + (∑ y, r y) / W * ((∑ y, r y) / W) := fun x => by ring
  rw [Finset.sum_congr rfl fun x _ => e x, Finset.sum_add_distrib, Finset.sum_sub_distrib, ← Finset.mul_sum]
  simp only [Finset.sum_const, Finset.card_univ, Fintype.card_fin, nsmul_eq_mul]
  field_simp
  ring

/-- On a finite row the two layer norms agree, and with finite weights they are finite. -/
theorem ln_eq {W : ℕ} (hW : 0 < W) (D : EReal) (hD : D = ((W : ℝ) : EReal)) (h : Fin W → EReal) (hh : ∀ x, Fin' (h x)) (w b : EReal) (f : Fin W) :
    lnK D h w b f = lnR D h w b f ∧ (Fin' w → Fin' b → Fin' (lnR D h w b f)) := by
  have hW' : (W : ℝ) ≠ 0 := by exact_mod_cast hW.ne'
  obtain ⟨e, he, hE⟩ := eps_pos
  choose r hr using hh
  obtain rfl : h = fun x => (r x : EReal) := funext hr
  subst hD
  have hm : mean ((W : ℝ) : EReal) (fun x => (r x : EReal)) = (((∑ y, r y) / W : ℝ) : EReal) := by
    unfold mean; rw [← coe_sum, div_coe _ _ hW']
  unfold lnK lnR
  rw [hm, hE]
  simp only [← EReal.coe_mul, ← EReal.coe_sub, ← coe_sum]
  rw [div_coe _ _ hW', div_coe _ _ hW', var_real hW r]
  have hv : 0 ≤ (∑ x, r x * r x) / W - (∑ y, r y) / W * ((∑ y, r y) / W) := by
    rw [← var_real hW r]
    exact div_nonneg (Finset.sum_nonneg fun x _ => mul_self_nonneg _) (Nat.cast_nonneg _)
  rw [← EReal.coe_sub, max_eq_left (by exact_mod_cast hv), ← EReal.coe_add, rsqrt_pos _ (by linarith), sqrt_nonneg _ (by linarith)]
  rw [div_coe _ _ (Real.sqrt_ne_zero'.2 (by linarith)), ← EReal.coe_mul, div_eq_mul_inv]
  refine ⟨rfl, fun hw hb => ((Fin'.coe _).mul hw).add hb⟩

theorem Fin'.prelu {a y : EReal} (ha : Fin' a) (hy : Fin' y) : Fin' (prelu a y) := by
  unfold Val.prelu; split
  · exact hy
  · exact ha.mul hy

/-! ## The greatest entry of a segment -/

/-- The greatest entry of segment `s` in column `f`; `⊥` for an empty segment. -/
def segmax {N W : ℕ} (b : Fin N → ℕ) (x : Fin N → Fin W → EReal) (s : ℕ) (f : Fin W) : EReal :=
  ⨆ n : Fin N, ⨆ _ : b n = s, x n f

theorem segmax_le {N W : ℕ} (b : Fin N → ℕ) (x : Fin N → Fin W → EReal) (s : ℕ) (f : Fin W) (z : EReal) :
    segmax b x s f ≤ z ↔ ∀ n, b n = s → x n f ≤ z := by
  unfold segmax; simp only [iSup_le_iff]

theorem fold_max_le {ι : Type} [Fintype ι] (i : EReal) (g : ι → EReal) (z : EReal) :
    Finset.univ.fold max i g ≤ z ↔ i ≤ z ∧ ∀ k, g k ≤ z := by
  rw [Finset.fold_max_le]; simp

theorem segmax_eq_fold {N W : ℕ} (b : Fin N → ℕ) (x : Fin N → Fin W → EReal) (s : ℕ) (f : Fin W) :
    Finset.univ.fold max ⊥ (fun n => if b n = s then x n f else ⊥) = segmax b x s f := by
  refine eq_of_forall_ge_iff fun z => ?_
  rw [fold_max_le, segmax_le]
  simp only [bot_le, true_and]
  refine forall_congr' fun n => ?_
  split
  · next h => simp [h]
  · next h => simp [h]

/-- A segment that an entry lies in has a finite greatest entry, all entries being finite. -/
theorem Fin'.segmax {N W : ℕ} (b : Fin N → ℕ) (x : Fin N → Fin W → EReal) (hx : ∀ n f, Fin' (x n f)) (n : Fin N) (f : Fin W) :
    Fin' (segmax b x (b n) f) := by
  have h1 : Val.segmax b x (b n) f ≠ ⊤ := by
    choose g hg using hx
    have : Val.segmax b x (b n) f ≤ ((∑ m, |g m f| : ℝ) : EReal) := by
      rw [segmax_le]
      intro m _
      rw [hg m f]
      exact_mod_cast (le_abs_self _).trans (Finset.single_le_sum (f := fun m => |g m f|) (fun _ _ => abs_nonneg _) (Finset.mem_univ m))
    exact ne_top_of_le_ne_top (EReal.coe_ne_top _) this
  have h2 : Val.segmax b x (b n) f ≠ ⊥ := by
    obtain ⟨r, hr⟩ := hx n f
    have := ((segmax_le b x (b n) f _).1 le_rfl) n rfl
    rw [hr] at this
    exact ne_bot_of_le_ne_bot (EReal.coe_ne_bot _) this
  exact ⟨_, (EReal.coe_toReal h1 h2).symm⟩

/-! ## A layer, and the network -/

/-- The linear part of a layer: the row's product less the product of its segment's greatest entries. -/
def lin {N K W : ℕ} (b : Fin N → ℕ) (x : Fin N → Fin K → EReal) (gw : Fin W → Fin K → EReal) (gb : Fin W → EReal) (lw : Fin W → Fin K → EReal)
    (n : Fin N) (f : Fin W) : EReal := ∑ k, x n k * gw f k + gb f - ∑ k, segmax b x (b n) k * lw f k

theorem Fin'.lin {N K W : ℕ} (b : Fin N → ℕ) (x : Fin N → Fin K → EReal) (gw : Fin W → Fin K → EReal) (gb : Fin W → EReal) (lw : Fin W → Fin K → EReal)
    (hx : ∀ n k, Fin' (x n k)) (hgw : ∀ f k, Fin' (gw f k)) (hgb : ∀ f, Fin' (gb f)) (hlw : ∀ f k, Fin' (lw f k)) (n : Fin N) (f : Fin W) :
    Fin' (lin b x gw gb lw n f) :=
  ((Fin'.sum fun k => (hx n k).mul (hgw f k)).add (hgb f)).sub (Fin'.sum fun k => (Fin'.segmax b x hx n k).mul (hlw f k))

/-- A layer with a layer norm `ln`. -/
def layer {N K W : ℕ} (ln : (Fin W → EReal) → EReal → EReal → Fin W → EReal) (b : Fin N → ℕ) (x : Fin N → Fin K → EReal)
    (gw : Fin W → Fin K → EReal) (gb : Fin W → EReal) (lw : Fin W → Fin K → EReal) (nw nb : Fin W → EReal) (a : EReal) (n : Fin N) (f : Fin W) : EReal :=
  prelu a (ln (lin b x gw gb lw n) (nw f) (nb f) f)

/-- The sum over a segment, and the number of its entries. -/
def segsum {N W : ℕ} (b : Fin N → ℕ) (x : Fin N → Fin W → EReal) (s : ℕ) (f : Fin W) : EReal := ∑ n, if b n = s then x n f else 0
def segcnt {N : ℕ} (b : Fin N → ℕ) (s : ℕ) : EReal := ∑ n, if b n = s then 1 else 0

/-- The head's linear part on the segment means. -/
def headlin {N K M : ℕ} (b : Fin N → ℕ) (x : Fin N → Fin K → EReal) (mw : Fin M → Fin K → EReal) (mb : Fin M → EReal) (s : ℕ) (f : Fin M) : EReal :=
  ∑ k, Ideal.div (segsum b x s k) (max (segcnt b s) 1) * mw f k + mb f

/-- The head. -/
def head {N K M O : ℕ} (ln : (Fin M → EReal) → EReal → EReal → Fin M → EReal) (b : Fin N → ℕ) (x : Fin N → Fin K → EReal)
    (mw : Fin M → Fin K → EReal) (mb nw nb : Fin M → EReal) (a : EReal) (ow : Fin O → Fin M → EReal) (ob : Fin O → EReal) (s : ℕ) (o : Fin O) : EReal :=
  ∑ k, prelu a (ln (headlin b x mw mb s) (nw k) (nb k) k) * ow o k + ob o

theorem Fin'.headlin {N K M : ℕ} (b : Fin N → ℕ) (x : Fin N → Fin K → EReal) (mw : Fin M → Fin K → EReal) (mb : Fin M → EReal)
    (hx : ∀ n k, Fin' (x n k)) (hmw : ∀ f k, Fin' (mw f k)) (hmb : ∀ f, Fin' (mb f)) (s : ℕ) (f : Fin M) : Fin' (headlin b x mw mb s f) := by
  refine (Fin'.sum fun k => Fin'.mul ?_ (hmw f k)).add (hmb f)
  have hs : Fin' (segsum b x s k) := Fin'.sum fun n => by split; exacts [hx n k, Fin'.zero]
  obtain ⟨c, hc⟩ : Fin' (segcnt b s) := Fin'.sum fun n => by split; exacts [Fin'.one, Fin'.zero]
  rw [hc, ← EReal.coe_one, ← EReal.coe_strictMono.monotone.map_max]
  exact hs.div _ (ne_of_gt (lt_of_lt_of_le one_pos (le_max_right c 1)))

theorem layer_eq {N K W : ℕ} (hW : 0 < W) (D : EReal) (hD : D = ((W : ℝ) : EReal)) (b : Fin N → ℕ) (x : Fin N → Fin K → EReal)
    (gw : Fin W → Fin K → EReal) (gb : Fin W → EReal) (lw : Fin W → Fin K → EReal) (nw nb : Fin W → EReal) (a : EReal)
    (hx : ∀ n k, Fin' (x n k)) (hgw : ∀ f k, Fin' (gw f k)) (hgb : ∀ f, Fin' (gb f)) (hlw : ∀ f k, Fin' (lw f k)) (n : Fin N) (f : Fin W) :
    layer (lnK D) b x gw gb lw nw nb a n f = layer (lnR D) b x gw gb lw nw nb a n f := by
  unfold layer
  rw [(ln_eq hW D hD _ (fun k => Fin'.lin b x gw gb lw hx hgw hgb hlw n k) _ _ f).1]

theorem Fin'.layer {N K W : ℕ} (hW : 0 < W) (D : EReal) (hD : D = ((W : ℝ) : EReal)) (b : Fin N → ℕ) (x : Fin N → Fin K → EReal)
    (gw : Fin W → Fin K → EReal) (gb : Fin W → EReal) (lw : Fin W → Fin K → EReal) (nw nb : Fin W → EReal) (a : EReal)
    (hx : ∀ n k, Fin' (x n k)) (hgw : ∀ f k, Fin' (gw f k)) (hgb : ∀ f, Fin' (gb f)) (hlw : ∀ f k, Fin' (lw f k))
    (hnw : ∀ f, Fin' (nw f)) (hnb : ∀ f, Fin' (nb f)) (ha : Fin' a) (n : Fin N) (f : Fin W) :
    Fin' (layer (lnR D) b x gw gb lw nw nb a n f) :=
  ha.prelu ((ln_eq hW D hD _ (fun k => Fin'.lin b x gw gb lw hx hgw hgb hlw n k) _ _ f).2 (hnw f) (hnb f))

theorem head_eq {N K M O : ℕ} (hM : 0 < M) (D : EReal) (hD : D = ((M : ℝ) : EReal)) (b : Fin N → ℕ) (x : Fin N → Fin K → EReal)
    (mw : Fin M → Fin K → EReal) (mb nw nb : Fin M → EReal) (a : EReal) (ow : Fin O → Fin M → EReal) (ob : Fin O → EReal)
    (hx : ∀ n k, Fin' (x n k)) (hmw : ∀ f k, Fin' (mw f k)) (hmb : ∀ f, Fin' (mb f)) (s : ℕ) (o : Fin O) :
    head (lnK D) b x mw mb nw nb a ow ob s o = head (lnR D) b x mw mb nw nb a ow ob s o := by
  unfold head
  congr 1
  refine Finset.sum_congr rfl fun k _ => ?_
  rw [(ln_eq hM D hD _ (fun k => Fin'.headlin b x mw mb hx hmw hmb s k) _ _ k).1]

end Cert.Val
end
-- ==== Proof.Value.Pre.lean ====
module

public import proofs.«01_k».proof.Proof.Value.PreFacts
public import proofs.«01_k».proof.Proof.Value.Math
public import proofs.«01_k».proof.Proof.KI.Frame

@[expose] public section

set_option maxRecDepth 16384
noncomputable section
namespace Cert.Pre_segments_finite.Val
open Idealize.ShloMosaic Cert.Pre_segments_finite
open Cert.Val

/-! ## What the precondition says, entry by entry -/

theorem both (x y : IVec S_ 1) (i : S_.Idx) (h : andi x y i = 1#1) : x i = 1#1 ∧ y i = 1#1 := by
  have e : ∀ a b : BitVec 1, IntOp.andi a b = 1#1 → a = 1#1 ∧ b = 1#1 := by decide
  exact e _ _ h

theorem fold_ones {ι : Type} (g : ι → BitVec 1) : ∀ (l : List ι) (a : BitVec 1), l.foldl (fun r n => IntOp.andi r (g n)) a = 1#1 → a = 1#1 ∧ ∀ n ∈ l, g n = 1#1
  | [], a, h => ⟨h, fun _ hn => absurd hn List.not_mem_nil⟩
  | k :: l, a, h => by
    have e : ∀ a b : BitVec 1, IntOp.andi a b = 1#1 → a = 1#1 ∧ b = 1#1 := by decide
    obtain ⟨h1, h2⟩ := fold_ones g l _ h
    obtain ⟨h3, h4⟩ := e _ _ h1
    refine ⟨h3, fun n hn => ?_⟩
    rcases List.mem_cons.1 hn with rfl | hn
    · exact h4
    · exact h2 n hn

/-- A conjunction over a whole array that holds, holds at every entry. -/
theorem all_ones {s : Shape} {axes : List (Fin s.rank)} (x : IVec s 1) (v : IVec S_ 1) (h : s.ReducesTo axes S_) (hu : 0 < S_.numel) (j : S_.Idx)
    (hr : Host.reduce IntOp.andi x v h hu j = 1#1) (i : s.Idx) : x i = 1#1 := by
  unfold Host.reduce at hr
  have := (fold_ones (fun n => x (s.rowMajor.symm n)) _ _ hr).2 (s.rowMajor i) (List.mem_filter.2 ⟨List.mem_finRange _, by
    simp only [decide_eq_true_eq]; funext a; exact a.elim0⟩)
  simpa using this

theorem fin_bit (x t : EReal) (ht : t = ⊤) (h : Ideal.cmp .olt (max x (-x)) t = 1#1) : Fin' x := by
  refine Fin'.of_abs ?_
  by_contra hc
  unfold Ideal.cmp at h
  rw [ht] at h
  simp [hc] at h

/-- An entry whose absolute value is below infinity is a real number. -/
theorem fin_all {s : Shape} {axes : List (Fin s.rank)} (X T : FVec Ideal s .f32) (v : IVec S_ 1) (h : s.ReducesTo axes S_) (hu : 0 < S_.numel) (j : S_.Idx)
    (hT : ∀ i, (T i : EReal) = Ideal.ofBits .f32 0x7F800000#32)
    (hr : Host.reduce IntOp.andi (cmpf (F := Ideal) (φ := .f32) .olt (Host.absf (F := Ideal) (φ := .f32) X) T) v h hu j = 1#1) (i : s.Idx) : Fin' (X i : EReal) :=
  fin_bit (X i) (T i) ((hT i).trans lit_top) (all_ones _ v h hu j hr i)

theorem le_bit (a b : BitVec 32) (ha : a.toNat < 16) (hb : b.toNat < 16) (h : IntOp.cmpi .sle a b = 1#1) : a.toNat ≤ b.toNat := by
  have e : IntOp.cmpi .sle a b = BitVec.ofBool (a.sle b) := rfl
  rw [e] at h
  have h2 : a.sle b = true := by
    cases q : a.sle b
    · rw [q] at h; exact absurd h (by decide)
    · rfl
  rw [BitVec.sle_iff_toInt_le, BitVec.toInt_eq_toNat_cond, BitVec.toInt_eq_toNat_cond] at h2
  split at h2 <;> split at h2 <;> omega

theorem mono_of_step {N : ℕ} (f : Fin (N + 1) → ℕ) (h : ∀ i : Fin N, f ⟨i.val, by omega⟩ ≤ f ⟨i.val + 1, by omega⟩) : Monotone f :=
  Fin.monotone_iff_le_succ.2 fun i => h i

/-- The arrays' meaning: segment numbers below sixteen and nondecreasing; every array a layer norm's variance depends on is finite. -/
structure Good (x : FVec Ideal S32768x128 .f32) (b : IVec S32768 32) (gw0 : FVec Ideal S256x128 .f32) (gb0 : FVec Ideal S256 .f32) (lw0 : FVec Ideal S256x128 .f32)
    (nw0 nb0 : FVec Ideal S256 .f32) (a0 : FVec Ideal S_ .f32) (gw1 : FVec Ideal S256x256 .f32) (gb1 : FVec Ideal S256 .f32) (lw1 : FVec Ideal S256x256 .f32)
    (nw1 nb1 : FVec Ideal S256 .f32) (a1 : FVec Ideal S_ .f32) (mw : FVec Ideal S128x256 .f32) (mb : FVec Ideal S128 .f32) : Prop where
  rng : ∀ n, (b n).toNat < 16
  mono : Monotone fun n : Fin 32768 => (b (ix1 n)).toNat
  x : ∀ i, Fin' (x i : EReal)
  gw0 : ∀ i, Fin' (gw0 i : EReal)
  gb0 : ∀ i, Fin' (gb0 i : EReal)
  lw0 : ∀ i, Fin' (lw0 i : EReal)
  nw0 : ∀ i, Fin' (nw0 i : EReal)
  nb0 : ∀ i, Fin' (nb0 i : EReal)
  a0 : ∀ i, Fin' (a0 i : EReal)
  gw1 : ∀ i, Fin' (gw1 i : EReal)
  gb1 : ∀ i, Fin' (gb1 i : EReal)
  lw1 : ∀ i, Fin' (lw1 i : EReal)
  nw1 : ∀ i, Fin' (nw1 i : EReal)
  nb1 : ∀ i, Fin' (nb1 i : EReal)
  a1 : ∀ i, Fin' (a1 i : EReal)
  mw : ∀ i, Fin' (mw i : EReal)
  mb : ∀ i, Fin' (mb i : EReal)

/-- The precondition gives the arrays' meaning. -/
theorem good (x : FVec Ideal S32768x128 .f32) (b : IVec S32768 32) (gw0 : FVec Ideal S256x128 .f32) (gb0 : FVec Ideal S256 .f32) (lw0 : FVec Ideal S256x128 .f32)
    (nw0 nb0 : FVec Ideal S256 .f32) (a0 : FVec Ideal S_ .f32) (gw1 : FVec Ideal S256x256 .f32) (gb1 : FVec Ideal S256 .f32) (lw1 : FVec Ideal S256x256 .f32)
    (nw1 nb1 : FVec Ideal S256 .f32) (a1 : FVec Ideal S_ .f32) (mw : FVec Ideal S128x256 .f32) (mb : FVec Ideal S128 .f32)
    (nw nb : FVec Ideal S128 .f32) (a : FVec Ideal S_ .f32) (ow : FVec Ideal S64x128 .f32) (ob : FVec Ideal S64 .f32)
    (h : fn (F := Ideal) x b gw0 gb0 lw0 nw0 nb0 a0 gw1 gb1 lw1 nw1 nb1 a1 mw mb nw nb a ow ob = fun _ => 1#1) :
    Good x b gw0 gb0 lw0 nw0 nb0 a0 gw1 gb1 lw1 nw1 nb1 a1 mw mb := by
  have h := congrFun h Idealize.ShloMosaic.ix0
  unfold fn fn_part1 fn_part2 fn_part3 fn_part4 at h
  dsimp only at h
  obtain ⟨h, h15⟩ := both _ _ _ h
  obtain ⟨h, h14⟩ := both _ _ _ h
  obtain ⟨h, h13⟩ := both _ _ _ h
  obtain ⟨h, h12⟩ := both _ _ _ h
  obtain ⟨h, h11⟩ := both _ _ _ h
  obtain ⟨h, h10⟩ := both _ _ _ h
  obtain ⟨h, h9⟩ := both _ _ _ h
  obtain ⟨h, h8⟩ := both _ _ _ h
  obtain ⟨h, h7⟩ := both _ _ _ h
  obtain ⟨h, h6⟩ := both _ _ _ h
  obtain ⟨h, h5⟩ := both _ _ _ h
  obtain ⟨h, h4⟩ := both _ _ _ h
  obtain ⟨h, h3⟩ := both _ _ _ h
  obtain ⟨h, h2⟩ := both _ _ _ h
  obtain ⟨h, h0⟩ := both _ _ _ h
  obtain ⟨hr, hm⟩ := both _ _ _ h
  have rng : ∀ n, (b n).toNat < 16 := fun n => Cert.KernelIdeal.Hand.lt_of_bits _ (all_ones _ _ _ _ _ hr n)
  refine ⟨rng, mono_of_step _ fun i => ?_, fin_all _ _ _ _ _ _ (fun _ => rfl) h0, fin_all _ _ _ _ _ _ (fun _ => rfl) h2, fin_all _ _ _ _ _ _ (fun _ => rfl) h3, fin_all _ _ _ _ _ _ (fun _ => rfl) h4,
    fin_all _ _ _ _ _ _ (fun _ => rfl) h5, fin_all _ _ _ _ _ _ (fun _ => rfl) h6, fin_all _ _ _ _ _ _ (fun _ => rfl) h7, fin_all _ _ _ _ _ _ (fun _ => rfl) h8,
    fin_all _ _ _ _ _ _ (fun _ => rfl) h9, fin_all _ _ _ _ _ _ (fun _ => rfl) h10, fin_all _ _ _ _ _ _ (fun _ => rfl) h11, fin_all _ _ _ _ _ _ (fun _ => rfl) h12,
    fin_all _ _ _ _ _ _ (fun _ => rfl) h13, fin_all _ _ _ _ _ _ (fun _ => rfl) h14, fin_all _ _ _ _ _ _ (fun _ => rfl) h15⟩
  have q := all_ones _ _ _ _ _ hm (ix1 i)
  refine le_bit _ _ (rng _) (rng _) ?_
  have e0 : extractStridedSlice S32767 ![0] b Facts.slices_S32768_S32767_0 (ix1 i) = b (ix1 ⟨i.val, by omega⟩) :=
    congrArg b (funext fun a => Fin.ext (by fin_cases a; exact Nat.zero_add _))
  have e1 : extractStridedSlice S32767 ![1] b Facts.slices_S32768_S32767_1 (ix1 i) = b (ix1 ⟨i.val + 1, by omega⟩) :=
    congrArg b (funext fun a => Fin.ext (by fin_cases a; exact Nat.add_comm _ _))
  rw [← e0, ← e1]
  exact q

end Cert.Pre_segments_finite.Val
-- ==== Proof.Value.RefOps.lean ====
module

public import proofs.«01_k».proof.Proof.Gen.ReferenceIdeal
public import proofs.«01_k».proof.Proof.Value.Math
public import Idealize.ShloMosaic.Lib.Routing.Ops
public import Idealize.ShloMosaic.Lib.Routing.OpsPair
public import Idealize.ShloMosaic.Lib.Pointwise

@[expose] public section

set_option maxRecDepth 16384
noncomputable section
namespace Cert.ReferenceIdeal.Val
open Cert.ReferenceIdeal Cert.ReferenceIdeal.Gen
open Idealize.ShloMosaic
open Idealize.ShloMosaic.TcCoe
open Cert.Val

/-! ## The reference's operations, read at an entry -/

theorem word_small (v : BitVec 32) (s : ℕ) (hs : s < 16) : IntOp.cmpi .eq v (BitVec.ofNat 32 s) = 1#1 ↔ v.toNat = s := by
  have e : IntOp.cmpi .eq v (BitVec.ofNat 32 s) = BitVec.ofBool (v == BitVec.ofNat 32 s) := rfl
  rw [e]
  by_cases h : v = BitVec.ofNat 32 s
  · subst h; simp; omega
  · have h' : v.toNat ≠ s := fun h2 => h (by rw [← h2]; simp)
    have e2 : (v == BitVec.ofNat 32 s) = false := by simpa using h
    simp only [e2, h', iff_false]; decide

theorem to_int (v : BitVec 32) (h : v.toNat < 16) : v.toInt = (v.toNat : ℤ) := by
  rw [BitVec.toInt_eq_toNat_cond]; omega

/-! ### Landing places of the scatters -/

abbrev d1 := scatter_S16_S32768x1_S32768_n_0_0_1
abbrev d2 := scatter_S16x256_S32768x1_S32768x256_1_0_0_1

theorem land1 (idx : IVec S32768x1 32) (n : Fin 32768) (s : Fin 16) :
    d1.resultIdx? (ix1 n) idx = some (ix1 s) ↔ (idx (ix2 n 0)).toInt = (s.val : ℤ) := by
  refine (Routing.resultIdx?_ix1 d1 (ix1 n) idx s).trans ?_
  have h0 : d1.window (ix1 n) 0 = 0 := by
    unfold ScatterDims.window
    rw [dif_neg (by decide)]
  have h1 : d1.start (ix1 n) idx 0 = (idx (ix2 n 0)).toInt := by
    unfold ScatterDims.start
    rw [dif_pos (by decide)]
    refine congrArg (fun i => (idx i).toInt) (funext fun a => Fin.ext ?_)
    fin_cases a
    · unfold ScatterDims.siIdx
      rw [dif_neg (by decide)]
      rfl
    · unfold ScatterDims.siIdx
      rw [dif_pos (by decide)]
      rfl
  rw [h0, h1]; simp

theorem land2 (idx : IVec S32768x1 32) (n : Fin 32768) (f : Fin 256) (s : Fin 16) (g : Fin 256) :
    d2.resultIdx? (ix2 n f) idx = some (ix2 s g) ↔ (idx (ix2 n 0)).toInt = (s.val : ℤ) ∧ f = g := by
  refine (Routing.resultIdx?_ix2 d2 (ix2 n f) idx s g).trans ?_
  have h0 : d2.window (ix2 n f) 0 = 0 := by
    unfold ScatterDims.window
    rw [dif_neg (by decide)]
  have h1 : d2.window (ix2 n f) 1 = f.val := by
    unfold ScatterDims.window
    rw [dif_pos (by decide)]
    rfl
  have h2 : d2.start (ix2 n f) idx 0 = (idx (ix2 n 0)).toInt := by
    unfold ScatterDims.start
    rw [dif_pos (by decide)]
    refine congrArg (fun i => (idx i).toInt) (funext fun a => Fin.ext ?_)
    fin_cases a
    · unfold ScatterDims.siIdx
      rw [dif_neg (by decide)]
      rfl
    · unfold ScatterDims.siIdx
      rw [dif_pos (by decide)]
      rfl
  have h3 : d2.start (ix2 n f) idx 1 = 0 := by
    unfold ScatterDims.start
    rw [dif_neg (by decide)]
  rw [h0, h1, h2, h3, Fin.ext_iff]
  constructor
  · rintro ⟨a, b⟩; exact ⟨by simpa using a, by simpa using b⟩
  · rintro ⟨a, b⟩; exact ⟨by simpa using a, by simpa using b⟩

theorem sum_single {N : ℕ} (g : Fin N) (v : Fin N → EReal) : (∑ f, if f = g then v f else 0) = v g := by simp

theorem sum_land1 {N : ℕ} (p : (⟨1, ![N]⟩ : Shape).Idx → Prop) [DecidablePred p] (u : (⟨1, ![N]⟩ : Shape).Idx → EReal) (b : Fin N → ℕ) (s : ℕ)
    (h : ∀ n, p (ix1 n) ↔ (b n : ℤ) = (s : ℤ)) : ∑ j ∈ Finset.univ.filter p, u j = ∑ n, if b n = s then u (ix1 n) else 0 := by
  rw [Finset.sum_filter, sum_idx1]
  refine Finset.sum_congr rfl fun n _ => ?_
  by_cases e : b n = s
  · rw [if_pos e, if_pos ((h n).2 (by rw [e]))]
  · rw [if_neg e, if_neg fun k => e (by exact_mod_cast (h n).1 k)]

theorem sum_land2 {N M : ℕ} (p : (⟨2, ![N, M]⟩ : Shape).Idx → Prop) [DecidablePred p] (u : (⟨2, ![N, M]⟩ : Shape).Idx → EReal) (b : Fin N → ℕ) (s : ℕ) (g : Fin M)
    (h : ∀ n f, p (ix2 n f) ↔ (b n : ℤ) = (s : ℤ) ∧ f = g) : ∑ j ∈ Finset.univ.filter p, u j = ∑ n, if b n = s then u (ix2 n g) else 0 := by
  rw [Finset.sum_filter, sum_idx2]
  refine Finset.sum_congr rfl fun n _ => ?_
  by_cases e : b n = s
  · rw [if_pos e, ← sum_single g fun f => u (ix2 n f)]
    refine Finset.sum_congr rfl fun f _ => ?_
    by_cases k : f = g
    · rw [if_pos k, if_pos ((h n f).2 ⟨by rw [e], k⟩)]
    · rw [if_neg k, if_neg fun q => k ((h n f).1 q).2]
  · rw [if_neg e]
    exact Finset.sum_eq_zero fun f _ => if_neg fun k => e (by exact_mod_cast ((h n f).1 k).1)

theorem add1_at (z : Vec Ideal S16 .f32) (idx : IVec S32768x1 32) (u : Vec Ideal S32768 .f32) (b : Fin 32768 → ℕ) (hb : ∀ n, (idx (ix2 n 0)).toInt = (b n : ℤ)) (s : Fin 16) :
    (Host.scatterAdd (F := Ideal) (φ := .f32) d1 z idx u (ix1 s) : EReal) = z (ix1 s) + ∑ n : Fin 32768, if b n = s.val then (u (ix1 n) : EReal) else 0 :=
  congrArg (fun x : EReal => z (ix1 s) + x) (sum_land1 (fun j => d1.resultIdx? j idx = some (ix1 s)) u b s.val fun n => by rw [← hb n]; exact land1 idx n s)

theorem add2_at (z : Vec Ideal S16x256 .f32) (idx : IVec S32768x1 32) (u : Vec Ideal S32768x256 .f32) (b : Fin 32768 → ℕ) (hb : ∀ n, (idx (ix2 n 0)).toInt = (b n : ℤ)) (s : Fin 16) (g : Fin 256) :
    (Host.scatterAdd (F := Ideal) (φ := .f32) d2 z idx u (ix2 s g) : EReal) = z (ix2 s g) + ∑ n : Fin 32768, if b n = s.val then (u (ix2 n g) : EReal) else 0 :=
  congrArg (fun x : EReal => z (ix2 s g) + x) (sum_land2 (fun j => d2.resultIdx? j idx = some (ix2 s g)) u b s.val g fun n f => by rw [← hb n]; exact land2 idx n f s g)

end Cert.ReferenceIdeal.Val
-- ==== Proof.Value.RefLin.lean ====
module

public import proofs.«01_k».proof.Proof.Gen.ReferenceIdeal
public import proofs.«01_k».proof.Proof.Value.RefOps
public import Idealize.ShloMosaic.Lib.Routing.Ops
public import Idealize.ShloMosaic.Lib.Routing.OpsPair
public import Idealize.ShloMosaic.Lib.Pointwise

@[expose] public section

set_option maxRecDepth 16384
noncomputable section
namespace Cert.ReferenceIdeal.Val
open Cert.ReferenceIdeal Cert.ReferenceIdeal.Gen
open Idealize.ShloMosaic
open Idealize.ShloMosaic.TcCoe
open Cert.Val

/-- The greatest entries of the segments. -/
theorem max128_at (X : Vec Ideal S32768x128 .f32) (B : IVec S32768 32) (s : Fin 16) (k : Fin 128) :
    (Host.reduce (FloatOps.maximumf (F := Ideal) (φ := .f32)) (select (broadcastInDim S16x32768x128 ![0, 1, 2] bcast_S16x32768x1_S16x32768x128_0_1_2 (broadcastInDim S16x32768x1 ![0, 1] bcast_S16x32768_S16x32768x1_0_1 (cmpi .eq (broadcastInDim S16x32768 ![0, 1] bcast_S1x32768_S16x32768_0_1 (broadcastInDim S1x32768 ![1] bcast_S32768_S1x32768_1 B)) (broadcastInDim S16x32768 ![0, 1] bcast_S16x1_S16x32768_0_1 (broadcastInDim S16x1 ![0] bcast_S16_S16x1_0 (iotaInDim S16 32 0)))))) (broadcastInDim S16x32768x128 ![0, 1, 2] bcast_S1x32768x128_S16x32768x128_0_1_2 (broadcastInDim S1x32768x128 ![1, 2] bcast_S32768x128_S1x32768x128_1_2 X)) (broadcastInDim S16x32768x128 ![] bcast_S_S16x32768x128 (id (constant (F := Ideal) S_ .f32 0xFF800000#32)))) (constant (F := Ideal) S_ .f32 0xFF800000#32) reducesTo_S16x32768x128_S16x128_d1 h_S_ (ix2 s k) : EReal)
      = segmax (fun n => (B (ix1 n)).toNat) (fun n k => (X (ix2 n k) : EReal)) s.val k := by
  rw [← segmax_eq_fold]
  have e : (Host.reduce (FloatOps.maximumf (F := Ideal) (φ := .f32)) (select (broadcastInDim S16x32768x128 ![0, 1, 2] bcast_S16x32768x1_S16x32768x128_0_1_2 (broadcastInDim S16x32768x1 ![0, 1] bcast_S16x32768_S16x32768x1_0_1 (cmpi .eq (broadcastInDim S16x32768 ![0, 1] bcast_S1x32768_S16x32768_0_1 (broadcastInDim S1x32768 ![1] bcast_S32768_S1x32768_1 B)) (broadcastInDim S16x32768 ![0, 1] bcast_S16x1_S16x32768_0_1 (broadcastInDim S16x1 ![0] bcast_S16_S16x1_0 (iotaInDim S16 32 0)))))) (broadcastInDim S16x32768x128 ![0, 1, 2] bcast_S1x32768x128_S16x32768x128_0_1_2 (broadcastInDim S1x32768x128 ![1, 2] bcast_S32768x128_S1x32768x128_1_2 X)) (broadcastInDim S16x32768x128 ![] bcast_S_S16x32768x128 (id (constant (F := Ideal) S_ .f32 0xFF800000#32)))) (constant (F := Ideal) S_ .f32 0xFF800000#32) reducesTo_S16x32768x128_S16x128_d1 h_S_ (ix2 s k) : EReal)
      = Finset.univ.fold max (Ideal.ofBits .f32 0xFF800000#32) fun n : Fin 32768 => (Scalar.select (IntOp.cmpi .eq (B (ix1 n)) (BitVec.ofNat 32 s.val)) (X (ix2 n k)) (Ideal.ofBits .f32 0xFF800000#32) : EReal) := by
    dsimp only [id_eq]
    pointwise []
  rw [e, lit_bot]
  refine congrArg (Finset.univ.fold max ⊥) (funext fun n => ?_)
  show (if IntOp.cmpi .eq (B (ix1 n)) (BitVec.ofNat 32 s.val) = 1#1 then (X (ix2 n k) : EReal) else ⊥) = _
  by_cases h : (B (ix1 n)).toNat = s.val
  · rw [if_pos h, if_pos ((word_small _ _ s.isLt).2 h)]
  · rw [if_neg h, if_neg fun q => h ((word_small _ _ s.isLt).1 q)]

theorem dotm128_at (M : Vec Ideal S16x128 .f32) (L : Vec Ideal S256x128 .f32) (s : Fin 16) (f : Fin 256) :
    ((Host.dotGeneral (F := Ideal) (φ₁ := .f32) (φ₂ := .f32) dot_S16x128_S128x256_S16x256_1_0_0_1_n_n none M (transpose S128x256 [1, 0] L transposes_S256x128_S128x256_1_0) : FVec Ideal S16x256 .f32) (ix2 s f) : EReal)
      = ∑ k : Fin 128, (M (ix2 s k) : EReal) * L (ix2 f k) := by pointwise []

theorem sub128_at (X : Vec Ideal S32768x128 .f32) (G : Vec Ideal S256x128 .f32) (gb : Vec Ideal S256 .f32) (Y : Vec Ideal S32768x256 .f32) (n : Fin 32768) (f : Fin 256) :
    ((subf (addf (Host.dotGeneral (F := Ideal) (φ₁ := .f32) (φ₂ := .f32) dot_S32768x128_S128x256_S32768x256_1_0_0_1_n_n none X (transpose S128x256 [1, 0] G transposes_S256x128_S128x256_1_0)) (broadcastInDim S32768x256 ![0, 1] bcast_S1x256_S32768x256_0_1 (broadcastInDim S1x256 ![1] bcast_S256_S1x256_1 gb))) Y : FVec Ideal S32768x256 .f32) (ix2 n f) : EReal)
      = (∑ k : Fin 128, (X (ix2 n k) : EReal) * G (ix2 f k)) + gb (ix1 f) - Y (ix2 n f) := by pointwise []

/-- The greatest entries of the segments. -/
theorem max256_at (X : Vec Ideal S32768x256 .f32) (B : IVec S32768 32) (s : Fin 16) (k : Fin 256) :
    (Host.reduce (FloatOps.maximumf (F := Ideal) (φ := .f32)) (select (broadcastInDim S16x32768x256 ![0, 1, 2] bcast_S16x32768x1_S16x32768x256_0_1_2 (broadcastInDim S16x32768x1 ![0, 1] bcast_S16x32768_S16x32768x1_0_1 (cmpi .eq (broadcastInDim S16x32768 ![0, 1] bcast_S1x32768_S16x32768_0_1 (broadcastInDim S1x32768 ![1] bcast_S32768_S1x32768_1 B)) (broadcastInDim S16x32768 ![0, 1] bcast_S16x1_S16x32768_0_1 (broadcastInDim S16x1 ![0] bcast_S16_S16x1_0 (iotaInDim S16 32 0)))))) (broadcastInDim S16x32768x256 ![0, 1, 2] bcast_S1x32768x256_S16x32768x256_0_1_2 (broadcastInDim S1x32768x256 ![1, 2] bcast_S32768x256_S1x32768x256_1_2 X)) (broadcastInDim S16x32768x256 ![] bcast_S_S16x32768x256 (id (constant (F := Ideal) S_ .f32 0xFF800000#32)))) (constant (F := Ideal) S_ .f32 0xFF800000#32) reducesTo_S16x32768x256_S16x256_d1 h_S_ (ix2 s k) : EReal)
      = segmax (fun n => (B (ix1 n)).toNat) (fun n k => (X (ix2 n k) : EReal)) s.val k := by
  rw [← segmax_eq_fold]
  have e : (Host.reduce (FloatOps.maximumf (F := Ideal) (φ := .f32)) (select (broadcastInDim S16x32768x256 ![0, 1, 2] bcast_S16x32768x1_S16x32768x256_0_1_2 (broadcastInDim S16x32768x1 ![0, 1] bcast_S16x32768_S16x32768x1_0_1 (cmpi .eq (broadcastInDim S16x32768 ![0, 1] bcast_S1x32768_S16x32768_0_1 (broadcastInDim S1x32768 ![1] bcast_S32768_S1x32768_1 B)) (broadcastInDim S16x32768 ![0, 1] bcast_S16x1_S16x32768_0_1 (broadcastInDim S16x1 ![0] bcast_S16_S16x1_0 (iotaInDim S16 32 0)))))) (broadcastInDim S16x32768x256 ![0, 1, 2] bcast_S1x32768x256_S16x32768x256_0_1_2 (broadcastInDim S1x32768x256 ![1, 2] bcast_S32768x256_S1x32768x256_1_2 X)) (broadcastInDim S16x32768x256 ![] bcast_S_S16x32768x256 (id (constant (F := Ideal) S_ .f32 0xFF800000#32)))) (constant (F := Ideal) S_ .f32 0xFF800000#32) reducesTo_S16x32768x256_S16x256_d1 h_S_ (ix2 s k) : EReal)
      = Finset.univ.fold max (Ideal.ofBits .f32 0xFF800000#32) fun n : Fin 32768 => (Scalar.select (IntOp.cmpi .eq (B (ix1 n)) (BitVec.ofNat 32 s.val)) (X (ix2 n k)) (Ideal.ofBits .f32 0xFF800000#32) : EReal) := by
    dsimp only [id_eq]
    pointwise []
  rw [e, lit_bot]
  refine congrArg (Finset.univ.fold max ⊥) (funext fun n => ?_)
  show (if IntOp.cmpi .eq (B (ix1 n)) (BitVec.ofNat 32 s.val) = 1#1 then (X (ix2 n k) : EReal) else ⊥) = _
  by_cases h : (B (ix1 n)).toNat = s.val
  · rw [if_pos h, if_pos ((word_small _ _ s.isLt).2 h)]
  · rw [if_neg h, if_neg fun q => h ((word_small _ _ s.isLt).1 q)]

theorem dotm256_at (M : Vec Ideal S16x256 .f32) (L : Vec Ideal S256x256 .f32) (s : Fin 16) (f : Fin 256) :
    ((Host.dotGeneral (F := Ideal) (φ₁ := .f32) (φ₂ := .f32) dot_S16x256_S256x256_S16x256_1_0_0_1_n_n none M (transpose S256x256 [1, 0] L transposes_S256x256_S256x256_1_0) : FVec Ideal S16x256 .f32) (ix2 s f) : EReal)
      = ∑ k : Fin 256, (M (ix2 s k) : EReal) * L (ix2 f k) := by pointwise []

theorem sub256_at (X : Vec Ideal S32768x256 .f32) (G : Vec Ideal S256x256 .f32) (gb : Vec Ideal S256 .f32) (Y : Vec Ideal S32768x256 .f32) (n : Fin 32768) (f : Fin 256) :
    ((subf (addf (Host.dotGeneral (F := Ideal) (φ₁ := .f32) (φ₂ := .f32) dot_S32768x256_S256x256_S32768x256_1_0_0_1_n_n none X (transpose S256x256 [1, 0] G transposes_S256x256_S256x256_1_0)) (broadcastInDim S32768x256 ![0, 1] bcast_S1x256_S32768x256_0_1 (broadcastInDim S1x256 ![1] bcast_S256_S1x256_1 gb))) Y : FVec Ideal S32768x256 .f32) (ix2 n f) : EReal)
      = (∑ k : Fin 256, (X (ix2 n k) : EReal) * G (ix2 f k)) + gb (ix1 f) - Y (ix2 n f) := by pointwise []

/-- Each row reads its segment's row. -/
theorem gath_at (M : Vec Ideal S16x256 .f32) (B : IVec S32768 32) (hB : ∀ n, (B n).toNat < 16) (n : Fin 32768) (f : Fin 256) :
    Host.gather gather_S16x256_S32768x1_S32768x256_1_0_n_n_0_1_1256 M (broadcastInDim S32768x1 ![0] bcast_S32768_S32768x1_0 (select (cmpi .slt B (broadcastInDim S32768 ![] bcast_S_S32768 (constantI S_ 32 0#32))) (addi B (broadcastInDim S32768 ![] bcast_S_S32768 (constantI S_ 32 16#32))) B)) (ix2 n f)
      = M (ix2 ⟨(B (ix1 n)).toNat, hB _⟩ f) := by
  refine Routing.gather_row _ rfl rfl rfl rfl rfl M _ n f ⟨(B (ix1 n)).toNat, hB _⟩ ?_ (by norm_num)
  have e : (broadcastInDim S32768x1 ![0] bcast_S32768_S32768x1_0 (select (cmpi .slt B (broadcastInDim S32768 ![] bcast_S_S32768 (constantI S_ 32 0#32))) (addi B (broadcastInDim S32768 ![] bcast_S_S32768 (constantI S_ 32 16#32))) B) : IVec S32768x1 32) (ix2 n 0)
      = Scalar.select (IntOp.cmpi .slt (B (ix1 n)) 0#32) (IntOp.addi (B (ix1 n)) 16#32) (B (ix1 n)) := by pointwise []
  refine e.trans ?_
  rw [Routing.wrap_of_lt _ _ (by have := hB (ix1 n); norm_num; omega)]
  simp

end Cert.ReferenceIdeal.Val
-- ==== Proof.Value.RefNorm.lean ====
module

public import proofs.«01_k».proof.Proof.Gen.ReferenceIdeal
public import proofs.«01_k».proof.Proof.Value.RefOps
public import Idealize.ShloMosaic.Lib.Routing.Ops
public import Idealize.ShloMosaic.Lib.Routing.OpsPair
public import Idealize.ShloMosaic.Lib.Pointwise

@[expose] public section

set_option maxRecDepth 16384
noncomputable section
namespace Cert.ReferenceIdeal.Val
open Cert.ReferenceIdeal Cert.ReferenceIdeal.Gen
open Idealize.ShloMosaic
open Idealize.ShloMosaic.TcCoe
open Cert.Val

theorem mean256_at (H : Vec Ideal S32768x256 .f32) (n : Fin 32768) :
    (Host.divf (broadcastInDim S32768x1 ![0] bcast_S32768_S32768x1_0 (Host.reduceAdd H (constant (F := Ideal) S_ .f32 0x00000000#32) reducesTo_S32768x256_S32768_d1 h_S_)) (broadcastInDim S32768x1 ![] bcast_S_S32768x1 (constant (F := Ideal) S_ .f32 0x43800000#32)) (ix2 n 0) : EReal)
      = mean (Ideal.ofBits .f32 0x43800000#32) fun k : Fin 256 => (H (ix2 n k) : EReal) := by
  unfold mean
  pointwise []

theorem ln256_at (H : Vec Ideal S32768x256 .f32) (M : Vec Ideal S32768x1 .f32) (w b : Vec Ideal S256 .f32) (n : Fin 32768) (f : Fin 256)
    (hM : (M (ix2 n 0) : EReal) = mean (Ideal.ofBits .f32 0x43800000#32) fun k : Fin 256 => (H (ix2 n k) : EReal)) :
    (addf (mulf (Host.divf (subf H (broadcastInDim S32768x256 ![0, 1] bcast_S32768x1_S32768x256_0_1 M)) (broadcastInDim S32768x256 ![0, 1] bcast_S32768x1_S32768x256_0_1 (Host.sqrt (addf (Host.divf (broadcastInDim S32768x1 ![0] bcast_S32768_S32768x1_0 (Host.reduceAdd (mulf (subf H (broadcastInDim S32768x256 ![0, 1] bcast_S32768x1_S32768x256_0_1 M)) (subf H (broadcastInDim S32768x256 ![0, 1] bcast_S32768x1_S32768x256_0_1 M))) (constant (F := Ideal) S_ .f32 0x00000000#32) reducesTo_S32768x256_S32768_d1 h_S_)) (broadcastInDim S32768x1 ![] bcast_S_S32768x1 (constant (F := Ideal) S_ .f32 0x43800000#32))) (broadcastInDim S32768x1 ![] bcast_S_S32768x1 (constant (F := Ideal) S_ .f32 0x3727C5AC#32)))))) (broadcastInDim S32768x256 ![0, 1] bcast_S1x256_S32768x256_0_1 (broadcastInDim S1x256 ![1] bcast_S256_S1x256_1 w))) (broadcastInDim S32768x256 ![0, 1] bcast_S1x256_S32768x256_0_1 (broadcastInDim S1x256 ![1] bcast_S256_S1x256_1 b)) (ix2 n f) : EReal)
      = lnR (Ideal.ofBits .f32 0x43800000#32) (fun k : Fin 256 => (H (ix2 n k) : EReal)) (w (ix1 f)) (b (ix1 f)) f := by
  unfold lnR
  rw [← hM]
  pointwise []

theorem gate256_at (Y : Vec Ideal S32768x256 .f32) (a : Vec Ideal S_ .f32) (n : Fin 32768) (f : Fin 256) :
    ((select (cmpf (F := Ideal) (φ := .f32) .oge Y (broadcastInDim S32768x256 ![] bcast_S_S32768x256 (constant (F := Ideal) S_ .f32 0x00000000#32))) Y (mulf (F := Ideal) (φ := .f32) (broadcastInDim S32768x256 ![] bcast_S_S32768x256 a) Y) : Vec Ideal S32768x256 .f32) (ix2 n f) : EReal)
      = prelu (a Idealize.ShloMosaic.ix0) (Y (ix2 n f)) := by
  unfold prelu
  pointwise []

theorem mean128_at (H : Vec Ideal S16x128 .f32) (n : Fin 16) :
    (Host.divf (broadcastInDim S16x1 ![0] bcast_S16_S16x1_0 (Host.reduceAdd H (constant (F := Ideal) S_ .f32 0x00000000#32) reducesTo_S16x128_S16_d1 h_S_)) (broadcastInDim S16x1 ![] bcast_S_S16x1 (constant (F := Ideal) S_ .f32 0x43000000#32)) (ix2 n 0) : EReal)
      = mean (Ideal.ofBits .f32 0x43000000#32) fun k : Fin 128 => (H (ix2 n k) : EReal) := by
  unfold mean
  pointwise []

theorem ln128_at (H : Vec Ideal S16x128 .f32) (M : Vec Ideal S16x1 .f32) (w b : Vec Ideal S128 .f32) (n : Fin 16) (f : Fin 128)
    (hM : (M (ix2 n 0) : EReal) = mean (Ideal.ofBits .f32 0x43000000#32) fun k : Fin 128 => (H (ix2 n k) : EReal)) :
    (addf (mulf (Host.divf (subf H (broadcastInDim S16x128 ![0, 1] bcast_S16x1_S16x128_0_1 M)) (broadcastInDim S16x128 ![0, 1] bcast_S16x1_S16x128_0_1 (Host.sqrt (addf (Host.divf (broadcastInDim S16x1 ![0] bcast_S16_S16x1_0 (Host.reduceAdd (mulf (subf H (broadcastInDim S16x128 ![0, 1] bcast_S16x1_S16x128_0_1 M)) (subf H (broadcastInDim S16x128 ![0, 1] bcast_S16x1_S16x128_0_1 M))) (constant (F := Ideal) S_ .f32 0x00000000#32) reducesTo_S16x128_S16_d1 h_S_)) (broadcastInDim S16x1 ![] bcast_S_S16x1 (constant (F := Ideal) S_ .f32 0x43000000#32))) (broadcastInDim S16x1 ![] bcast_S_S16x1 (constant (F := Ideal) S_ .f32 0x3727C5AC#32)))))) (broadcastInDim S16x128 ![0, 1] bcast_S1x128_S16x128_0_1 (broadcastInDim S1x128 ![1] bcast_S128_S1x128_1 w))) (broadcastInDim S16x128 ![0, 1] bcast_S1x128_S16x128_0_1 (broadcastInDim S1x128 ![1] bcast_S128_S1x128_1 b)) (ix2 n f) : EReal)
      = lnR (Ideal.ofBits .f32 0x43000000#32) (fun k : Fin 128 => (H (ix2 n k) : EReal)) (w (ix1 f)) (b (ix1 f)) f := by
  unfold lnR
  rw [← hM]
  pointwise []

theorem gate128_at (Y : Vec Ideal S16x128 .f32) (a : Vec Ideal S_ .f32) (n : Fin 16) (f : Fin 128) :
    ((select (cmpf (F := Ideal) (φ := .f32) .oge Y (broadcastInDim S16x128 ![] bcast_S_S16x128 (constant (F := Ideal) S_ .f32 0x00000000#32))) Y (mulf (F := Ideal) (φ := .f32) (broadcastInDim S16x128 ![] bcast_S_S16x128 a) Y) : Vec Ideal S16x128 .f32) (ix2 n f) : EReal)
      = prelu (a Idealize.ShloMosaic.ix0) (Y (ix2 n f)) := by
  unfold prelu
  pointwise []

theorem word_at (B : IVec S32768 32) (n : Fin 32768) : (broadcastInDim S32768x1 ![0] bcast_S32768_S32768x1_0 B : IVec S32768x1 32) (ix2 n 0) = B (ix1 n) := by pointwise []

theorem pool_at (S : Vec Ideal S16x256 .f32) (C : Vec Ideal S16 .f32) (s : Fin 16) (k : Fin 256) :
    (Host.divf S (broadcastInDim S16x256 ![0, 1] bcast_S16x1_S16x256_0_1 (broadcastInDim S16x1 ![0] bcast_S16_S16x1_0 (maximumf (broadcastInDim S16 ![] bcast_S_S16 (id (constant (F := Ideal) S_ .f32 0x3F800000#32))) C))) (ix2 s k) : EReal)
      = Ideal.div (S (ix2 s k)) (max 1 (C (ix1 s))) := by
  dsimp only [id_eq]
  pointwise []

theorem headlin_at (P : Vec Ideal S16x256 .f32) (W : Vec Ideal S128x256 .f32) (b : Vec Ideal S128 .f32) (s : Fin 16) (f : Fin 128) :
    ((addf (Host.dotGeneral (F := Ideal) (φ₁ := .f32) (φ₂ := .f32) dot_S16x256_S256x128_S16x128_1_0_0_1_n_n none P (transpose S256x128 [1, 0] W transposes_S128x256_S256x128_1_0)) (broadcastInDim S16x128 ![0, 1] bcast_S1x128_S16x128_0_1 (broadcastInDim S1x128 ![1] bcast_S128_S1x128_1 b)) : FVec Ideal S16x128 .f32) (ix2 s f) : EReal)
      = (∑ k : Fin 256, (P (ix2 s k) : EReal) * W (ix2 f k)) + b (ix1 f) := by pointwise []

theorem out_at (P : Vec Ideal S16x128 .f32) (W : Vec Ideal S64x128 .f32) (b : Vec Ideal S64 .f32) (s : Fin 16) (f : Fin 64) :
    ((addf (Host.dotGeneral (F := Ideal) (φ₁ := .f32) (φ₂ := .f32) dot_S16x128_S128x64_S16x64_1_0_0_1_n_n none P (transpose S128x64 [1, 0] W transposes_S64x128_S128x64_1_0)) (broadcastInDim S16x64 ![0, 1] bcast_S1x64_S16x64_0_1 (broadcastInDim S1x64 ![1] bcast_S64_S1x64_1 b)) : FVec Ideal S16x64 .f32) (ix2 s f) : EReal)
      = (∑ k : Fin 128, (P (ix2 s k) : EReal) * W (ix2 f k)) + b (ix1 f) := by pointwise []

theorem zero1_at (s : Fin 16) : (broadcastInDim S16 ![] bcast_S_S16 (constant (F := Ideal) S_ .f32 0x00000000#32) (ix1 s) : EReal) = 0 := by pointwise []
theorem zero2_at (s : Fin 16) (k : Fin 256) : (broadcastInDim S16x256 ![] bcast_S_S16x256 (constant (F := Ideal) S_ .f32 0x00000000#32) (ix2 s k) : EReal) = 0 := by pointwise []
theorem ones_at (n : Fin 32768) : (broadcastInDim S32768 ![] bcast_S_S32768 (constant (F := Ideal) S_ .f32 0x3F800000#32) (ix1 n) : EReal) = 1 := by pointwise []

end Cert.ReferenceIdeal.Val
-- ==== Proof.Value.Rows.lean ====
module

public import proofs.«01_k».proof.Proof.KI.Stretch
public import proofs.«01_k».proof.Proof.Value.Math
public import Idealize.ShloMosaic.Lib.Pointwise

@[expose] public section

noncomputable section
namespace Cert.KernelIdeal.Val
open Cert.KernelIdeal Cert.KernelIdeal.Gen Cert.KernelIdeal.Hand
open Idealize.ShloMosaic
open Cert.Val

/-! ## One block's update of a running maximum, read at an entry -/

theorem put_row {W : ℕ} {α : Type} (X : (SB W).Idx → α) (o : ℕ) (w : (SR W).Idx → α) (s : Fin 16) (f : Fin W) :
    VecWindow.put X ![o, 0] (SR W).size w (ix2 s f) = if s.val = o then w (ix2 0 f) else X (ix2 s f) := by
  unfold VecWindow.put
  by_cases h : s.val = o
  · have h' : ∀ a, (![o, 0] : Fin 2 → ℕ) a ≤ ((ix2 s f : (SB W).Idx) a).val ∧ ((ix2 s f : (SB W).Idx) a).val < (![o, 0] : Fin 2 → ℕ) a + (SR W).size a := by
      intro a; fin_cases a
      · show o ≤ s.val ∧ s.val < o + 1; omega
      · show 0 ≤ f.val ∧ f.val < 0 + W; have := f.isLt; omega
    rw [dif_pos h', if_pos h]
    congr 1
    funext a; fin_cases a
    · exact Fin.ext (show s.val - o = 0 by omega)
    · exact Fin.ext (show f.val - 0 = f.val by omega)
  · rw [if_neg h, dif_neg]
    intro h'
    have := h' 0
    change o ≤ s.val ∧ s.val < o + 1 at this
    omega

theorem window_row {W : ℕ} {α : Type} (X : (SB W).Idx → α) (s : Fin 16) (inb : ∀ a, (![s.val, 0] : Fin 2 → ℕ) a + (SR W).size a ≤ (SB W).size a) (f : Fin W) :
    (VecWindow.window X ![s.val, 0] (SR W).size inb : (SR W).Idx → α) (ix2 0 f) = X (ix2 s f) := by
  unfold VecWindow.window
  congr 1
  funext a; fin_cases a
  · exact Fin.ext (show s.val + 1 * 0 = s.val by omega)
  · exact Fin.ext (show 0 + 1 * f.val = f.val by omega)

/-- The guard of segment `s`, the two words being small. -/
theorem guard_iff (v14 v16 : BitVec 32) (h14 : v14.toNat < 16) (h16 : v16.toNat < 16) (s : Fin 16) :
    guard v14 v16 (BitVec.ofNat 32 s.val) = 1#1 ↔ v14.toNat ≤ s.val ∧ s.val ≤ v16.toNat := by
  obtain ⟨a, rfl⟩ : ∃ a : Fin 16, v14 = BitVec.ofNat 32 a.val := ⟨⟨v14.toNat, h14⟩, BitVec.eq_of_toNat_eq (by simp)⟩
  obtain ⟨b, rfl⟩ : ∃ a : Fin 16, v16 = BitVec.ofNat 32 a.val := ⟨⟨v16.toNat, h16⟩, BitVec.eq_of_toNat_eq (by simp)⟩
  clear h14 h16
  revert a b s
  decide +kernel

theorem differ_iff (v14 v16 : BitVec 32) : differ v14 v16 ↔ v14 ≠ v16 := by
  unfold differ Scalar.cmpi IntOp.cmpi Scalar.extui
  by_cases h : v14 = v16
  · subst h; simp
  · have : (v14 != v16) = true := by simpa using h
    simp only [this, h, ne_eq, not_false_eq_true, iff_true]; decide

/-- Rows updated in a list without repeats. -/
theorem rowsU_at (W : ℕ) (T : Vec Ideal S17 .i32) (v14 v16 : BitVec 32) (pay : BitVec 32 → BitVec 32 → Vec Ideal (SR W) .f32 → Vec Ideal (SR W) .f32)
    (P : Fin 16 → EReal → Fin W → EReal → Prop)
    (hp : ∀ (s : Fin 16) (R : Vec Ideal (SR W) .f32) f z, (pay (edgeAt T s.val (by omega)) (edgeAt T (s.val + 1) (by omega)) R (ix2 0 f) : EReal) ≤ z ↔ P s (R (ix2 0 f)) f z)
    (l : List (Fin 16)) (hl : l.Nodup) : ∀ (X : Vec Ideal (SB W) .f32) (s : Fin 16) (f : Fin W) (z : EReal),
    (rowsU W T v14 v16 pay X l (ix2 s f) : EReal) ≤ z ↔
      if s ∈ l ∧ guard v14 v16 (BitVec.ofNat 32 s.val) = 1#1 then P s (X (ix2 s f)) f z else (X (ix2 s f) : EReal) ≤ z := by
  induction l with
  | nil => intro X s f z; simp [rowsU]
  | cons q l ih =>
    intro X s f z
    have hq : q ∉ l := (List.nodup_cons.1 hl).1
    show (rowsU W T v14 v16 pay (rowU W T v14 v16 pay q X) l (ix2 s f) : EReal) ≤ z ↔ _
    rw [ih (List.nodup_cons.1 hl).2]
    have e : (rowU W T v14 v16 pay q X) (ix2 s f) = if s = q ∧ guard v14 v16 (BitVec.ofNat 32 q.val) = 1#1 then
        (pay (edgeAt T q.val (by omega)) (edgeAt T (q.val + 1) (by omega)) (VecWindow.window X ![q.val, 0] (SR W).size (row_inb W q)) : Vec Ideal (SR W) .f32) (ix2 0 f) else X (ix2 s f) := by
      unfold rowU
      by_cases hg : guard v14 v16 (BitVec.ofNat 32 q.val) = 1#1
      · rw [if_pos hg, put_row]
        by_cases hs : s = q
        · subst hs; simp [hg]
        · rw [if_neg (fun h => hs (Fin.ext h)), if_neg (fun h => hs h.1)]
      · rw [if_neg hg, if_neg (fun h => hg h.2)]
    by_cases hs : s = q
    · subst hs
      rw [if_neg (fun h => hq h.1), e]
      by_cases hg : guard v14 v16 (BitVec.ofNat 32 s.val) = 1#1
      · rw [if_pos ⟨rfl, hg⟩, hp, window_row, if_pos ⟨List.mem_cons_self, hg⟩]
      · rw [if_neg (fun h => hg h.2), if_neg (fun h => hg h.2)]
    · rw [e.trans (if_neg fun h => hs h.1)]
      have : (s ∈ q :: l) ↔ s ∈ l := by simp [hs]
      simp only [this]

/-- A block's update: afterwards row `s` bounds what it bounded and the block's entries of segment `s`. -/
theorem update_le (W : ℕ) (T : Vec Ideal S17 .i32) (v14 v16 : BitVec 32) (h14 : v14.toNat < 16) (h16 : v16.toNat < 16)
    (C : Prop) [Decidable C] (hC : C ↔ v14 = v16) (off : Fin 2 → ℕ) (hoff : off = ![v14.toNat, 0])
    (pay1 : Vec Ideal (SR W) .f32 → Vec Ideal (SR W) .f32)
    (pay : BitVec 32 → BitVec 32 → Vec Ideal (SR W) .f32 → Vec Ideal (SR W) .f32)
    (xb : Fin 2048 → Fin W → EReal) (bb : Fin 2048 → ℕ) (hlo : ∀ r, v14.toNat ≤ bb r) (hhi : ∀ r, bb r ≤ v16.toNat)
    (h1 : ∀ R f z, (pay1 R (ix2 0 f) : EReal) ≤ z ↔ (R (ix2 0 f) : EReal) ≤ z ∧ ∀ r, xb r f ≤ z)
    (h2 : ∀ (s : Fin 16) (R : Vec Ideal (SR W) .f32) f z, (pay (edgeAt T s.val (by omega)) (edgeAt T (s.val + 1) (by omega)) R (ix2 0 f) : EReal) ≤ z ↔
      (R (ix2 0 f) : EReal) ≤ z ∧ ∀ r, bb r = s.val → xb r f ≤ z)
    (X : Vec Ideal (SB W) .f32) (s : Fin 16) (f : Fin W) (z : EReal) :
    ((if differ v14 v16 then rowsU W T v14 v16 pay (oneU W C off pay1 X) allRows else oneU W C off pay1 X) (ix2 s f) : EReal) ≤ z ↔
      (X (ix2 s f) : EReal) ≤ z ∧ ∀ r, bb r = s.val → xb r f ≤ z := by
  subst hoff
  by_cases he : v14 = v16
  · subst he
    have hin : ∀ a, (![v14.toNat, 0] : Fin 2 → ℕ) a + (SR W).size a ≤ (SB W).size a := row_inb W ⟨v14.toNat, h14⟩
    rw [if_neg (fun h => (differ_iff _ _).1 h rfl)]
    unfold oneU
    rw [dif_pos ⟨hC.2 rfl, hin⟩, put_row]
    by_cases hs : s.val = v14.toNat
    · obtain rfl : s = ⟨v14.toNat, h14⟩ := Fin.ext hs
      rw [if_pos rfl, h1, window_row X ⟨v14.toNat, h14⟩ hin]
      refine and_congr_right fun _ => forall_congr' fun r => ?_
      have := hlo r; have := hhi r
      exact ⟨fun h _ => h, fun h => h (by show bb r = v14.toNat; omega)⟩
    · rw [if_neg hs]
      refine ⟨fun h => ⟨h, fun r hr => absurd hr ?_⟩, fun h => h.1⟩
      have := hlo r; have := hhi r
      omega
  · rw [if_pos ((differ_iff _ _).2 he)]
    have : oneU W C ![v14.toNat, 0] pay1 X = X := by
      unfold oneU; rw [dif_neg fun h => he (hC.1 h.1)]
    rw [this, rowsU_at W T v14 v16 pay (fun s x f z => x ≤ z ∧ ∀ r, bb r = s.val → xb r f ≤ z) h2 allRows (by decide)]
    have hm : s ∈ allRows := by revert s; decide
    by_cases hg : guard v14 v16 (BitVec.ofNat 32 s.val) = 1#1
    · rw [if_pos ⟨hm, hg⟩]
    · rw [if_neg fun h => hg h.2]
      refine ⟨fun h => ⟨h, fun r hr => absurd hr ?_⟩, fun h => h.1⟩
      rw [guard_iff v14 v16 h14 h16] at hg
      have := hlo r; have := hhi r
      omega

end Cert.KernelIdeal.Val
end
-- ==== Proof.Value.Words.lean ====
module

public import Idealize.ShloMosaic.Lib.Pointwise

@[expose] public section

noncomputable section
namespace Cert.Val
open Idealize.ShloMosaic

/-! ## Segment ends and the test of a row against them -/

/-- The number of entries below segment `s`. -/
def ends {N : ℕ} (b : Fin N → ℕ) (s : ℕ) : ℕ := (Finset.univ.filter fun n : Fin N => b n < s).card

theorem ends_le {N : ℕ} (b : Fin N → ℕ) (s : ℕ) : ends b s ≤ N := by
  unfold ends; exact (Finset.card_filter_le _ _).trans (by simp)

/-- Of a sorted list, position `n` is past the end of the segments below `s` exactly when its segment is at least `s`. -/
theorem ends_le_iff {N : ℕ} (b : Fin N → ℕ) (hb : Monotone b) (s : ℕ) (n : Fin N) : ends b s ≤ n.val ↔ s ≤ b n := by
  unfold ends
  constructor
  · intro h
    by_contra hlt
    have hs : Finset.Iic n ⊆ Finset.univ.filter fun n : Fin N => b n < s := by
      intro m hm
      have := hb (Finset.mem_Iic.1 hm)
      simp; omega
    have := Finset.card_le_card hs
    rw [Fin.card_Iic] at this
    omega
  · intro h
    have hs : (Finset.univ.filter fun n : Fin N => b n < s) ⊆ Finset.Iio n := by
      intro m hm
      simp at hm
      rw [Finset.mem_Iio]
      by_contra hc
      have := hb (not_lt.1 hc)
      omega
    have := Finset.card_le_card hs
    rwa [Fin.card_Iio] at this

theorem ends_mem_iff {N : ℕ} (b : Fin N → ℕ) (hb : Monotone b) (s : ℕ) (n : Fin N) : (ends b s ≤ n.val ∧ n.val < ends b (s + 1)) ↔ b n = s := by
  rw [← not_le, ends_le_iff b hb, ends_le_iff b hb]; omega

theorem and_bits (p q : Bool) : IntOp.andi (BitVec.ofBool p) (BitVec.ofBool q) = 1#1 ↔ p = true ∧ q = true := by
  cases p <;> cases q <;> decide

theorem toInt_small (a : ℕ) (h : a < 2147483648) : (BitVec.ofNat 32 a).toInt = a := by
  rw [BitVec.toInt_eq_toNat_cond, BitVec.toNat_ofNat]; split <;> omega

theorem toInt_sub_small (a c : ℕ) (h : a < 1000000) (h' : c < 1000000) : (BitVec.ofNat 32 a - BitVec.ofNat 32 c).toInt = (a : ℤ) - c := by
  rw [BitVec.toInt_sub, toInt_small a (by omega), toInt_small c (by omega)]
  exact Int.bmod_eq_of_le (by omega) (by omega)

/-- The test of a row of block `j` against two ends, the block's first row taken off the ends. -/
theorem row_bits (cl ch j r : ℕ) (hl : cl ≤ 32768) (hh : ch ≤ 32768) (hj : j < 16) (hr : r < 2048) :
    IntOp.andi (IntOp.cmpi .sge (BitVec.ofNat 32 r) (Scalar.subi (BitVec.ofNat 32 cl) (BitVec.ofNat 32 (2048 * j))))
      (IntOp.cmpi .slt (BitVec.ofNat 32 r) (Scalar.subi (BitVec.ofNat 32 ch) (BitVec.ofNat 32 (2048 * j)))) = 1#1 ↔ cl ≤ 2048 * j + r ∧ 2048 * j + r < ch := by
  unfold IntOp.cmpi Scalar.subi IntOp.subi
  rw [and_bits]
  dsimp only
  rw [BitVec.sle_iff_toInt_le, BitVec.slt_iff_toInt_lt, toInt_sub_small _ _ (by omega) (by omega), toInt_sub_small _ _ (by omega) (by omega), toInt_small _ (by omega)]
  omega

/-- The same test, the block's first row added to the row. -/
theorem box_bits (cl ch j r : ℕ) (hl : cl ≤ 32768) (hh : ch ≤ 32768) (hj : j < 16) (hr : r < 2048) :
    IntOp.andi (IntOp.cmpi .sge (IntOp.addi (BitVec.ofNat 32 r) (BitVec.ofNat 32 (2048 * j))) (BitVec.ofNat 32 cl))
      (IntOp.cmpi .slt (IntOp.addi (BitVec.ofNat 32 r) (BitVec.ofNat 32 (2048 * j))) (BitVec.ofNat 32 ch)) = 1#1 ↔ cl ≤ 2048 * j + r ∧ 2048 * j + r < ch := by
  unfold IntOp.cmpi IntOp.addi
  rw [and_bits]
  dsimp only
  rw [← BitVec.ofNat_add, BitVec.sle_iff_toInt_le, BitVec.slt_iff_toInt_lt, toInt_small _ (by omega), toInt_small _ (by omega), toInt_small _ (by omega)]
  omega

/-- A bit widened and read as a number. -/
theorem bit_real (v : BitVec 1) : (FloatOps.sitofp (F := Ideal) .f32 (BitVec.setWidth 32 v) : EReal) = if v = 1#1 then 1 else 0 := by
  show ((((BitVec.setWidth 32 v).toInt : ℤ) : ℝ) : EReal) = _
  rcases BitVec.eq_zero_or_eq_one v with rfl | rfl
  · have : (BitVec.setWidth 32 0#1).toInt = 0 := by decide
    rw [this, if_neg (by decide)]; simp
  · have : (BitVec.setWidth 32 1#1).toInt = 1 := by decide
    rw [this, if_pos rfl]; simp

end Cert.Val
end
-- ==== Proof.Value.Ops.lean ====
module

public import proofs.«01_k».proof.Proof.Gen.KernelIdeal
public import proofs.«01_k».proof.Proof.Gen.KernelIdeal.Skeleton
public import proofs.«01_k».proof.Proof.Value.Math
public import proofs.«01_k».proof.Proof.Value.Words
public import Idealize.ShloMosaic.Lib.Pointwise

@[expose] public section

set_option maxRecDepth 16384
noncomputable section
namespace Cert.KernelIdeal.Val
open Cert.KernelIdeal Cert.KernelIdeal.Gen
open Idealize.ShloMosaic
open Cert.Val

/-! ## What the body stores, read at an entry -/

theorem mask_eq : (Named.named (F := Ideal) κ "mask" (φ := .f32) 0xF149F2CA#32 : EReal) = ⊥ := rfl

theorem sel (c : BitVec 1) (x y : EReal) : Scalar.select c x y = if c = 1#1 then x else y := rfl

theorem pay1_at (s : Fin 16) (f : Fin 128) : (k0_pay1 (F := Ideal) (ix2 s f) : EReal) = ⊥ := by
  pointwise [k0_pay1]; exact mask_eq
theorem pay2_at (s : Fin 16) (f : Fin 256) : (k0_pay2 (F := Ideal) (ix2 s f) : EReal) = ⊥ := by
  pointwise [k0_pay2]; exact mask_eq
theorem pay3_at (s : Fin 16) (f : Fin 256) : (k0_pay3 (F := Ideal) (ix2 s f) : EReal) = 0 := by
  pointwise [k0_pay3]
theorem pay4_at (s : Fin 16) (f : Fin 256) : (k0_pay4 (F := Ideal) (ix2 s f) : EReal) = 0 := by
  pointwise [k0_pay4]

/-- A block of one segment: the row takes in the whole block. -/
theorem pay5_le (X : Vec Ideal S2048x128 .f32) (R : Vec Ideal S1x128 .f32) (f : Fin 128) (z : EReal) :
    (k0_pay5 (F := Ideal) X R (ix2 0 f) : EReal) ≤ z ↔ (R (ix2 0 f) : EReal) ≤ z ∧ ∀ r, (X (ix2 r f) : EReal) ≤ z := by
  have e : (k0_pay5 (F := Ideal) X R (ix2 0 f) : EReal) = max (R (ix2 0 f) : EReal) (Finset.univ.fold max (Ideal.ofBits .f32 0xFF800000#32) fun r => (X (ix2 r f) : EReal)) := by
    pointwise [k0_pay5]
  rw [e, max_le_iff, fold_max_le, lit_bot]; simp

theorem pay11_le (H : Vec Ideal S2048x256 .f32) (w b : Vec Ideal S1x256 .f32) (a : Ideal .f32) (s d : Vec Ideal S2048x1 .f32) (R : Vec Ideal S1x256 .f32) (f : Fin 256) (z : EReal) :
    (k0_pay11 (F := Ideal) H w b a s d R (ix2 0 f) : EReal) ≤ z ↔ (R (ix2 0 f) : EReal) ≤ z ∧ ∀ r, (k0_pay9 (F := Ideal) H w b a s d (ix2 r f) : EReal) ≤ z := by
  have e : (k0_pay11 (F := Ideal) H w b a s d R (ix2 0 f) : EReal) = max (R (ix2 0 f) : EReal) (Finset.univ.fold max (Ideal.ofBits .f32 0xFF800000#32) fun r => (k0_pay9 (F := Ideal) H w b a s d (ix2 r f) : EReal)) := by
    pointwise [k0_pay11]
  rw [e, max_le_iff, fold_max_le, lit_bot]; simp

/-- A block of several segments: a row takes in the rows of the block between its two ends. -/
theorem pay16_le (X : Vec Ideal S2048x128 .f32) (cl ch j : ℕ) (hl : cl ≤ 32768) (hh : ch ≤ 32768) (hj : j < 16) (R : Vec Ideal S1x128 .f32) (f : Fin 128) (z : EReal) :
    (k0_pay16 (F := Ideal) (BitVec.ofNat 32 (2048 * j)) X (iota .tc S2048x1 32 [0] iota_S2048x1_d0_w32) (BitVec.ofNat 32 cl) (BitVec.ofNat 32 ch) R (ix2 0 f) : EReal) ≤ z ↔
      (R (ix2 0 f) : EReal) ≤ z ∧ ∀ r : Fin 2048, cl ≤ 2048 * j + r.val ∧ 2048 * j + r.val < ch → (X (ix2 r f) : EReal) ≤ z := by
  have e : (k0_pay16 (F := Ideal) (BitVec.ofNat 32 (2048 * j)) X (iota .tc S2048x1 32 [0] iota_S2048x1_d0_w32) (BitVec.ofNat 32 cl) (BitVec.ofNat 32 ch) R (ix2 0 f) : EReal)
      = max (R (ix2 0 f) : EReal) (Finset.univ.fold max (Ideal.ofBits .f32 0xFF800000#32) fun r : Fin 2048 =>
          (Scalar.select (IntOp.andi (IntOp.cmpi .sge (BitVec.ofNat 32 r) (Scalar.subi (BitVec.ofNat 32 cl) (BitVec.ofNat 32 (2048 * j))))
            (IntOp.cmpi .slt (BitVec.ofNat 32 r) (Scalar.subi (BitVec.ofNat 32 ch) (BitVec.ofNat 32 (2048 * j))))) (X (ix2 r f)) (Named.named (F := Ideal) κ "mask" (φ := .f32) 0xF149F2CA#32) : EReal)) := by
    pointwise [k0_pay16]
  rw [e, max_le_iff, fold_max_le, lit_bot]
  refine and_congr_right fun _ => ?_
  simp only [bot_le, true_and]
  refine forall_congr' fun r => ?_
  have hb := row_bits cl ch j r.val hl hh hj r.isLt
  rw [sel]
  by_cases hc : cl ≤ 2048 * j + r.val ∧ 2048 * j + r.val < ch
  · rw [if_pos (hb.2 hc)]; exact ⟨fun h _ => h, fun h => h hc⟩
  · rw [if_neg fun h => hc (hb.1 h), mask_eq]; exact ⟨fun _ h => absurd h hc, fun _ => bot_le⟩

theorem pay29_le (X : Vec Ideal S2048x256 .f32) (cl ch j : ℕ) (hl : cl ≤ 32768) (hh : ch ≤ 32768) (hj : j < 16) (R : Vec Ideal S1x256 .f32) (f : Fin 256) (z : EReal) :
    (k0_pay29 (F := Ideal) (BitVec.ofNat 32 (2048 * j)) X (iota .tc S2048x1 32 [0] iota_S2048x1_d0_w32) (BitVec.ofNat 32 cl) (BitVec.ofNat 32 ch) R (ix2 0 f) : EReal) ≤ z ↔
      (R (ix2 0 f) : EReal) ≤ z ∧ ∀ r : Fin 2048, cl ≤ 2048 * j + r.val ∧ 2048 * j + r.val < ch → (X (ix2 r f) : EReal) ≤ z := by
  have e : (k0_pay29 (F := Ideal) (BitVec.ofNat 32 (2048 * j)) X (iota .tc S2048x1 32 [0] iota_S2048x1_d0_w32) (BitVec.ofNat 32 cl) (BitVec.ofNat 32 ch) R (ix2 0 f) : EReal)
      = max (R (ix2 0 f) : EReal) (Finset.univ.fold max (Ideal.ofBits .f32 0xFF800000#32) fun r : Fin 2048 =>
          (Scalar.select (IntOp.andi (IntOp.cmpi .sge (BitVec.ofNat 32 r) (Scalar.subi (BitVec.ofNat 32 cl) (BitVec.ofNat 32 (2048 * j))))
            (IntOp.cmpi .slt (BitVec.ofNat 32 r) (Scalar.subi (BitVec.ofNat 32 ch) (BitVec.ofNat 32 (2048 * j))))) (X (ix2 r f)) (Named.named (F := Ideal) κ "mask" (φ := .f32) 0xF149F2CA#32) : EReal)) := by
    pointwise [k0_pay29]
  rw [e, max_le_iff, fold_max_le, lit_bot]
  refine and_congr_right fun _ => ?_
  simp only [bot_le, true_and]
  refine forall_congr' fun r => ?_
  have hb := row_bits cl ch j r.val hl hh hj r.isLt
  rw [sel]
  by_cases hc : cl ≤ 2048 * j + r.val ∧ 2048 * j + r.val < ch
  · rw [if_pos (hb.2 hc)]; exact ⟨fun h _ => h, fun h => h hc⟩
  · rw [if_neg fun h => hc (hb.1 h), mask_eq]; exact ⟨fun _ h => absurd h hc, fun _ => bot_le⟩

/-- The one-hot matrix of a block: entry `(r, s)` says whether row `r` lies between the ends of segment `s`. -/
theorem hot_at (lo hi : Vec Ideal S1x16 .i32) (j : ℕ) (r : Fin 2048) (s : Fin 16) (cl ch : ℕ) (hl : cl ≤ 32768) (hh : ch ≤ 32768) (hj : j < 16)
    (el : lo (ix2 0 s) = BitVec.ofNat 32 cl) (eh : hi (ix2 0 s) = BitVec.ofNat 32 ch) :
    (k0_pay52 (F := Ideal) (BitVec.ofNat 32 (2048 * j)) lo hi (ix2 r s) : EReal) = if cl ≤ 2048 * j + r.val ∧ 2048 * j + r.val < ch then 1 else 0 := by
  have e : (k0_pay52 (F := Ideal) (BitVec.ofNat 32 (2048 * j)) lo hi (ix2 r s) : EReal) = FloatOps.sitofp (F := Ideal) .f32
            (BitVec.setWidth 32
              (IntOp.andi (IntOp.cmpi CmpIPredicate.sge (IntOp.addi (BitVec.ofNat 32 ↑r) (BitVec.ofNat 32 (2048 * j))) (lo (ix2 0 s)))
                (IntOp.cmpi CmpIPredicate.slt (IntOp.addi (BitVec.ofNat 32 ↑r) (BitVec.ofNat 32 (2048 * j))) (hi (ix2 0 s))))) := by
    pointwise [k0_pay52]
  rw [e, bit_real, el, eh]
  simp only [box_bits cl ch j r.val hl hh hj r.isLt]

theorem pay42_at (b : BitVec 32) (X : Vec Ideal S16x128 .f32) (L : Vec Ideal S256x128 .f32) (lo hi : Vec Ideal S1x16 .i32)
    (P : Vec Ideal S2048x128 .f32) (G : Vec Ideal S256x128 .f32) (B : Vec Ideal S1x256 .f32) (r : Fin 2048) (f : Fin 256) :
    (k0_pay42 (F := Ideal) b X L lo hi P G B (ix2 r f) : EReal) = ∑ k : Fin 128, (P (ix2 r k) * G (ix2 f k) : EReal) + B (ix2 0 f)
      - ∑ s : Fin 16, (k0_pay52 (F := Ideal) b lo hi (ix2 r s) : EReal) * ∑ k : Fin 128, (X (ix2 s k) * L (ix2 f k) : EReal) := by
  pointwise [k0_pay42, k0_pay52]

theorem pay53_at (b : BitVec 32) (X : Vec Ideal S16x256 .f32) (L : Vec Ideal S256x256 .f32) (lo hi : Vec Ideal S1x16 .i32)
    (P : Vec Ideal S2048x256 .f32) (G : Vec Ideal S256x256 .f32) (B : Vec Ideal S1x256 .f32) (r : Fin 2048) (f : Fin 256) :
    (k0_pay53 (F := Ideal) b lo hi X L P G B (ix2 r f) : EReal) = ∑ k : Fin 256, (P (ix2 r k) * G (ix2 f k) : EReal) + B (ix2 0 f)
      - ∑ s : Fin 16, (k0_pay52 (F := Ideal) b lo hi (ix2 r s) : EReal) * ∑ k : Fin 256, (X (ix2 s k) * L (ix2 f k) : EReal) := by
  pointwise [k0_pay53]

theorem pay9_at (H : Vec Ideal S2048x256 .f32) (w b : Vec Ideal S1x256 .f32) (a : Ideal .f32) (s : Vec Ideal S2048x1 .f32) (r : Fin 2048) (f : Fin 256)
    (hs : (s (ix2 r 0) : EReal) = ∑ k : Fin 256, (H (ix2 r k) : EReal)) :
    (k0_pay9 (F := Ideal) H w b a s k0_pay47 (ix2 r f) : EReal)
      = prelu a (lnK (Ideal.ofBits .f32 0x43800000#32) (fun k : Fin 256 => (H (ix2 r k) : EReal)) (w (ix2 0 f)) (b (ix2 0 f)) f) := by
  pointwise [k0_pay9, k0_pay47]
  unfold prelu lnK mean
  rw [hs]

theorem pay46_at (b : BitVec 32) (X : Vec Ideal S16x128 .f32) (L : Vec Ideal S256x128 .f32) (lo hi : Vec Ideal S1x16 .i32)
   (P : Vec Ideal S2048x128 .f32) (G : Vec Ideal S256x128 .f32) (B : Vec Ideal S1x256 .f32) (r : Fin 2048)  :
    (k0_pay46 (F := Ideal) b X L lo hi P G B (ix2 r 0) : EReal) = ∑ k : Fin 256, (k0_pay42 (F := Ideal) b X L lo hi P G B (ix2 r k) : EReal) := by
  pointwise [k0_pay46]

theorem pay57_at (b : BitVec 32) (X : Vec Ideal S16x256 .f32) (L : Vec Ideal S256x256 .f32) (lo hi : Vec Ideal S1x16 .i32)
    (P : Vec Ideal S2048x256 .f32) (G : Vec Ideal S256x256 .f32) (B : Vec Ideal S1x256 .f32) (r : Fin 2048) :
    (k0_pay57 (F := Ideal) b lo hi X L P G B (ix2 r 0) : EReal) = ∑ k : Fin 256, (k0_pay53 (F := Ideal) b lo hi X L P G B (ix2 r k) : EReal) := by
  pointwise [k0_pay57]

theorem pay43_at (w : Vec Ideal S1x256 .f32) (f : Fin 256) : k0_pay43 (F := Ideal) w (ix2 0 f) = w (ix2 0 f) := by pointwise [k0_pay43]
theorem pay44_at (w : Vec Ideal S1x256 .f32) (f : Fin 256) : k0_pay44 (F := Ideal) w (ix2 0 f) = w (ix2 0 f) := by pointwise [k0_pay44]
theorem pay45_at (w : Vec Ideal S1x1 .f32) : k0_pay45 (F := Ideal) w = w (ix2 0 0) := by pointwise [k0_pay45]
theorem pay54_at (w : Vec Ideal S1x256 .f32) (f : Fin 256) : k0_pay54 (F := Ideal) w (ix2 0 f) = w (ix2 0 f) := by pointwise [k0_pay54]
theorem pay55_at (w : Vec Ideal S1x256 .f32) (f : Fin 256) : k0_pay55 (F := Ideal) w (ix2 0 f) = w (ix2 0 f) := by pointwise [k0_pay55]
theorem pay56_at (w : Vec Ideal S1x1 .f32) : k0_pay56 (F := Ideal) w = w (ix2 0 0) := by pointwise [k0_pay56]
theorem pay10_at (H : Vec Ideal S2048x256 .f32) (w b : Vec Ideal S1x256 .f32) (a : Ideal .f32) (s d : Vec Ideal S2048x1 .f32) (r : Fin 2048) (f : Fin 256) :
    k0_pay10 (F := Ideal) H w b a s d (ix2 r f) = k0_pay9 (F := Ideal) H w b a s d (ix2 r f) := by pointwise [k0_pay10]

/-- Phase three's sums: what the block adds. -/
theorem pay59_at (M : Vec Ideal S2048x16 .f32) (H : Vec Ideal S2048x256 .f32) (w b : Vec Ideal S1x256 .f32) (a : Ideal .f32) (s : Vec Ideal S2048x1 .f32)
    (hs : ∀ r, (s (ix2 r 0) : EReal) = ∑ k : Fin 256, (H (ix2 r k) : EReal)) (A : Vec Ideal S16x256 .f32) (q : Fin 16) (f : Fin 256) :
    (k0_pay59 (F := Ideal) M H w b a s k0_pay58 A (ix2 q f) : EReal) = A (ix2 q f) + ∑ r : Fin 2048, (M (ix2 r q) : EReal) *
      prelu a (lnK (Ideal.ofBits .f32 0x43800000#32) (fun k : Fin 256 => (H (ix2 r k) : EReal)) (w (ix2 0 f)) (b (ix2 0 f)) f) := by
  pointwise [k0_pay59, k0_pay58]
  congr 1
  refine Finset.sum_congr rfl fun r _ => ?_
  unfold prelu lnK mean
  rw [hs]

theorem pay60_at (M : Vec Ideal S2048x16 .f32) (A : Vec Ideal S16x256 .f32) (q : Fin 16) (f : Fin 256) :
    (k0_pay60 (F := Ideal) M A (ix2 q f) : EReal) = A (ix2 q f) + ∑ r : Fin 2048, (M (ix2 r q) : EReal) := by
  pointwise [k0_pay60]

theorem pay15_at (nb a' : Vec Ideal S1x128 .f32) (al : Vec Ideal S1x1 .f32) (A N : Vec Ideal S16x256 .f32) (mw : Vec Ideal S128x256 .f32) (mb nw : Vec Ideal S1x128 .f32)
    (ow : Vec Ideal S64x128 .f32) (ob : Vec Ideal S1x64 .f32) (q : Fin 16) (o : Fin 64) :
    (k0_pay15 (F := Ideal) (k0_pay48 nb) (k0_pay49 al) (k0_pay50 A N mw mb) (k0_pay51 nw) ow ob (ix2 q o) : EReal)
      = ∑ k : Fin 128, prelu (al (ix2 0 0)) (lnK (Ideal.ofBits .f32 0x43000000#32)
          (fun k : Fin 128 => ∑ i : Fin 256, Ideal.div (A (ix2 q i)) (max (N (ix2 q i) : EReal) 1) * (mw (ix2 k i) : EReal) + mb (ix2 0 k)) (nw (ix2 0 k)) (nb (ix2 0 k)) k) * (ow (ix2 o k) : EReal) + ob (ix2 0 o) := by
  pointwise [k0_pay15, k0_pay48, k0_pay49, k0_pay50, k0_pay51]
  unfold prelu lnK mean
  rfl

end Cert.KernelIdeal.Val
end
-- ==== Proof.Value.Steps.lean ====
module

public import proofs.«01_k».proof.Proof.KI.State
public import proofs.«01_k».proof.Proof.Value.Rows
public import proofs.«01_k».proof.Proof.Value.Ops

@[expose] public section

noncomputable section
namespace Cert.KernelIdeal.Val
open Cert.KernelIdeal Cert.KernelIdeal.Gen Cert.KernelIdeal.Hand
open Idealize.ShloMosaic
open Cert.Val

/-! ## What the sweeps leave in the scratch -/

/-- Row `r` of block `j`. -/
def row (j : ℕ) (r : Fin 2048) : Fin 32768 := ⟨(2048 * j + r.val) % 32768, Nat.mod_lt _ (by decide)⟩

theorem row_val (j : ℕ) (h : j < 16) (r : Fin 2048) : (row j r).val = 2048 * j + r.val :=
  Nat.mod_eq_of_lt (by have := r.isLt; omega)

theorem row_surj (n : Fin 32768) : ∃ j, j < 16 ∧ ∃ r, row j r = n :=
  ⟨n.val / 2048, by have := n.isLt; omega, ⟨n.val % 2048, Nat.mod_lt _ (by decide)⟩, Fin.ext (by
    rw [row_val _ (by have := n.isLt; omega)]; show 2048 * (n.val / 2048) + n.val % 2048 = n.val; omega)⟩

/-- A sum over the rows is the sum over the blocks of the sums over their rows. -/
theorem sum_rows (g : Fin 32768 → EReal) : ∑ j ∈ Finset.range 16, ∑ r, g (row j r) = ∑ n, g n := by
  rw [Finset.sum_range, ← Equiv.sum_comp (finProdFinEquiv (m := 16) (n := 2048)) (fun n : Fin (16 * 2048) => g n), Fintype.sum_prod_type]
  refine Finset.sum_congr rfl fun j _ => Finset.sum_congr rfl fun r _ => congrArg g (Fin.ext ?_)
  rw [row_val _ j.isLt]
  show 2048 * j.val + r.val = r.val + 2048 * j.val
  omega

/-- The arguments, entry by entry. -/
structure Args where
  x : Fin 32768 → Fin 128 → EReal
  b : Fin 32768 → ℕ
  gw0 : Fin 256 → Fin 128 → EReal
  gb0 : Fin 256 → EReal
  lw0 : Fin 256 → Fin 128 → EReal
  nw0 : Fin 256 → EReal
  nb0 : Fin 256 → EReal
  a0 : EReal
  gw1 : Fin 256 → Fin 256 → EReal
  gb1 : Fin 256 → EReal
  lw1 : Fin 256 → Fin 256 → EReal
  nw1 : Fin 256 → EReal
  nb1 : Fin 256 → EReal
  a1 : EReal
  mw : Fin 128 → Fin 256 → EReal
  mb : Fin 128 → EReal
  nw : Fin 128 → EReal
  nb : Fin 128 → EReal
  a : EReal
  ow : Fin 64 → Fin 128 → EReal
  ob : Fin 64 → EReal

/-- The kernel's layer norms. -/
abbrev k256 : (Fin 256 → EReal) → EReal → EReal → Fin 256 → EReal := lnK (Ideal.ofBits .f32 0x43800000#32)
abbrev k128 : (Fin 128 → EReal) → EReal → EReal → Fin 128 → EReal := lnK (Ideal.ofBits .f32 0x43000000#32)

/-- The first and the second layer's values, and the result. -/
def Args.y1 (A : Args) : Fin 32768 → Fin 256 → EReal := layer k256 A.b A.x A.gw0 A.gb0 A.lw0 A.nw0 A.nb0 A.a0
def Args.y2 (A : Args) : Fin 32768 → Fin 256 → EReal := layer k256 A.b A.y1 A.gw1 A.gb1 A.lw1 A.nw1 A.nb1 A.a1
def Args.out (A : Args) (s : Fin 16) (o : Fin 64) : EReal := head k128 A.b A.y2 A.mw A.mb A.nw A.nb A.a A.ow A.ob s.val o

/-- The blocks at point `t` are the arguments'. -/
structure Fits (A : Args) (t : ℕ) (W : Wins Ideal) : Prop where
  w3 : t < 32 → ∀ r k, (W.w3 (ix2 r k) : EReal) = A.x (row (t % 16) r) k
  w4 : ∀ s : Fin 16, W.w4 (ix2 0 s) = BitVec.ofNat 32 (ends A.b s.val)
  w5 : ∀ s : Fin 16, W.w5 (ix2 0 s) = BitVec.ofNat 32 (ends A.b (s.val + 1))
  w6 : ∀ f k, (W.w6 (ix2 f k) : EReal) = A.lw0 f k
  w7 : ∀ f k, (W.w7 (ix2 f k) : EReal) = A.gw0 f k
  w8 : ∀ f, (W.w8 (ix2 0 f) : EReal) = A.gb0 f
  w9 : ∀ f, (W.w9 (ix2 0 f) : EReal) = A.nw0 f
  w10 : ∀ f, (W.w10 (ix2 0 f) : EReal) = A.nb0 f
  w11 : (W.w11 (ix2 0 0) : EReal) = A.a0
  w12 : ∀ f k, (W.w12 (ix2 f k) : EReal) = A.lw1 f k
  w13 : ∀ f k, (W.w13 (ix2 f k) : EReal) = A.gw1 f k
  w14 : ∀ f, (W.w14 (ix2 0 f) : EReal) = A.gb1 f
  w15 : ∀ f, (W.w15 (ix2 0 f) : EReal) = A.nw1 f
  w16 : ∀ f, (W.w16 (ix2 0 f) : EReal) = A.nb1 f
  w17 : (W.w17 (ix2 0 0) : EReal) = A.a1
  w18 : ∀ f k, (W.w18 (ix2 f k) : EReal) = A.mw f k
  w19 : ∀ f, (W.w19 (ix2 0 f) : EReal) = A.mb f
  w20 : ∀ f, (W.w20 (ix2 0 f) : EReal) = A.nw f
  w21 : ∀ f, (W.w21 (ix2 0 f) : EReal) = A.nb f
  w22 : (W.w22 (ix2 0 0) : EReal) = A.a
  w23 : ∀ f k, (W.w23 (ix2 f k) : EReal) = A.ow f k
  w24 : ∀ f, (W.w24 (ix2 0 f) : EReal) = A.ob f

/-- The segments are sorted and below sixteen, and the tables hold their ends. -/
structure Sorted (A : Args) (B : Vec Ideal S16x2 .i32) (T : Vec Ideal S17 .i32) : Prop where
  mono : Monotone A.b
  small : ∀ n, A.b n < 16
  low : ∀ t : Fin grid0.N, lowAt (F := Ideal) (grid0.coords t) B = BitVec.ofNat 32 (A.b (row (t.val % 16) 0))
  high : ∀ t : Fin grid0.N, highAt (F := Ideal) (grid0.coords t) B = BitVec.ofNat 32 (A.b (row (t.val % 16) 2047))
  edge : ∀ s h, edgeAt (F := Ideal) T s h = BitVec.ofNat 32 (ends A.b s)

variable {A : Args} {B : Vec Ideal S16x2 .i32} {T : Vec Ideal S17 .i32}

theorem word_nat (n : ℕ) (h : n < 16) : (BitVec.ofNat 32 n).toNat = n := by
  rw [BitVec.toNat_ofNat]; omega

/-- The block's first row has its least segment and its last row its greatest. -/
theorem Sorted.le (H : Sorted A B T) (j : ℕ) (hj : j < 16) (r : Fin 2048) : A.b (row j 0) ≤ A.b (row j r) ∧ A.b (row j r) ≤ A.b (row j 2047) := by
  have e0 := row_val j hj 0
  have e1 := row_val j hj r
  have e2 := row_val j hj 2047
  have hr := r.isLt
  have z0 : (0 : Fin 2048).val = 0 := rfl
  have z1 : (2047 : Fin 2048).val = 2047 := rfl
  exact ⟨H.mono (Fin.le_def.2 (by omega)), H.mono (Fin.le_def.2 (by omega))⟩

/-- A row between its segment's ends is in the segment. -/
theorem Sorted.mem (H : Sorted A B T) (j : ℕ) (hj : j < 16) (r : Fin 2048) (s : ℕ) :
    (ends A.b s ≤ 2048 * j + r.val ∧ 2048 * j + r.val < ends A.b (s + 1)) ↔ A.b (row j r) = s := by
  rw [← row_val j hj r]; exact ends_mem_iff A.b H.mono s (row j r)

theorem same_bits (v w : BitVec 32) : Scalar.cmpi .ne (Scalar.extui (Scalar.cmpi .eq v w) : BitVec 32) 0#32 = 1#1 ↔ v = w := by
  unfold Scalar.cmpi Scalar.extui IntOp.cmpi
  by_cases h : v = w
  · simp [h]
  · have e : (v == w) = false := by simpa using h
    simp only [e, h, iff_false]; decide

theorem guards (v14 v16 : BitVec 32) : (k0_cond3 v14 v16 = 1#1 ↔ v14 = v16) ∧ (k0_cond22 v14 v16 = 1#1 ↔ v14 = v16) := by
  unfold k0_cond3 k0_cond22
  exact ⟨same_bits v14 v16, same_bits v14 v16⟩

theorem off3_at (n : ℕ) (h : n < 16) : k0_off3 (BitVec.ofNat 32 n) = ![(BitVec.ofNat 32 n).toNat, 0] ∧ k0_off5 (BitVec.ofNat 32 n) = ![(BitVec.ofNat 32 n).toNat, 0] :=
  (by decide : ∀ n : Fin 16, k0_off3 (BitVec.ofNat 32 n.val) = ![(BitVec.ofNat 32 n.val).toNat, 0] ∧ k0_off5 (BitVec.ofNat 32 n.val) = ![(BitVec.ofNat 32 n.val).toNat, 0]) ⟨n, h⟩

/-- The first sweep's update at a point. -/
theorem maxA_le (H : Sorted A B T) (t : Fin grid0.N) (P : Vec Ideal S2048x128 .f32) (X : Vec Ideal S16x128 .f32) (s : Fin 16) (f : Fin 128) (z : EReal) :
    (maxA (F := Ideal) (grid0.coords t) T (lowAt (F := Ideal) (grid0.coords t) B) (highAt (F := Ideal) (grid0.coords t) B) P X (ix2 s f) : EReal) ≤ z ↔
      (X (ix2 s f) : EReal) ≤ z ∧ ∀ r, A.b (row (t.val % 16) r) = s.val → (P (ix2 r f) : EReal) ≤ z := by
  have hj : t.val % 16 < 16 := Nat.mod_lt _ (by decide)
  rw [H.low t, H.high t]
  unfold maxA
  refine update_le 128 T _ _ (by rw [word_nat _ (H.small _)]; exact H.small _) (by rw [word_nat _ (H.small _)]; exact H.small _) _ (guards _ _).1 _
    (off3_at _ (H.small _)).1 _ _ (fun r f => P (ix2 r f)) (fun r => A.b (row (t.val % 16) r))
    (fun r => by rw [word_nat _ (H.small _)]; exact (H.le _ hj r).1) (fun r => by rw [word_nat _ (H.small _)]; exact (H.le _ hj r).2)
    (fun R f z => pay5_le P R f z) (fun s R f z => ?_) X s f z
  rw [H.edge, H.edge, mult1_eq t]
  refine (pay16_le P _ _ (t.val % 16) (ends_le _ _) (ends_le _ _) hj R f z).trans (and_congr_right fun _ => forall_congr' fun r => ?_)
  rw [H.mem _ hj r]

/-- The second sweep's update at a point. -/
theorem maxB_le (H : Sorted A B T) (t : Fin grid0.N) (W : Wins Ideal) (X : Vec Ideal S16x128 .f32) (Y : Vec Ideal S16x256 .f32) (s : Fin 16) (f : Fin 256) (z : EReal) :
    (maxB (F := Ideal) (grid0.coords t) T (lowAt (F := Ideal) (grid0.coords t) B) (highAt (F := Ideal) (grid0.coords t) B) W X Y (ix2 s f) : EReal) ≤ z ↔
      (Y (ix2 s f) : EReal) ≤ z ∧ ∀ r, A.b (row (t.val % 16) r) = s.val → (act1' (F := Ideal) (grid0.coords t) W X (ix2 r f) : EReal) ≤ z := by
  have hj : t.val % 16 < 16 := Nat.mod_lt _ (by decide)
  rw [H.low t, H.high t]
  unfold maxB
  refine update_le 256 T _ _ (by rw [word_nat _ (H.small _)]; exact H.small _) (by rw [word_nat _ (H.small _)]; exact H.small _) _ (guards _ _).2 _
    (off3_at _ (H.small _)).2 _ _ (fun r f => act1' (F := Ideal) (grid0.coords t) W X (ix2 r f)) (fun r => A.b (row (t.val % 16) r))
    (fun r => by rw [word_nat _ (H.small _)]; exact (H.le _ hj r).1) (fun r => by rw [word_nat _ (H.small _)]; exact (H.le _ hj r).2)
    (fun R f z => pay11_le _ _ _ _ _ _ R f z) (fun s R f z => ?_) Y s f z
  rw [H.edge, H.edge, mult1_eq t]
  refine (pay29_le _ _ _ (t.val % 16) (ends_le _ _) (ends_le _ _) hj R f z).trans (and_congr_right fun _ => forall_congr' fun r => ?_)
  rw [H.mem _ hj r]

/-- The one-hot matrix at a point. -/
theorem hot_row (H : Sorted A B T) (t : Fin grid0.N) {W : Wins Ideal} (hW : Fits A t.val W) (r : Fin 2048) (s : Fin 16) :
    (k0_pay52 (F := Ideal) (k0_mult1 (grid0.coords t)) W.w4 W.w5 (ix2 r s) : EReal) = if A.b (row (t.val % 16) r) = s.val then 1 else 0 := by
  have hj : t.val % 16 < 16 := Nat.mod_lt _ (by decide)
  rw [mult1_eq t, hot_at W.w4 W.w5 (t.val % 16) r s _ _ (ends_le _ _) (ends_le _ _) hj (hW.w4 s) (hW.w5 s)]
  simp only [H.mem _ hj r]

/-- A one-hot row picks its segment's term. -/
theorem pick (n : ℕ) (h : n < 16) (g : ℕ → EReal) : ∑ s : Fin 16, (if n = s.val then (1 : EReal) else 0) * g s.val = g n := by
  rw [Finset.sum_eq_single (⟨n, h⟩ : Fin 16)]
  · rw [if_pos rfl, one_mul]
  · intro s _ hs
    rw [if_neg fun e => hs (Fin.ext e.symm), zero_mul]
  · intro h'; exact absurd (Finset.mem_univ _) h'

/-- The first layer's linear part at a point. -/
theorem lin1_row (H : Sorted A B T) (t : Fin grid0.N) (ht : t.val < 32) {W : Wins Ideal} (hW : Fits A t.val W) (X : Vec Ideal S16x128 .f32)
    (hX : ∀ s f, (X (ix2 s f) : EReal) = segmax A.b A.x s.val f) (r : Fin 2048) (f : Fin 256) :
    (lin1 (F := Ideal) (grid0.coords t) W X (ix2 r f) : EReal) = lin A.b A.x A.gw0 A.gb0 A.lw0 (row (t.val % 16) r) f := by
  unfold lin1 lin
  rw [pay42_at]
  simp only [hot_row H t hW, hX, hW.w3 ht, hW.w6, hW.w7, hW.w8]
  rw [pick _ (H.small _) fun s => ∑ k, segmax A.b A.x s k * A.lw0 f k]

/-- The first layer at a point. -/
theorem act1_row (H : Sorted A B T) (t : Fin grid0.N) (ht : t.val < 32) {W : Wins Ideal} (hW : Fits A t.val W) (X : Vec Ideal S16x128 .f32)
    (hX : ∀ s f, (X (ix2 s f) : EReal) = segmax A.b A.x s.val f) (r : Fin 2048) (f : Fin 256) :
    (act1' (F := Ideal) (grid0.coords t) W X (ix2 r f) : EReal) = A.y1 (row (t.val % 16) r) f := by
  unfold act1'
  rw [pay9_at (lin1 (F := Ideal) (grid0.coords t) W X) _ _ _ (mom1 (F := Ideal) (grid0.coords t) W X) r f (pay46_at _ X W.w6 W.w4 W.w5 W.w3 W.w7 W.w8 r)]
  simp only [lin1_row H t ht hW X hX, pay43_at, pay44_at, pay45_at, hW.w9, hW.w10, hW.w11]
  rfl

/-- The second layer's linear part at a point. -/
theorem lin2_row (H : Sorted A B T) (t : Fin grid0.N) {W : Wins Ideal} (hW : Fits A t.val W) (Y : Vec Ideal S16x256 .f32) (Z : Vec Ideal S2048x256 .f32)
    (hY : ∀ s f, (Y (ix2 s f) : EReal) = segmax A.b A.y1 s.val f) (hZ : ∀ r f, (Z (ix2 r f) : EReal) = A.y1 (row (t.val % 16) r) f) (r : Fin 2048) (f : Fin 256) :
    (k0_pay53 (F := Ideal) (k0_mult1 (grid0.coords t)) W.w4 W.w5 Y W.w12 Z W.w13 W.w14 (ix2 r f) : EReal) = lin A.b A.y1 A.gw1 A.gb1 A.lw1 (row (t.val % 16) r) f := by
  unfold lin
  rw [pay53_at]
  simp only [hot_row H t hW, hY, hZ, hW.w12, hW.w13, hW.w14]
  rw [pick _ (H.small _) fun s => ∑ k, segmax A.b A.y1 s k * A.lw1 f k]

theorem one_hot_mul (c : Prop) [Decidable c] (x : EReal) : (if c then (1 : EReal) else 0) * x = if c then x else 0 := by
  split
  · exact one_mul x
  · exact zero_mul x

/-- The third sweep's sums at a point. -/
theorem sumC_row (H : Sorted A B T) (t : Fin grid0.N) {W : Wins Ideal} (hW : Fits A t.val W) (Y : Vec Ideal S16x256 .f32) (Z : Vec Ideal S2048x256 .f32)
    (hY : ∀ s f, (Y (ix2 s f) : EReal) = segmax A.b A.y1 s.val f) (hZ : ∀ r f, (Z (ix2 r f) : EReal) = A.y1 (row (t.val % 16) r) f)
    (R : Vec Ideal S16x256 .f32) (s : Fin 16) (f : Fin 256) :
    (sumC (F := Ideal) (grid0.coords t) W Y Z R (ix2 s f) : EReal) = R (ix2 s f) + ∑ r, if A.b (row (t.val % 16) r) = s.val then A.y2 (row (t.val % 16) r) f else 0 := by
  unfold sumC
  rw [pay59_at _ _ _ _ _ _ (fun r => pay57_at _ Y W.w12 W.w4 W.w5 Z W.w13 W.w14 r)]
  simp only [lin2_row H t hW Y Z hY hZ, pay54_at, pay55_at, pay56_at, hW.w15, hW.w16, hW.w17, hot, hot_row H t hW, one_hot_mul]
  rfl

/-- The third sweep's counts at a point. -/
theorem cntC_row (H : Sorted A B T) (t : Fin grid0.N) {W : Wins Ideal} (hW : Fits A t.val W) (R : Vec Ideal S16x256 .f32) (s : Fin 16) (f : Fin 256) :
    (k0_pay60 (F := Ideal) (hot (grid0.coords t) W) R (ix2 s f) : EReal) = R (ix2 s f) + ∑ r, if A.b (row (t.val % 16) r) = s.val then (1 : EReal) else 0 := by
  rw [pay60_at]
  simp only [hot, hot_row H t hW]

/-- Reading an entry after a block is put. -/
theorem put_blk {α : Type} (X : S32768x256.Idx → α) (j : ℕ) (hj : j < 16) (w : S2048x256.Idx → α) (j' : ℕ) (hj' : j' < 16) (r : Fin 2048) (f : Fin 256) :
    VecWindow.put X ![2048 * j, 0] S2048x256.size w (ix2 (row j' r) f) = if j' = j then w (ix2 r f) else X (ix2 (row j' r) f) := by
  have hv := row_val j' hj' r
  have hr := r.isLt
  unfold VecWindow.put
  by_cases h : j' = j
  · subst h
    have h' : ∀ a, (![2048 * j', 0] : Fin 2 → ℕ) a ≤ ((ix2 (row j' r) f : S32768x256.Idx) a).val ∧
        ((ix2 (row j' r) f : S32768x256.Idx) a).val < (![2048 * j', 0] : Fin 2 → ℕ) a + S2048x256.size a := by
      intro a; fin_cases a
      · show 2048 * j' ≤ (row j' r).val ∧ (row j' r).val < 2048 * j' + 2048; omega
      · show 0 ≤ f.val ∧ f.val < 0 + 256; have := f.isLt; omega
    rw [dif_pos h', if_pos rfl]
    congr 1
    funext a; fin_cases a
    · exact Fin.ext (show (row j' r).val - 2048 * j' = r.val by omega)
    · exact Fin.ext (show f.val - 0 = f.val by omega)
  · rw [if_neg h, dif_neg]
    intro h'
    have := h' 0
    change 2048 * j ≤ (row j' r).val ∧ (row j' r).val < 2048 * j + 2048 at this
    omega

theorem window_blk {α : Type} (X : S32768x256.Idx → α) (j : ℕ) (hj : j < 16) (inb : ∀ a, (![2048 * j, 0] : Fin 2 → ℕ) a + S2048x256.size a ≤ S32768x256.size a)
    (r : Fin 2048) (f : Fin 256) : (VecWindow.window X ![2048 * j, 0] S2048x256.size inb : S2048x256.Idx → α) (ix2 r f) = X (ix2 (row j r) f) := by
  unfold VecWindow.window
  congr 1
  have hv := row_val j hj r
  funext a; fin_cases a
  · exact Fin.ext (show 2048 * j + 1 * r.val = (row j r).val by omega)
  · exact Fin.ext (show 0 + 1 * f.val = f.val by omega)

/-- The scratch after `ka`, `kb` and `kc` blocks of the three sweeps. -/
structure Inv (A : Args) (ka kb kc : ℕ) (S : St Ideal) : Prop where
  a : ∀ s f z, (S.smax0 (ix2 s f) : EReal) ≤ z ↔ ∀ j, j < ka → ∀ r, A.b (row j r) = s.val → A.x (row j r) f ≤ z
  x1 : ∀ j, j < kb → ∀ r f, (S.x1 (ix2 (row j r) f) : EReal) = A.y1 (row j r) f
  m : ∀ s f z, (S.smax1 (ix2 s f) : EReal) ≤ z ↔ ∀ j, j < kb → ∀ r, A.b (row j r) = s.val → A.y1 (row j r) f ≤ z
  sum : ∀ s f, (S.ssum (ix2 s f) : EReal) = ∑ j ∈ Finset.range kc, ∑ r, if A.b (row j r) = s.val then A.y2 (row j r) f else 0
  cnt : ∀ s f, (S.scnt (ix2 s f) : EReal) = ∑ j ∈ Finset.range kc, ∑ r, if A.b (row j r) = s.val then (1 : EReal) else 0

/-- A running maximum that has taken in every row is the segment's greatest entry. -/
theorem max_full {W : ℕ} (b : Fin 32768 → ℕ) (x : Fin 32768 → Fin W → EReal) (v : EReal) (s : ℕ) (f : Fin W)
    (h : ∀ z, v ≤ z ↔ ∀ j, j < 16 → ∀ r, b (row j r) = s → x (row j r) f ≤ z) : v = segmax b x s f := by
  refine eq_of_forall_ge_iff fun z => ?_
  rw [h, segmax_le]
  constructor
  · intro hz n hn
    obtain ⟨j, hj, r, rfl⟩ := row_surj n
    exact hz j hj r hn
  · intro hz j _ r hr
    exact hz _ hr

theorem lt_step (P : ℕ → Prop) (k : ℕ) : (∀ j, j < k + 1 → P j) ↔ (∀ j, j < k → P j) ∧ P k := by
  constructor
  · intro h; exact ⟨fun j hj => h j (by omega), h k (by omega)⟩
  · rintro ⟨h, h'⟩ j hj
    rcases Nat.lt_or_ge j k with hlt | hge
    · exact h j hlt
    · obtain rfl : j = k := by omega
      exact h'

theorem Inv.init (S : St Ideal) (h1 : S.smax0 = k0_pay1 (F := Ideal)) (h2 : S.smax1 = k0_pay2 (F := Ideal)) (h3 : S.ssum = k0_pay3 (F := Ideal)) (h4 : S.scnt = k0_pay4 (F := Ideal)) : Inv A 0 0 0 S where
  a s f z := by rw [h1, pay1_at]; simp
  x1 j h := absurd h (by omega)
  m s f z := by rw [h2, pay2_at]; simp
  sum s f := by rw [h3, pay3_at]; simp
  cnt s f := by rw [h4, pay4_at]; simp

theorem Inv.start (t : Fin grid0.N) {ka kb kc : ℕ} {S : St Ideal} (h0 : t.val = 0 → ka = 0 ∧ kb = 0 ∧ kc = 0) (h : Inv A ka kb kc S) : Inv A ka kb kc (stInit (grid0.coords t) S) := by
  unfold stInit
  by_cases ht : t.val = 0
  · rw [if_pos ((isFirst_iff t).2 ht)]
    obtain ⟨rfl, rfl, rfl⟩ := h0 ht
    exact Inv.init _ rfl rfl rfl rfl
  · rw [if_neg fun e => ht ((isFirst_iff t).1 e)]; exact h

theorem Inv.phaseA (H : Sorted A B T) (t : Fin grid0.N) {W : Wins Ideal} (hW : Fits A t.val W) {ka kb kc : ℕ} {S : St Ideal} (hk : t.val < 16 → ka = t.val) (h : Inv A ka kb kc S) :
    Inv A (if t.val < 16 then ka + 1 else ka) kb kc (stA (grid0.coords t) T (lowAt (F := Ideal) (grid0.coords t) B) (highAt (F := Ideal) (grid0.coords t) B) W S) := by
  unfold stA
  by_cases ht : t.val < 16
  · rw [if_pos ((cond2_iff t).2 ht), if_pos ht]
    refine ⟨fun s f z => ?_, h.x1, h.m, h.sum, h.cnt⟩
    dsimp only
    rw [maxA_le H, h.a, lt_step]
    refine and_congr_right fun _ => forall_congr' fun r => ?_
    rw [hW.w3 (by omega), Nat.mod_eq_of_lt ht, hk ht]
  · rw [if_neg fun e => ht ((cond2_iff t).1 e), if_neg ht]; exact h

theorem Inv.phaseB (H : Sorted A B T) (t : Fin grid0.N) {W : Wins Ideal} (hW : Fits A t.val W) {ka kb kc : ℕ} {S : St Ideal}
    (hk : 16 ≤ t.val ∧ t.val < 32 → ka = 16 ∧ kb = t.val - 16) (h : Inv A ka kb kc S) :
    Inv A ka (if 16 ≤ t.val ∧ t.val < 32 then kb + 1 else kb) kc (stB (grid0.coords t) T (lowAt (F := Ideal) (grid0.coords t) B) (highAt (F := Ideal) (grid0.coords t) B) W S) := by
  unfold stB
  by_cases ht : 16 ≤ t.val ∧ t.val < 32
  · rw [if_pos ((cond21_iff t).2 ht), if_pos ht]
    obtain ⟨rfl, rfl⟩ := hk ht
    have hm : t.val % 16 = t.val - 16 := by omega
    have hX : ∀ s f, (S.smax0 (ix2 s f) : EReal) = segmax A.b A.x s.val f := fun s f => max_full _ _ _ _ _ (h.a s f)
    have hy := act1_row H t ht.2 hW S.smax0 hX
    refine ⟨h.a, fun j hj r f => ?_, fun s f z => ?_, h.sum, h.cnt⟩
    · dsimp only
      rw [off4_eq t ht, put_blk _ _ (by omega) _ j (by omega)]
      split
      · rename_i e
        unfold act1
        rw [pay10_at]
        exact (hy r f).trans (by rw [hm, e])
      · exact h.x1 j (by omega) r f
    · dsimp only
      rw [maxB_le H, h.m, lt_step]
      refine and_congr_right fun _ => forall_congr' fun r => ?_
      rw [hy, hm]
  · rw [if_neg fun e => ht ((cond21_iff t).1 e), if_neg ht]; exact h

theorem Inv.phaseC (H : Sorted A B T) (t : Fin grid0.N) {W : Wins Ideal} (hW : Fits A t.val W) {ka kb kc : ℕ} {S : St Ideal}
    (hk : 32 ≤ t.val → kb = 16 ∧ kc = t.val - 32) (h : Inv A ka kb kc S) :
    Inv A ka kb (if 32 ≤ t.val then kc + 1 else kc) (stC (grid0.coords t) W S) := by
  unfold stC
  by_cases ht : 32 ≤ t.val
  · rw [dif_pos ((cond40_iff t).2 ht), if_pos ht]
    obtain ⟨rfl, rfl⟩ := hk ht
    have hN : t.val < 48 := lt_of_lt_of_eq t.isLt N_0
    have hm : t.val % 16 = t.val - 32 := by omega
    have hY : ∀ s f, (S.smax1 (ix2 s f) : EReal) = segmax A.b A.y1 s.val f := fun s f => max_full _ _ _ _ _ (h.m s f)
    have hZ : ∀ r f, (blkC (grid0.coords t) ((cond40_iff t).2 ht) S.x1 (ix2 r f) : EReal) = A.y1 (row (t.val % 16) r) f := by
      intro r f
      unfold blkC
      rw [window_at S.x1 (off6_eq t ht), window_blk _ _ (by omega), hm]
      exact h.x1 _ (by omega) r f
    refine ⟨h.a, h.x1, h.m, fun s f => ?_, fun s f => ?_⟩
    · dsimp only
      rw [sumC_row H t hW _ _ hY hZ, h.sum, Finset.sum_range_succ, hm]
    · dsimp only
      rw [cntC_row H t hW, h.cnt, Finset.sum_range_succ, hm]
  · rw [dif_neg fun e => ht ((cond40_iff t).1 e), if_neg ht]; exact h

/-- The scratch before point `n`. -/
theorem inv_at (H : Sorted A B T) (W : Fin grid0.N → Wins Ideal) (hW : ∀ t, Fits A t.val (W t)) (S : St Ideal) (hS : Inv A 0 0 0 S) :
    ∀ n, n ≤ 48 → Inv A (min n 16) (min (n - 16) 16) (n - 32) (stAt B T W S n)
  | 0, _ => hS
  | n + 1, hn => by
    have ih := inv_at H W hW S hS n (by omega)
    have ht : (pnt n).val = n := Nat.mod_eq_of_lt (by omega)
    have := Inv.phaseC H (pnt n) (hW _) (fun _ => ⟨by rw [if_neg (by omega)]; omega, by omega⟩) <|
      Inv.phaseB H (pnt n) (hW _) (fun _ => ⟨by rw [if_neg (by omega)]; omega, by omega⟩) <|
      Inv.phaseA H (pnt n) (hW _) (by omega) <| Inv.start (pnt n) (by omega) ih
    rw [ht] at this
    show Inv A _ _ _ (step _ _ _ _ _)
    unfold step
    convert this using 1
    · split <;> omega
    · split <;> omega
    · split <;> omega

/-- The head on the finished scratch is the result. -/
theorem head_at {t : ℕ} {W : Wins Ideal} (hW : Fits A t W) {ka kb : ℕ} {S : St Ideal} (h : Inv A ka kb 16 S) (s : Fin 16) (o : Fin 64) :
    (headC (F := Ideal) W S.ssum S.scnt (ix2 s o) : EReal) = A.out s o := by
  unfold headC Args.out head
  rw [pay15_at _ W.w21]
  simp only [h.sum, h.cnt, hW.w18, hW.w19, hW.w20, hW.w21, hW.w22, hW.w23, hW.w24,
    sum_rows fun n => if A.b n = s.val then (1 : EReal) else 0]
  have e : ∀ f, ∑ j ∈ Finset.range 16, ∑ r, (if A.b (row j r) = s.val then A.y2 (row j r) f else 0) = segsum A.b A.y2 s.val f :=
    fun f => sum_rows fun n => if A.b n = s.val then A.y2 n f else 0
  simp only [e]
  rfl

end Cert.KernelIdeal.Val
-- ==== Proof.Value.Ref.lean ====
module

public import proofs.«01_k».proof.Proof.Gen.ReferenceIdeal.Run
public import proofs.«01_k».proof.Proof.Value.RefLin
public import proofs.«01_k».proof.Proof.Value.RefNorm
public import proofs.«01_k».proof.Proof.Value.Steps

@[expose] public section

set_option maxRecDepth 16384
noncomputable section
namespace Cert.ReferenceIdeal.Val
open Cert.ReferenceIdeal Cert.ReferenceIdeal.Gen Cert.ReferenceIdeal.Value
open Idealize.ShloMosaic
open Idealize.ShloMosaic.TcCoe
open Cert.Val
open Cert.KernelIdeal.Val (Args)

/-! ## The reference's result, entry by entry -/

/-- The reference's layer norms. -/
abbrev r256 : (Fin 256 → EReal) → EReal → EReal → Fin 256 → EReal := lnR (Ideal.ofBits .f32 0x43800000#32)
abbrev r128 : (Fin 128 → EReal) → EReal → EReal → Fin 128 → EReal := lnR (Ideal.ofBits .f32 0x43000000#32)

/-- The two layers' outputs and the head's, with the reference's layer norm. -/
def z1 (A : Args) : Fin 32768 → Fin 256 → EReal := layer r256 A.b A.x A.gw0 A.gb0 A.lw0 A.nw0 A.nb0 A.a0
def z2 (A : Args) : Fin 32768 → Fin 256 → EReal := layer r256 A.b (z1 A) A.gw1 A.gb1 A.lw1 A.nw1 A.nb1 A.a1
def outR (A : Args) (s : Fin 16) (o : Fin 64) : EReal := head r128 A.b (z2 A) A.mw A.mb A.nw A.nb A.a A.ow A.ob s.val o

variable (V0 : Valuation τ sig (Elt Ideal))

abbrev B : IVec S32768 32 := V0 (Proc.devRef .tc main_arg1)

/-- The reference's arguments, entry by entry. -/
def argsR : Args where
  x p q := V0 (Proc.devRef .tc main_arg0) (ix2 p q)
  b n := (B V0 (ix1 n)).toNat
  gw0 p q := V0 (Proc.devRef .tc main_arg2) (ix2 p q)
  gb0 p := V0 (Proc.devRef .tc main_arg3) (ix1 p)
  lw0 p q := V0 (Proc.devRef .tc main_arg4) (ix2 p q)
  nw0 p := V0 (Proc.devRef .tc main_arg5) (ix1 p)
  nb0 p := V0 (Proc.devRef .tc main_arg6) (ix1 p)
  a0 := V0 (Proc.devRef .tc main_arg7) Idealize.ShloMosaic.ix0
  gw1 p q := V0 (Proc.devRef .tc main_arg8) (ix2 p q)
  gb1 p := V0 (Proc.devRef .tc main_arg9) (ix1 p)
  lw1 p q := V0 (Proc.devRef .tc main_arg10) (ix2 p q)
  nw1 p := V0 (Proc.devRef .tc main_arg11) (ix1 p)
  nb1 p := V0 (Proc.devRef .tc main_arg12) (ix1 p)
  a1 := V0 (Proc.devRef .tc main_arg13) Idealize.ShloMosaic.ix0
  mw p q := V0 (Proc.devRef .tc main_arg14) (ix2 p q)
  mb p := V0 (Proc.devRef .tc main_arg15) (ix1 p)
  nw p := V0 (Proc.devRef .tc main_arg16) (ix1 p)
  nb p := V0 (Proc.devRef .tc main_arg17) (ix1 p)
  a := V0 (Proc.devRef .tc main_arg18) Idealize.ShloMosaic.ix0
  ow p q := V0 (Proc.devRef .tc main_arg19) (ix2 p q)
  ob p := V0 (Proc.devRef .tc main_arg20) (ix1 p)

theorem sub_eq {a b c d : EReal} (h : a = c) (h' : b = d) : a - b = c - d := by rw [h, h']
theorem add_eq {a b c d : EReal} (h : a = c) (h' : b = d) : a + b = c + d := by rw [h, h']
theorem mul_eq {a b c d : EReal} (h : a = c) (h' : b = d) : a * b = c * d := by rw [h, h']

variable (hB : ∀ n, (B V0 n).toNat < 16)
include hB

theorem v24_at (n : Fin 32768) (f : Fin 256) :
    ((res_main_v24 V0 : FVec Ideal S32768x256 .f32) (ix2 n f) : EReal)
      = lin (argsR V0).b (argsR V0).x (argsR V0).gw0 (argsR V0).gb0 (argsR V0).lw0 n f := by
  unfold res_main_v24 lin
  refine (sub128_at _ _ _ _ n f).trans ?_
  dsimp only [argsR]
  refine sub_eq rfl ?_
  refine (gath_at _ _ hB n f).trans ?_
  refine (dotm128_at _ _ _ f).trans ?_
  refine Finset.sum_congr rfl fun k _ => ?_
  exact mul_eq (max128_at _ _ _ k) rfl

theorem v50_at (n : Fin 32768) (f : Fin 256) :
    ((res_main_v50 V0 : FVec Ideal S32768x256 .f32) (ix2 n f) : EReal)
      = r256 (lin (argsR V0).b (argsR V0).x (argsR V0).gw0 (argsR V0).gb0 (argsR V0).lw0 n) ((argsR V0).nw0 f) ((argsR V0).nb0 f) f := by
  have hM : ((res_main_v28 V0 : FVec Ideal S32768x1 .f32) (ix2 n 0) : EReal)
      = mean (Ideal.ofBits .f32 0x43800000#32) fun k : Fin 256 => ((res_main_v24 V0 : FVec Ideal S32768x256 .f32) (ix2 n k) : EReal) := by
    unfold res_main_v28
    exact mean256_at _ n
  unfold res_main_v50
  refine (ln256_at (res_main_v24 V0) (res_main_v28 V0) _ _ n f hM).trans ?_
  exact congrArg (fun g => r256 g _ _ f) (funext fun k => v24_at V0 hB n k)

theorem v55_at (n : Fin 32768) (f : Fin 256) :
    ((res_main_v55 V0 : FVec Ideal S32768x256 .f32) (ix2 n f) : EReal) = z1 (argsR V0) n f := by
  unfold res_main_v55 z1 layer
  refine (gate256_at (res_main_v50 V0) _ n f).trans ?_
  exact congrArg (prelu _) (v50_at V0 hB n f)

theorem v80_at (n : Fin 32768) (f : Fin 256) :
    ((res_main_v80 V0 : FVec Ideal S32768x256 .f32) (ix2 n f) : EReal)
      = lin (argsR V0).b (z1 (argsR V0)) (argsR V0).gw1 (argsR V0).gb1 (argsR V0).lw1 n f := by
  have hz : (fun n k => ((res_main_v55 V0 : FVec Ideal S32768x256 .f32) (ix2 n k) : EReal)) = z1 (argsR V0) := funext fun n => funext fun k => v55_at V0 hB n k
  rw [← hz]
  unfold res_main_v80 lin
  refine (sub256_at _ _ _ _ n f).trans ?_
  dsimp only [argsR]
  refine sub_eq rfl ?_
  refine (gath_at _ _ hB n f).trans ?_
  refine (dotm256_at _ _ _ f).trans ?_
  refine Finset.sum_congr rfl fun k _ => ?_
  exact mul_eq (max256_at _ _ _ k) rfl

theorem v106_at (n : Fin 32768) (f : Fin 256) :
    ((res_main_v106 V0 : FVec Ideal S32768x256 .f32) (ix2 n f) : EReal)
      = r256 (lin (argsR V0).b (z1 (argsR V0)) (argsR V0).gw1 (argsR V0).gb1 (argsR V0).lw1 n) ((argsR V0).nw1 f) ((argsR V0).nb1 f) f := by
  have hM : ((res_main_v84 V0 : FVec Ideal S32768x1 .f32) (ix2 n 0) : EReal)
      = mean (Ideal.ofBits .f32 0x43800000#32) fun k : Fin 256 => ((res_main_v80 V0 : FVec Ideal S32768x256 .f32) (ix2 n k) : EReal) := by
    unfold res_main_v84
    exact mean256_at _ n
  unfold res_main_v106
  refine (ln256_at (res_main_v80 V0) (res_main_v84 V0) _ _ n f hM).trans ?_
  exact congrArg (fun g => r256 g _ _ f) (funext fun k => v80_at V0 hB n k)

theorem words (n : Fin 32768) : ((broadcastInDim S32768x1 ![0] bcast_S32768_S32768x1_0 (B V0) : IVec S32768x1 32) (ix2 n 0)).toInt = ((argsR V0).b n : ℤ) := by
  rw [word_at]
  exact to_int _ (hB _)

theorem v127_at (s : Fin 16) (f : Fin 128) :
    ((res_main_v127 V0 : FVec Ideal S16x128 .f32) (ix2 s f) : EReal) = headlin (argsR V0).b (z2 (argsR V0)) (argsR V0).mw (argsR V0).mb s.val f := by
  unfold res_main_v127 headlin
  refine (headlin_at _ _ _ s f).trans ?_
  refine add_eq (Finset.sum_congr rfl fun k _ => mul_eq ?_ rfl) rfl
  refine (pool_at _ _ s k).trans ?_
  have e1 := add2_at (broadcastInDim S16x256 ![] bcast_S_S16x256 (constant (F := Ideal) S_ .f32 0x00000000#32)) _ (select (cmpf (F := Ideal) (φ := .f32) .oge (res_main_v106 V0) (broadcastInDim S32768x256 ![] bcast_S_S32768x256 (constant (F := Ideal) S_ .f32 0x00000000#32))) (res_main_v106 V0) (mulf (F := Ideal) (φ := .f32) (broadcastInDim S32768x256 ![] bcast_S_S32768x256 (V0 (Proc.devRef .tc main_arg13))) (res_main_v106 V0))) _ (words V0 hB) s k
  have e2 := add1_at (broadcastInDim S16 ![] bcast_S_S16 (constant (F := Ideal) S_ .f32 0x00000000#32)) _ (broadcastInDim S32768 ![] bcast_S_S32768 (constant (F := Ideal) S_ .f32 0x3F800000#32)) _ (words V0 hB) s
  rw [zero2_at, zero_add] at e1
  rw [zero1_at, zero_add] at e2
  refine (congrArg₂ (fun p q : EReal => Ideal.div p (max 1 q)) e1 e2).trans ?_
  rw [max_comm]
  refine congrArg₂ (fun p q : EReal => Ideal.div p (max q 1)) (Finset.sum_congr rfl fun n _ => ?_) (Finset.sum_congr rfl fun n _ => ?_)
  · refine congrArg (fun y : EReal => if (argsR V0).b n = s.val then y else 0) ?_
    refine (gate256_at (res_main_v106 V0) _ n k).trans ?_
    exact congrArg (prelu _) (v106_at V0 hB n k)
  · rw [ones_at]

theorem v153_at (s : Fin 16) (f : Fin 128) :
    ((res_main_v153 V0 : FVec Ideal S16x128 .f32) (ix2 s f) : EReal)
      = r128 (headlin (argsR V0).b (z2 (argsR V0)) (argsR V0).mw (argsR V0).mb s.val) ((argsR V0).nw f) ((argsR V0).nb f) f := by
  have hM : ((res_main_v131 V0 : FVec Ideal S16x1 .f32) (ix2 s 0) : EReal)
      = mean (Ideal.ofBits .f32 0x43000000#32) fun k : Fin 128 => ((res_main_v127 V0 : FVec Ideal S16x128 .f32) (ix2 s k) : EReal) := by
    unfold res_main_v131
    exact mean128_at _ s
  unfold res_main_v153
  refine (ln128_at (res_main_v127 V0) (res_main_v131 V0) _ _ s f hM).trans ?_
  exact congrArg (fun g => r128 g _ _ f) (funext fun k => v127_at V0 hB s k)

/-- The reference's result at an entry. -/
theorem ref_at (s : Fin 16) (o : Fin 64) :
    ((addf (Host.dotGeneral (F := Ideal) (φ₁ := .f32) (φ₂ := .f32) dot_S16x128_S128x64_S16x64_1_0_0_1_n_n none (select (cmpf (F := Ideal) (φ := .f32) .oge (res_main_v153 V0) (broadcastInDim S16x128 ![] bcast_S_S16x128 (constant (F := Ideal) S_ .f32 0x00000000#32))) (res_main_v153 V0) (mulf (F := Ideal) (φ := .f32) (broadcastInDim S16x128 ![] bcast_S_S16x128 (V0 (Proc.devRef .tc main_arg18))) (res_main_v153 V0))) (transpose S128x64 [1, 0] (V0 (Proc.devRef .tc main_arg19)) transposes_S64x128_S128x64_1_0)) (broadcastInDim S16x64 ![0, 1] bcast_S1x64_S16x64_0_1 (broadcastInDim S1x64 ![1] bcast_S64_S1x64_1 (V0 (Proc.devRef .tc main_arg20)))) : FVec Ideal S16x64 .f32) (ix2 s o) : EReal)
      = outR (argsR V0) s o := by
  unfold outR head
  refine (out_at _ _ _ s o).trans ?_
  refine add_eq (Finset.sum_congr rfl fun k _ => mul_eq ?_ rfl) rfl
  refine (gate128_at (res_main_v153 V0) _ s k).trans ?_
  exact congrArg (prelu _) (v153_at V0 hB s k)

end Cert.ReferenceIdeal.Val
-- ==== Proof.Value.T1.lean ====
module

public import proofs.«01_k».proof.Proof.KI.Frame
public import proofs.«01_k».proof.Proof.Value.Steps
public import Idealize.ShloMosaic.Lib.Routing.Ops
public import Idealize.ShloMosaic.Lib.Pointwise

@[expose] public section

set_option maxRecDepth 16384
noncomputable section
namespace Cert.KernelIdeal.Val
open Cert.KernelIdeal Cert.KernelIdeal.Gen Cert.KernelIdeal.Hand
open Idealize.ShloMosaic
open Idealize.ShloMosaic.TcCoe
open Cert.Val

variable (m : (ℓ : Loc nD τ sig) → Buf (Elt Ideal) ℓ) (ρ : Dev nD → PrngReg)

/-! ## The region's operands are the arguments -/

/-- The segment numbers. -/
abbrev batch (c : Dev nD) : Vec Ideal S32768 .i32 := m ((c : Thread nD τ).loc main_arg1)
abbrev seg (c : Dev nD) (n : Fin 32768) : ℕ := (batch m c (ix1 n) : BitVec 32).toNat

theorem slt_small (v : BitVec 32) (s : ℕ) (hv : v.toNat < 16) (hs : s < 17) : IntOp.cmpi .slt v (BitVec.ofNat 32 s) = 1#1 ↔ v.toNat < s := by
  obtain ⟨n, rfl⟩ : ∃ n, v = BitVec.ofNat 32 n := ⟨v.toNat, by simp⟩
  have hn : n % 2 ^ 32 < 16 := by simpa using hv
  have e : BitVec.ofNat 32 n = BitVec.ofNat 32 (n % 2 ^ 32) := by apply BitVec.eq_of_toNat_eq; simp
  rw [e]
  revert hn; generalize n % 2 ^ 32 = k; intro hn
  unfold IntOp.cmpi
  rw [word_nat k hn]
  show BitVec.ofBool (BitVec.slt _ _) = 1#1 ↔ _
  have : BitVec.slt (BitVec.ofNat 32 k) (BitVec.ofNat 32 s) = decide (k < s) := by
    rw [Bool.eq_iff_iff, BitVec.slt_iff_toInt_lt, toInt_small k (by omega), toInt_small s (by omega)]; simp
  rw [this]
  by_cases h : k < s <;> simp [h]

theorem count_fin {N : ℕ} (b : Fin N → ℕ) (s : ℕ) [DecidablePred fun n => ∃ h : n < N, b ⟨n, h⟩ < s] :
    Nat.count (fun n => ∃ h : n < N, b ⟨n, h⟩ < s) N = ends b s := by
  unfold ends
  rw [← Routing.card_filter_fin]
  refine congrArg Finset.card (Finset.filter_congr fun q _ => ?_)
  exact ⟨fun ⟨_, h⟩ => h, fun h => ⟨q.isLt, h⟩⟩

/-- A row of bits, counted. -/
theorem count_bits (k : IVec S17x32768 1) (s : Fin 17) (b : Fin 32768 → ℕ) (h : ∀ q : Fin 32768, k (ix2 s q) = 1#1 ↔ b q < s.val) :
    Host.reduce IntOp.addi (extui 32 k natLt_1_32) (constantI S_ 32 0#32) reducesTo_S17x32768_S17_d1 h_S_ (ix1 s) = BitVec.ofNat 32 (ends b s.val) :=
  (Routing.reduce_count (by norm_num) k _ _ _ s (fun n => ∃ h : n < 32768, b ⟨n, h⟩ < s.val) fun q =>
    (h q).trans ⟨fun h => ⟨q.isLt, h⟩, fun ⟨_, h⟩ => h⟩).trans (congrArg (BitVec.ofNat 32) (count_fin b s.val))

/-- The bits the host counts. -/
theorem below_at (x : IVec S32768 32) (s : Fin 17) (q : Fin 32768) : (cmpi .slt (broadcastInDim S17x32768 ![0, 1] bcast_S1x32768_S17x32768_0_1 (broadcastInDim S1x32768 ![1] bcast_S32768_S1x32768_1 x))
      (broadcastInDim S17x32768 ![0, 1] bcast_S17x1_S17x32768_0_1 (broadcastInDim S17x1 ![0] bcast_S17_S17x1_0 (iotaInDim S17 32 0))) (ix2 s q) : BitVec 1)
        = IntOp.cmpi .slt (x (ix1 q)) (BitVec.ofNat 32 s.val) := by pointwise []

theorem count_at (x : IVec S32768 32) (hx : ∀ n, (x n : BitVec 32).toNat < 16) (s : Fin 17) :
    Host.reduce IntOp.addi (extui 32 (cmpi .slt (broadcastInDim S17x32768 ![0, 1] bcast_S1x32768_S17x32768_0_1 (broadcastInDim S1x32768 ![1] bcast_S32768_S1x32768_1 x))
      (broadcastInDim S17x32768 ![0, 1] bcast_S17x1_S17x32768_0_1 (broadcastInDim S17x1 ![0] bcast_S17_S17x1_0 (iotaInDim S17 32 0)))) natLt_1_32)
      (constantI S_ 32 0#32) reducesTo_S17x32768_S17_d1 h_S_ (ix1 s) = BitVec.ofNat 32 (ends (fun n => (x (ix1 n) : BitVec 32).toNat) s.val) :=
  count_bits _ s _ fun q => (iff_of_eq (congrArg (fun v : BitVec 1 => v = 1#1) (below_at x s q))).trans (slt_small _ _ (hx _) s.isLt)

theorem cast16 {α : Type} (x : S16.Idx → α) (s : Fin 16) : shapeCast S1x16 x shapeCasts_S16_S1x16 (ix2 0 s) = x (ix1 s) := by pointwise []
theorem cast64 {α : Type} (x : S64.Idx → α) (s : Fin 64) : shapeCast S1x64 x shapeCasts_S64_S1x64 (ix2 0 s) = x (ix1 s) := by pointwise []
theorem cast128 {α : Type} (x : S128.Idx → α) (s : Fin 128) : shapeCast S1x128 x shapeCasts_S128_S1x128 (ix2 0 s) = x (ix1 s) := by pointwise []
theorem cast256 {α : Type} (x : S256.Idx → α) (s : Fin 256) : shapeCast S1x256 x shapeCasts_S256_S1x256 (ix2 0 s) = x (ix1 s) := by pointwise []
theorem cast1 {α : Type} (x : S_.Idx → α) : shapeCast S1x1 x shapeCasts_S_S1x1 (ix2 0 0) = x Idealize.ShloMosaic.ix0 := by pointwise []
theorem cut0 {α : Type} (x : S17.Idx → α) (s : Fin 16) : extractStridedSlice S16 ![0] x slices_S17_S16_0 (ix1 s) = x (ix1 ⟨s.val, by omega⟩) := by pointwise []
theorem cut1 {α : Type} (x : S17.Idx → α) (s : Fin 16) : extractStridedSlice S16 ![1] x slices_S17_S16_1 (ix1 s) = x (ix1 ⟨s.val + 1, by omega⟩) := by
  pointwise []
  exact congrArg (fun i => x (ix1 i)) (Fin.ext (Nat.add_comm _ _))

theorem pair0 (x : IVec S32768 32) (j : Fin 16) : (concatenate S16x2 1
    [⟨S16x1, broadcastInDim S16x1 ![0] bcast_S16_S16x1_0 (Host.slice S16 ![0] ![2048] x slicesBy_S32768_S16_0s2048)⟩,
     ⟨S16x1, broadcastInDim S16x1 ![0] bcast_S16_S16x1_0 (Host.slice S16 ![2047] ![2048] x slicesBy_S32768_S16_2047s2048)⟩]
    concatenates_S16x1_S16x1_S16x2_d1 : IVec S16x2 32) (ix2 j 0) = x (ix1 (row j.val 0)) := by
  pointwise []
  exact congrArg (fun i => x (ix1 i)) (Fin.ext (row_val j.val j.isLt 0).symm)
theorem pair1 (x : IVec S32768 32) (j : Fin 16) : (concatenate S16x2 1
    [⟨S16x1, broadcastInDim S16x1 ![0] bcast_S16_S16x1_0 (Host.slice S16 ![0] ![2048] x slicesBy_S32768_S16_0s2048)⟩,
     ⟨S16x1, broadcastInDim S16x1 ![0] bcast_S16_S16x1_0 (Host.slice S16 ![2047] ![2048] x slicesBy_S32768_S16_2047s2048)⟩]
    concatenates_S16x1_S16x1_S16x2_d1 : IVec S16x2 32) (ix2 j 1) = x (ix1 (row j.val 2047)) := by
  pointwise []
  exact congrArg (fun i => x (ix1 i)) (Fin.ext ((Nat.add_comm _ _).trans (row_val j.val j.isLt 2047).symm))
end Cert.KernelIdeal.Val
-- ==== Proof.Value.T2.lean ====
module

public import proofs.«01_k».proof.Proof.Value.T1
public import Idealize.ShloMosaic.Lib.Pointwise

@[expose] public section

set_option maxRecDepth 16384
noncomputable section
namespace Cert.KernelIdeal.Val
open Cert.KernelIdeal Cert.KernelIdeal.Gen Cert.KernelIdeal.Hand
open Idealize.ShloMosaic
open Idealize.ShloMosaic.TcCoe
open Cert.Val

variable (m : (ℓ : Loc nD τ sig) → Buf (Elt Ideal) ℓ) (ρ : Dev nD → PrngReg)

theorem edges_at (c : Dev nD) (h : Ranged m) (s : Fin 17) : V m ρ c main_v7 (ix1 s) = BitVec.ofNat 32 (ends (seg m c) s.val) := by
  unfold V
  after_reads_simp
  exact count_at (batch m c) (h c) s

theorem lo_at (c : Dev nD) (h : Ranged m) (s : Fin 16) : V m ρ c main_v9 (ix2 0 s) = BitVec.ofNat 32 (ends (seg m c) s.val) := by
  refine Eq.trans ?_ (edges_at m ρ c h ⟨s.val, by omega⟩)
  unfold V
  after_reads_simp
  exact (cast16 _ s).trans (cut0 _ s)

theorem hi_at (c : Dev nD) (h : Ranged m) (s : Fin 16) : V m ρ c main_v11 (ix2 0 s) = BitVec.ofNat 32 (ends (seg m c) (s.val + 1)) := by
  refine Eq.trans ?_ (edges_at m ρ c h ⟨s.val + 1, by omega⟩)
  unfold V
  after_reads_simp
  exact (cast16 _ s).trans (cut1 _ s)

theorem pick0 {α : Type} (X : S16x2.Idx → α) (j : ℕ) (hj : j < 16) (h) (h') :
    VecWindow.window X ![j, 0] S1x1.size h (Shape.Idx.first h') = X (ix2 ⟨j, hj⟩ 0) := by
  refine congrArg X (funext fun a => Fin.ext ?_)
  fin_cases a
  · show j + 1 * 0 = j; omega
  · show 0 + 1 * 0 = 0; omega
theorem pick1 {α : Type} (X : S16x2.Idx → α) (j : ℕ) (hj : j < 16) (h) (h') :
    VecWindow.window X ![j, 1] S1x1.size h (Shape.Idx.first h') = X (ix2 ⟨j, hj⟩ 1) := by
  refine congrArg X (funext fun a => Fin.ext ?_)
  fin_cases a
  · show j + 1 * 0 = j; omega
  · show 1 + 1 * 0 = 1; omega
theorem low_at (c : Dev nD) (t : Fin grid0.N) : lowAt (F := Ideal) (grid0.coords t) (V m ρ c main_v16) = batch m c (ix1 (row (t.val % 16) 0)) := by
  unfold lowAt
  rw [window_at _ (off1_eq t), bounds_eq]
  refine Eq.trans ?_ (pair0 (batch m c) ⟨t.val % 16, Nat.mod_lt _ (by decide)⟩)
  exact pick0 _ _ (Nat.mod_lt _ (by decide)) _ _
theorem high_at (c : Dev nD) (t : Fin grid0.N) : highAt (F := Ideal) (grid0.coords t) (V m ρ c main_v16) = batch m c (ix1 (row (t.val % 16) 2047)) := by
  unfold highAt
  rw [window_at _ (off2_eq t), bounds_eq]
  refine Eq.trans ?_ (pair1 (batch m c) ⟨t.val % 16, Nat.mod_lt _ (by decide)⟩)
  exact pick1 _ _ (Nat.mod_lt _ (by decide)) _ _

end Cert.KernelIdeal.Val
-- ==== Proof.Value.T3.lean ====
module

public import proofs.«01_k».proof.Proof.Value.T1
public import Idealize.ShloMosaic.Lib.Pointwise

@[expose] public section

set_option maxRecDepth 16384
noncomputable section
namespace Cert.KernelIdeal.Val
open Cert.KernelIdeal Cert.KernelIdeal.Gen Cert.KernelIdeal.Hand
open Idealize.ShloMosaic
open Idealize.ShloMosaic.TcCoe
open Cert.Val

variable (m : (ℓ : Loc nD τ sig) → Buf (Elt Ideal) ℓ) (ρ : Dev nD → PrngReg)

/-- A reshaped argument reads the argument. -/
theorem w8_arg (c : Dev nD) (f : Fin 256) : V m ρ c main_v30 (ix2 0 f) = m ((c : Thread nD τ).loc main_arg3) (ix1 f) := by
  unfold V
  after_reads_simp
  exact cast256 _ f
theorem w9_arg (c : Dev nD) (f : Fin 256) : V m ρ c main_v31 (ix2 0 f) = m ((c : Thread nD τ).loc main_arg5) (ix1 f) := by
  unfold V
  after_reads_simp
  exact cast256 _ f
theorem w10_arg (c : Dev nD) (f : Fin 256) : V m ρ c main_v32 (ix2 0 f) = m ((c : Thread nD τ).loc main_arg6) (ix1 f) := by
  unfold V
  after_reads_simp
  exact cast256 _ f
theorem w11_arg (c : Dev nD) : V m ρ c main_v17 (ix2 0 0) = m ((c : Thread nD τ).loc main_arg7) Idealize.ShloMosaic.ix0 := by
  unfold V
  after_reads_simp
  exact cast1 _
theorem w14_arg (c : Dev nD) (f : Fin 256) : V m ρ c main_v33 (ix2 0 f) = m ((c : Thread nD τ).loc main_arg9) (ix1 f) := by
  unfold V
  after_reads_simp
  exact cast256 _ f
theorem w15_arg (c : Dev nD) (f : Fin 256) : V m ρ c main_v34 (ix2 0 f) = m ((c : Thread nD τ).loc main_arg11) (ix1 f) := by
  unfold V
  after_reads_simp
  exact cast256 _ f
theorem w16_arg (c : Dev nD) (f : Fin 256) : V m ρ c main_v35 (ix2 0 f) = m ((c : Thread nD τ).loc main_arg12) (ix1 f) := by
  unfold V
  after_reads_simp
  exact cast256 _ f
theorem w17_arg (c : Dev nD) : V m ρ c main_v18 (ix2 0 0) = m ((c : Thread nD τ).loc main_arg13) Idealize.ShloMosaic.ix0 := by
  unfold V
  after_reads_simp
  exact cast1 _
theorem w19_arg (c : Dev nD) (f : Fin 128) : V m ρ c main_v36 (ix2 0 f) = m ((c : Thread nD τ).loc main_arg15) (ix1 f) := by
  unfold V
  after_reads_simp
  exact cast128 _ f
theorem w20_arg (c : Dev nD) (f : Fin 128) : V m ρ c main_v37 (ix2 0 f) = m ((c : Thread nD τ).loc main_arg16) (ix1 f) := by
  unfold V
  after_reads_simp
  exact cast128 _ f
theorem w21_arg (c : Dev nD) (f : Fin 128) : V m ρ c main_v38 (ix2 0 f) = m ((c : Thread nD τ).loc main_arg17) (ix1 f) := by
  unfold V
  after_reads_simp
  exact cast128 _ f
theorem w22_arg (c : Dev nD) : V m ρ c main_v19 (ix2 0 0) = m ((c : Thread nD τ).loc main_arg18) Idealize.ShloMosaic.ix0 := by
  unfold V
  after_reads_simp
  exact cast1 _
theorem w24_arg (c : Dev nD) (f : Fin 64) : V m ρ c main_v39 (ix2 0 f) = m ((c : Thread nD τ).loc main_arg20) (ix1 f) := by
  unfold V
  after_reads_simp
  exact cast64 _ f

/-- The arguments of a run, entry by entry. -/
def argsOf (c : Dev nD) : Args where
  x p q := m ((c : Thread nD τ).loc main_arg0) (ix2 p q)
  b := seg m c
  gw0 p q := m ((c : Thread nD τ).loc main_arg2) (ix2 p q)
  gb0 p := m ((c : Thread nD τ).loc main_arg3) (ix1 p)
  lw0 p q := m ((c : Thread nD τ).loc main_arg4) (ix2 p q)
  nw0 p := m ((c : Thread nD τ).loc main_arg5) (ix1 p)
  nb0 p := m ((c : Thread nD τ).loc main_arg6) (ix1 p)
  a0 := m ((c : Thread nD τ).loc main_arg7) Idealize.ShloMosaic.ix0
  gw1 p q := m ((c : Thread nD τ).loc main_arg8) (ix2 p q)
  gb1 p := m ((c : Thread nD τ).loc main_arg9) (ix1 p)
  lw1 p q := m ((c : Thread nD τ).loc main_arg10) (ix2 p q)
  nw1 p := m ((c : Thread nD τ).loc main_arg11) (ix1 p)
  nb1 p := m ((c : Thread nD τ).loc main_arg12) (ix1 p)
  a1 := m ((c : Thread nD τ).loc main_arg13) Idealize.ShloMosaic.ix0
  mw p q := m ((c : Thread nD τ).loc main_arg14) (ix2 p q)
  mb p := m ((c : Thread nD τ).loc main_arg15) (ix1 p)
  nw p := m ((c : Thread nD τ).loc main_arg16) (ix1 p)
  nb p := m ((c : Thread nD τ).loc main_arg17) (ix1 p)
  a := m ((c : Thread nD τ).loc main_arg18) Idealize.ShloMosaic.ix0
  ow p q := m ((c : Thread nD τ).loc main_arg19) (ix2 p q)
  ob p := m ((c : Thread nD τ).loc main_arg20) (ix1 p)

end Cert.KernelIdeal.Val
-- ==== Proof.Value.Reads.lean ====
module

public import proofs.«01_k».proof.Proof.KI.Frame
public import proofs.«01_k».proof.Proof.Value.Steps
public import Idealize.ShloMosaic.Lib.Routing.Ops
public import Idealize.ShloMosaic.Lib.Pointwise

@[expose] public section

set_option maxRecDepth 16384
noncomputable section
namespace Cert.KernelIdeal.Val
open Cert.KernelIdeal Cert.KernelIdeal.Gen Cert.KernelIdeal.Hand
open Idealize.ShloMosaic
open Idealize.ShloMosaic.TcCoe
open Cert.Val

variable (m : (ℓ : Loc nD τ sig) → Buf (Elt Ideal) ℓ) (ρ : Dev nD → PrngReg)

/-! ## The region's blocks -/

theorem sh0 : ∀ t : Fin grid0.N, t.val < 32 → cc0_transform_0 (grid0.coords t) = ![t.val % 16, 0] := by decide +kernel

theorem w3_at (c : Dev nD) (t : Fin (cfgA m ρ).N) (ht : t.val < 32) (f : Fin 2048) (k : Fin 128) :
    blkA m ρ c 0 t (ix2 f k) = m ((c : Thread nD τ).loc main_arg0) (ix2 (row (t.val % 16) f) k) := by
  rw [← V_kept m ρ c main_arg0 (by decide)]
  show V m ρ c main_arg0 _ = _
  congr 1
  have e := sh0 t ht
  have hv := row_val (t.val % 16) (Nat.mod_lt _ (by decide)) f
  funext a
  fin_cases a
  · refine Fin.ext ?_
    show cc0_transform_0 (grid0.coords t) 0 * 2048 + 1 * f.val = (row (t.val % 16) f).val
    rw [e, hv]
    show t.val % 16 * 2048 + 1 * f.val = _
    omega
  · refine Fin.ext ?_
    show cc0_transform_0 (grid0.coords t) 1 * 128 + 1 * k.val = k.val
    rw [e]
    show 0 * 128 + 1 * k.val = _
    omega

/-- A window that is its whole array reads the array. -/
theorem w4_read (c : Dev nD) (t : Fin (cfgA m ρ).N) (f : Fin 1) (k : Fin 16) : blkA m ρ c 1 t (ix2 f k) = V m ρ c main_v9 (ix2 f k) := by
  show V m ρ c main_v9 _ = _
  congr 1
  funext a
  fin_cases a
  · exact Fin.ext (show 0 * 1 + 1 * f.val = f.val by omega)
  · exact Fin.ext (show 0 * 16 + 1 * k.val = k.val by omega)
theorem w5_read (c : Dev nD) (t : Fin (cfgA m ρ).N) (f : Fin 1) (k : Fin 16) : blkA m ρ c 2 t (ix2 f k) = V m ρ c main_v11 (ix2 f k) := by
  show V m ρ c main_v11 _ = _
  congr 1
  funext a
  fin_cases a
  · exact Fin.ext (show 0 * 1 + 1 * f.val = f.val by omega)
  · exact Fin.ext (show 0 * 16 + 1 * k.val = k.val by omega)
theorem w6_read (c : Dev nD) (t : Fin (cfgA m ρ).N) (f : Fin 256) (k : Fin 128) : blkA m ρ c 3 t (ix2 f k) = V m ρ c main_arg4 (ix2 f k) := by
  show V m ρ c main_arg4 _ = _
  congr 1
  funext a
  fin_cases a
  · exact Fin.ext (show 0 * 256 + 1 * f.val = f.val by omega)
  · exact Fin.ext (show 0 * 128 + 1 * k.val = k.val by omega)
theorem w7_read (c : Dev nD) (t : Fin (cfgA m ρ).N) (f : Fin 256) (k : Fin 128) : blkA m ρ c 4 t (ix2 f k) = V m ρ c main_arg2 (ix2 f k) := by
  show V m ρ c main_arg2 _ = _
  congr 1
  funext a
  fin_cases a
  · exact Fin.ext (show 0 * 256 + 1 * f.val = f.val by omega)
  · exact Fin.ext (show 0 * 128 + 1 * k.val = k.val by omega)
theorem w8_read (c : Dev nD) (t : Fin (cfgA m ρ).N) (f : Fin 1) (k : Fin 256) : blkA m ρ c 5 t (ix2 f k) = V m ρ c main_v30 (ix2 f k) := by
  show V m ρ c main_v30 _ = _
  congr 1
  funext a
  fin_cases a
  · exact Fin.ext (show 0 * 1 + 1 * f.val = f.val by omega)
  · exact Fin.ext (show 0 * 256 + 1 * k.val = k.val by omega)
theorem w9_read (c : Dev nD) (t : Fin (cfgA m ρ).N) (f : Fin 1) (k : Fin 256) : blkA m ρ c 6 t (ix2 f k) = V m ρ c main_v31 (ix2 f k) := by
  show V m ρ c main_v31 _ = _
  congr 1
  funext a
  fin_cases a
  · exact Fin.ext (show 0 * 1 + 1 * f.val = f.val by omega)
  · exact Fin.ext (show 0 * 256 + 1 * k.val = k.val by omega)
theorem w10_read (c : Dev nD) (t : Fin (cfgA m ρ).N) (f : Fin 1) (k : Fin 256) : blkA m ρ c 7 t (ix2 f k) = V m ρ c main_v32 (ix2 f k) := by
  show V m ρ c main_v32 _ = _
  congr 1
  funext a
  fin_cases a
  · exact Fin.ext (show 0 * 1 + 1 * f.val = f.val by omega)
  · exact Fin.ext (show 0 * 256 + 1 * k.val = k.val by omega)
theorem w11_read (c : Dev nD) (t : Fin (cfgA m ρ).N) (f : Fin 1) (k : Fin 1) : blkA m ρ c 8 t (ix2 f k) = V m ρ c main_v17 (ix2 f k) := by
  show V m ρ c main_v17 _ = _
  congr 1
  funext a
  fin_cases a
  · exact Fin.ext (show 0 * 1 + 1 * f.val = f.val by omega)
  · exact Fin.ext (show 0 * 1 + 1 * k.val = k.val by omega)
theorem w12_read (c : Dev nD) (t : Fin (cfgA m ρ).N) (f : Fin 256) (k : Fin 256) : blkA m ρ c 9 t (ix2 f k) = V m ρ c main_arg10 (ix2 f k) := by
  show V m ρ c main_arg10 _ = _
  congr 1
  funext a
  fin_cases a
  · exact Fin.ext (show 0 * 256 + 1 * f.val = f.val by omega)
  · exact Fin.ext (show 0 * 256 + 1 * k.val = k.val by omega)
theorem w13_read (c : Dev nD) (t : Fin (cfgA m ρ).N) (f : Fin 256) (k : Fin 256) : blkA m ρ c 10 t (ix2 f k) = V m ρ c main_arg8 (ix2 f k) := by
  show V m ρ c main_arg8 _ = _
  congr 1
  funext a
  fin_cases a
  · exact Fin.ext (show 0 * 256 + 1 * f.val = f.val by omega)
  · exact Fin.ext (show 0 * 256 + 1 * k.val = k.val by omega)
theorem w14_read (c : Dev nD) (t : Fin (cfgA m ρ).N) (f : Fin 1) (k : Fin 256) : blkA m ρ c 11 t (ix2 f k) = V m ρ c main_v33 (ix2 f k) := by
  show V m ρ c main_v33 _ = _
  congr 1
  funext a
  fin_cases a
  · exact Fin.ext (show 0 * 1 + 1 * f.val = f.val by omega)
  · exact Fin.ext (show 0 * 256 + 1 * k.val = k.val by omega)
theorem w15_read (c : Dev nD) (t : Fin (cfgA m ρ).N) (f : Fin 1) (k : Fin 256) : blkA m ρ c 12 t (ix2 f k) = V m ρ c main_v34 (ix2 f k) := by
  show V m ρ c main_v34 _ = _
  congr 1
  funext a
  fin_cases a
  · exact Fin.ext (show 0 * 1 + 1 * f.val = f.val by omega)
  · exact Fin.ext (show 0 * 256 + 1 * k.val = k.val by omega)
theorem w16_read (c : Dev nD) (t : Fin (cfgA m ρ).N) (f : Fin 1) (k : Fin 256) : blkA m ρ c 13 t (ix2 f k) = V m ρ c main_v35 (ix2 f k) := by
  show V m ρ c main_v35 _ = _
  congr 1
  funext a
  fin_cases a
  · exact Fin.ext (show 0 * 1 + 1 * f.val = f.val by omega)
  · exact Fin.ext (show 0 * 256 + 1 * k.val = k.val by omega)
theorem w17_read (c : Dev nD) (t : Fin (cfgA m ρ).N) (f : Fin 1) (k : Fin 1) : blkA m ρ c 14 t (ix2 f k) = V m ρ c main_v18 (ix2 f k) := by
  show V m ρ c main_v18 _ = _
  congr 1
  funext a
  fin_cases a
  · exact Fin.ext (show 0 * 1 + 1 * f.val = f.val by omega)
  · exact Fin.ext (show 0 * 1 + 1 * k.val = k.val by omega)
theorem w18_read (c : Dev nD) (t : Fin (cfgA m ρ).N) (f : Fin 128) (k : Fin 256) : blkA m ρ c 15 t (ix2 f k) = V m ρ c main_arg14 (ix2 f k) := by
  show V m ρ c main_arg14 _ = _
  congr 1
  funext a
  fin_cases a
  · exact Fin.ext (show 0 * 128 + 1 * f.val = f.val by omega)
  · exact Fin.ext (show 0 * 256 + 1 * k.val = k.val by omega)
theorem w19_read (c : Dev nD) (t : Fin (cfgA m ρ).N) (f : Fin 1) (k : Fin 128) : blkA m ρ c 16 t (ix2 f k) = V m ρ c main_v36 (ix2 f k) := by
  show V m ρ c main_v36 _ = _
  congr 1
  funext a
  fin_cases a
  · exact Fin.ext (show 0 * 1 + 1 * f.val = f.val by omega)
  · exact Fin.ext (show 0 * 128 + 1 * k.val = k.val by omega)
theorem w20_read (c : Dev nD) (t : Fin (cfgA m ρ).N) (f : Fin 1) (k : Fin 128) : blkA m ρ c 17 t (ix2 f k) = V m ρ c main_v37 (ix2 f k) := by
  show V m ρ c main_v37 _ = _
  congr 1
  funext a
  fin_cases a
  · exact Fin.ext (show 0 * 1 + 1 * f.val = f.val by omega)
  · exact Fin.ext (show 0 * 128 + 1 * k.val = k.val by omega)
theorem w21_read (c : Dev nD) (t : Fin (cfgA m ρ).N) (f : Fin 1) (k : Fin 128) : blkA m ρ c 18 t (ix2 f k) = V m ρ c main_v38 (ix2 f k) := by
  show V m ρ c main_v38 _ = _
  congr 1
  funext a
  fin_cases a
  · exact Fin.ext (show 0 * 1 + 1 * f.val = f.val by omega)
  · exact Fin.ext (show 0 * 128 + 1 * k.val = k.val by omega)
theorem w22_read (c : Dev nD) (t : Fin (cfgA m ρ).N) (f : Fin 1) (k : Fin 1) : blkA m ρ c 19 t (ix2 f k) = V m ρ c main_v19 (ix2 f k) := by
  show V m ρ c main_v19 _ = _
  congr 1
  funext a
  fin_cases a
  · exact Fin.ext (show 0 * 1 + 1 * f.val = f.val by omega)
  · exact Fin.ext (show 0 * 1 + 1 * k.val = k.val by omega)
theorem w23_read (c : Dev nD) (t : Fin (cfgA m ρ).N) (f : Fin 64) (k : Fin 128) : blkA m ρ c 20 t (ix2 f k) = V m ρ c main_arg19 (ix2 f k) := by
  show V m ρ c main_arg19 _ = _
  congr 1
  funext a
  fin_cases a
  · exact Fin.ext (show 0 * 64 + 1 * f.val = f.val by omega)
  · exact Fin.ext (show 0 * 128 + 1 * k.val = k.val by omega)
theorem w24_read (c : Dev nD) (t : Fin (cfgA m ρ).N) (f : Fin 1) (k : Fin 64) : blkA m ρ c 21 t (ix2 f k) = V m ρ c main_v39 (ix2 f k) := by
  show V m ρ c main_v39 _ = _
  congr 1
  funext a
  fin_cases a
  · exact Fin.ext (show 0 * 1 + 1 * f.val = f.val by omega)
  · exact Fin.ext (show 0 * 64 + 1 * k.val = k.val by omega)

end Cert.KernelIdeal.Val
-- ==== Proof.Value.Tables.lean ====
module

public import proofs.«01_k».proof.Proof.Value.T2
public import proofs.«01_k».proof.Proof.Value.T3
public import proofs.«01_k».proof.Proof.Value.Reads
public import Idealize.ShloMosaic.Lib.Pointwise

@[expose] public section

set_option maxRecDepth 16384
noncomputable section
namespace Cert.KernelIdeal.Val
open Cert.KernelIdeal Cert.KernelIdeal.Gen Cert.KernelIdeal.Hand
open Idealize.ShloMosaic
open Idealize.ShloMosaic.TcCoe
open Cert.Val

variable (m : (ℓ : Loc nD τ sig) → Buf (Elt Ideal) ℓ) (ρ : Dev nD → PrngReg)

theorem kept4 (c : Dev nD) (p : Fin 256) (q : Fin 128) : V m ρ c main_arg4 (ix2 p q) = m ((c : Thread nD τ).loc main_arg4) (ix2 p q) := by
  rw [V_kept m ρ c main_arg4 (by decide)]
theorem kept2 (c : Dev nD) (p : Fin 256) (q : Fin 128) : V m ρ c main_arg2 (ix2 p q) = m ((c : Thread nD τ).loc main_arg2) (ix2 p q) := by
  rw [V_kept m ρ c main_arg2 (by decide)]
theorem kept10 (c : Dev nD) (p : Fin 256) (q : Fin 256) : V m ρ c main_arg10 (ix2 p q) = m ((c : Thread nD τ).loc main_arg10) (ix2 p q) := by
  rw [V_kept m ρ c main_arg10 (by decide)]
theorem kept8 (c : Dev nD) (p : Fin 256) (q : Fin 256) : V m ρ c main_arg8 (ix2 p q) = m ((c : Thread nD τ).loc main_arg8) (ix2 p q) := by
  rw [V_kept m ρ c main_arg8 (by decide)]
theorem kept14 (c : Dev nD) (p : Fin 128) (q : Fin 256) : V m ρ c main_arg14 (ix2 p q) = m ((c : Thread nD τ).loc main_arg14) (ix2 p q) := by
  rw [V_kept m ρ c main_arg14 (by decide)]
theorem kept19 (c : Dev nD) (p : Fin 64) (q : Fin 128) : V m ρ c main_arg19 (ix2 p q) = m ((c : Thread nD τ).loc main_arg19) (ix2 p q) := by
  rw [V_kept m ρ c main_arg19 (by decide)]
theorem argsOf_b (c : Dev nD) : (argsOf m c).b = seg m c := rfl
theorem fw3 (c : Dev nD) (t : Fin (cfgA m ρ).N) : t.val < 32 → ∀ r k, ((winsAt m ρ c t).w3 (ix2 r k) : EReal) = (argsOf m c).x (row (t.val % 16) r) k := fun ht r k => w3_at m ρ c t ht r k
theorem via4 (c : Dev nD) (t : Fin (cfgA m ρ).N) (s : Fin 16) (x : BitVec 32) (h : V m ρ c main_v9 (ix2 0 s) = x) : (winsAt m ρ c t).w4 (ix2 0 s) = x := by
  have h1 := w4_read m ρ c t 0 s
  unfold winsAt
  dsimp only
  rw [h1]
  exact h
theorem via5 (c : Dev nD) (t : Fin (cfgA m ρ).N) (s : Fin 16) (x : BitVec 32) (h : V m ρ c main_v11 (ix2 0 s) = x) : (winsAt m ρ c t).w5 (ix2 0 s) = x := by
  have h1 := w5_read m ρ c t 0 s
  unfold winsAt
  dsimp only
  rw [h1]
  exact h
theorem fw4 (c : Dev nD) (h : Ranged m) (t : Fin (cfgA m ρ).N) (s : Fin 16) : (winsAt m ρ c t).w4 (ix2 0 s) = BitVec.ofNat 32 (ends (argsOf m c).b s.val) := by
  rw [argsOf_b]
  exact via4 m ρ c t s _ (lo_at m ρ c h s)
theorem fw5 (c : Dev nD) (h : Ranged m) (t : Fin (cfgA m ρ).N) (s : Fin 16) : (winsAt m ρ c t).w5 (ix2 0 s) = BitVec.ofNat 32 (ends (argsOf m c).b (s.val + 1)) := by
  rw [argsOf_b]
  exact via5 m ρ c t s _ (hi_at m ρ c h s)
theorem fw6 (c : Dev nD) (t : Fin (cfgA m ρ).N) : ∀ f k, ((winsAt m ρ c t).w6 (ix2 f k) : EReal) = (argsOf m c).lw0 f k := fun p q => (w6_read m ρ c t p q).trans (kept4 m ρ c p q)
theorem fw7 (c : Dev nD) (t : Fin (cfgA m ρ).N) : ∀ f k, ((winsAt m ρ c t).w7 (ix2 f k) : EReal) = (argsOf m c).gw0 f k := fun p q => (w7_read m ρ c t p q).trans (kept2 m ρ c p q)
theorem fw8 (c : Dev nD) (t : Fin (cfgA m ρ).N) : ∀ f, ((winsAt m ρ c t).w8 (ix2 0 f) : EReal) = (argsOf m c).gb0 f := fun p => (w8_read m ρ c t 0 p).trans (w8_arg m ρ c p)
theorem fw9 (c : Dev nD) (t : Fin (cfgA m ρ).N) : ∀ f, ((winsAt m ρ c t).w9 (ix2 0 f) : EReal) = (argsOf m c).nw0 f := fun p => (w9_read m ρ c t 0 p).trans (w9_arg m ρ c p)
theorem fw10 (c : Dev nD) (t : Fin (cfgA m ρ).N) : ∀ f, ((winsAt m ρ c t).w10 (ix2 0 f) : EReal) = (argsOf m c).nb0 f := fun p => (w10_read m ρ c t 0 p).trans (w10_arg m ρ c p)
theorem fw11 (c : Dev nD) (t : Fin (cfgA m ρ).N) : ((winsAt m ρ c t).w11 (ix2 0 0) : EReal) = (argsOf m c).a0 := (w11_read m ρ c t 0 0).trans (w11_arg m ρ c)
theorem fw12 (c : Dev nD) (t : Fin (cfgA m ρ).N) : ∀ f k, ((winsAt m ρ c t).w12 (ix2 f k) : EReal) = (argsOf m c).lw1 f k := fun p q => (w12_read m ρ c t p q).trans (kept10 m ρ c p q)
theorem fw13 (c : Dev nD) (t : Fin (cfgA m ρ).N) : ∀ f k, ((winsAt m ρ c t).w13 (ix2 f k) : EReal) = (argsOf m c).gw1 f k := fun p q => (w13_read m ρ c t p q).trans (kept8 m ρ c p q)
theorem fw14 (c : Dev nD) (t : Fin (cfgA m ρ).N) : ∀ f, ((winsAt m ρ c t).w14 (ix2 0 f) : EReal) = (argsOf m c).gb1 f := fun p => (w14_read m ρ c t 0 p).trans (w14_arg m ρ c p)
theorem fw15 (c : Dev nD) (t : Fin (cfgA m ρ).N) : ∀ f, ((winsAt m ρ c t).w15 (ix2 0 f) : EReal) = (argsOf m c).nw1 f := fun p => (w15_read m ρ c t 0 p).trans (w15_arg m ρ c p)
theorem fw16 (c : Dev nD) (t : Fin (cfgA m ρ).N) : ∀ f, ((winsAt m ρ c t).w16 (ix2 0 f) : EReal) = (argsOf m c).nb1 f := fun p => (w16_read m ρ c t 0 p).trans (w16_arg m ρ c p)
theorem fw17 (c : Dev nD) (t : Fin (cfgA m ρ).N) : ((winsAt m ρ c t).w17 (ix2 0 0) : EReal) = (argsOf m c).a1 := (w17_read m ρ c t 0 0).trans (w17_arg m ρ c)
theorem fw18 (c : Dev nD) (t : Fin (cfgA m ρ).N) : ∀ f k, ((winsAt m ρ c t).w18 (ix2 f k) : EReal) = (argsOf m c).mw f k := fun p q => (w18_read m ρ c t p q).trans (kept14 m ρ c p q)
theorem fw19 (c : Dev nD) (t : Fin (cfgA m ρ).N) : ∀ f, ((winsAt m ρ c t).w19 (ix2 0 f) : EReal) = (argsOf m c).mb f := fun p => (w19_read m ρ c t 0 p).trans (w19_arg m ρ c p)
theorem fw20 (c : Dev nD) (t : Fin (cfgA m ρ).N) : ∀ f, ((winsAt m ρ c t).w20 (ix2 0 f) : EReal) = (argsOf m c).nw f := fun p => (w20_read m ρ c t 0 p).trans (w20_arg m ρ c p)
theorem fw21 (c : Dev nD) (t : Fin (cfgA m ρ).N) : ∀ f, ((winsAt m ρ c t).w21 (ix2 0 f) : EReal) = (argsOf m c).nb f := fun p => (w21_read m ρ c t 0 p).trans (w21_arg m ρ c p)
theorem fw22 (c : Dev nD) (t : Fin (cfgA m ρ).N) : ((winsAt m ρ c t).w22 (ix2 0 0) : EReal) = (argsOf m c).a := (w22_read m ρ c t 0 0).trans (w22_arg m ρ c)
theorem fw23 (c : Dev nD) (t : Fin (cfgA m ρ).N) : ∀ f k, ((winsAt m ρ c t).w23 (ix2 f k) : EReal) = (argsOf m c).ow f k := fun p q => (w23_read m ρ c t p q).trans (kept19 m ρ c p q)
theorem fw24 (c : Dev nD) (t : Fin (cfgA m ρ).N) : ∀ f, ((winsAt m ρ c t).w24 (ix2 0 f) : EReal) = (argsOf m c).ob f := fun p => (w24_read m ρ c t 0 p).trans (w24_arg m ρ c p)
theorem fits_at (c : Dev nD) (h : Ranged m) (t : Fin (cfgA m ρ).N) : Fits (argsOf m c) t.val (winsAt m ρ c t) :=
  ⟨fw3 m ρ c t, fw4 m ρ c h t, fw5 m ρ c h t, fw6 m ρ c t, fw7 m ρ c t, fw8 m ρ c t, fw9 m ρ c t, fw10 m ρ c t, fw11 m ρ c t, fw12 m ρ c t, fw13 m ρ c t, fw14 m ρ c t, fw15 m ρ c t, fw16 m ρ c t, fw17 m ρ c t, fw18 m ρ c t, fw19 m ρ c t, fw20 m ρ c t, fw21 m ρ c t, fw22 m ρ c t, fw23 m ρ c t, fw24 m ρ c t⟩

theorem back_nat (v : BitVec 32) : v = BitVec.ofNat 32 v.toNat := by simp

theorem edge_of (T : Vec Ideal S17 .i32) (v : ℕ → BitVec 32) (hT : ∀ s : Fin 17, T (ix1 s) = v s.val) (s : ℕ) (h : s < 17) : edgeAt (F := Ideal) T s h = v s :=
  (congrArg T (funext fun a => by fin_cases a; rfl)).trans (hT ⟨s, h⟩)

theorem sorted_of (A : Args) (B : Vec Ideal S16x2 .i32) (T : Vec Ideal S17 .i32) (x : Fin 32768 → BitVec 32) (hA : A.b = fun n => (x n).toNat)
    (mono : Monotone A.b) (small : ∀ n, A.b n < 16)
    (low : ∀ t : Fin grid0.N, lowAt (F := Ideal) (grid0.coords t) B = x (row (t.val % 16) 0))
    (high : ∀ t : Fin grid0.N, highAt (F := Ideal) (grid0.coords t) B = x (row (t.val % 16) 2047))
    (edge : ∀ s : Fin 17, T (ix1 s) = BitVec.ofNat 32 (ends A.b s.val)) : Sorted A B T where
  mono := mono
  small := small
  low t := (low t).trans ((back_nat _).trans (by rw [hA]))
  high t := (high t).trans ((back_nat _).trans (by rw [hA]))
  edge s h := edge_of T (fun s => BitVec.ofNat 32 (ends A.b s)) edge s h

/-- On sorted segment numbers the tables are as the sweeps need them. -/
theorem sorted_at (c : Dev nD) (h : Ranged m) (hs : Monotone (seg m c)) : Sorted (argsOf m c) (V m ρ c main_v16) (V m ρ c main_v7) :=
  sorted_of _ _ _ (fun n => batch m c (ix1 n)) rfl hs (fun n => h c _) (low_at m ρ c) (high_at m ρ c) (edges_at m ρ c h)

end Cert.KernelIdeal.Val
-- ==== Proof.Value.Out.lean ====
module

public import proofs.«01_k».proof.Proof.KI.Frame
public import proofs.«01_k».proof.Proof.Value.Tables

@[expose] public section

set_option maxRecDepth 16384
noncomputable section
namespace Cert.KernelIdeal.Val
open Cert.KernelIdeal Cert.KernelIdeal.Gen Cert.KernelIdeal.Hand
open Idealize.ShloMosaic Idealize.SL Idealize.SL.Sem
open Idealize.ShloMosaic.Pipeline (Dat Cfg Window)
open Idealize.ShloMosaic.TcCoe
open Cert.Val

/-! ## The kernel's result -/

theorem sh22 : ∀ t : Fin grid0.N, cc0_transform_22 (grid0.coords t) = ![0, 0] := by decide +kernel

/-- The result's block is the whole result. -/
theorem emb22 (a : (pcfg0 (F := Ideal)).Adm) (t : Fin (cfg0 a).N) (x : S16x64.Idx) : (((cfg0 a).win 22).blk t).view.emb x = x := by
  funext k
  fin_cases k
  · refine Fin.ext ?_
    show cc0_transform_22 (grid0.coords t) 0 * 16 + 1 * (x 0).val = (x 0).val
    rw [sh22 t]
    show 0 * 16 + 1 * (x 0).val = _
    omega
  · refine Fin.ext ?_
    show cc0_transform_22 (grid0.coords t) 1 * 64 + 1 * (x 1).val = (x 1).val
    rw [sh22 t]
    show 0 * 64 + 1 * (x 1).val = _
    omega

theorem flush_last (a : (pcfg0 (F := Ideal)).Adm) (t : Fin (cfg0 a).N) (h : t.val = 47) : ((cfg0 a).win 22).flush t = true := by
  unfold Window.flush
  rw [Bool.and_eq_true]
  refine ⟨rfl, ?_⟩
  rw [Bool.or_eq_true]
  left
  refine decide_eq_true ?_
  have := N_0
  show t.val + 1 = grid0.N
  omega

theorem flush_only (a : (pcfg0 (F := Ideal)).Adm) (t : Fin (cfg0 a).N) (h : ((cfg0 a).win 22).flush t = true) : t.val = 47 := by
  by_contra hc
  have e : ((cfg0 a).win 22).flush t = false := by
    unfold Window.flush
    rw [Bool.and_eq_false_iff]; right
    rw [Bool.or_eq_false_iff]
    refine ⟨decide_eq_false fun e => hc ?_, decide_eq_false ?_⟩
    · have := N_0; have e' : t.val + 1 = grid0.N := e; omega
    · rintro ⟨_, hne⟩; exact hne rfl
  rw [e] at h
  exact Bool.false_ne_true h

/-- After the region the result holds what the last point left. -/
theorem arr22 (a : (pcfg0 (F := Ideal)).Adm) (c : Dev nD) (X Z Φ) (t : Fin (cfg0 a).N) (ht : t.val = 47) :
    (datOf a c X Z Φ).arrAt 22 (cfg0 a).N = Z t := by
  refine (datOf a c X Z Φ).arrAt_eq_of_cover 22 (Z t) (fun t' hf => ?_) (fun i => ⟨t, flush_last a t ht, ?_⟩)
  · obtain rfl : t' = t := Fin.ext ((flush_only a t' hf).trans ht.symm)
    exact funext fun x => congrArg (Z t') (emb22 a t' x).symm
  · have := (((cfg0 a).win 22).blk t).view.emb_mem_set i
    rw [emb22 a t i] at this
    exact this

variable (m : (ℓ : Loc nD τ sig) → Buf (Elt Ideal) ℓ) (ρ : Dev nD → PrngReg)

/-- The last point of the grid. -/
def last : Fin (cfgA m ρ).N := ⟨47, by have := N_0; show 47 < grid0.N; omega⟩

theorem final_out (c : Dev nD) : Vₙ m ρ c (Proc.devRef .tc main_v40) = outAt m ρ c (last m ρ) :=
  (Pipeline.afterRegion_arr (dats m ρ 0 c) (StableHlo.after hostOps0 (V₀ m ρ c)) winFacts0.arr_inj 22).trans
    (arr22 (adm m ρ 0) c (V m ρ c) (outAt m ρ c) (fun t => inv m ρ c t.val) (last m ρ) rfl)

/-- The kernel's result at an entry. -/
theorem ker_at (c : Dev nD) (h : Ranged m) (hs : Monotone (seg m c)) (s : Fin 16) (o : Fin 64) :
    ((outAt m ρ c (last m ρ) : FVec Ideal S16x64 .f32) (ix2 s o) : EReal) = (argsOf m c).out s o := by
  obtain rfl : c = 0 := Subsingleton.elim _ _
  have h0 : Inv (argsOf m 0) 0 0 0 (⟨k0_pay1 (F := Ideal), fun _ => Classical.choice ((inferInstance : ∀ e, Nonempty (Elt Ideal e)) _), k0_pay2 (F := Ideal), k0_pay3 (F := Ideal), k0_pay4 (F := Ideal)⟩ : St Ideal) :=
    Inv.init _ rfl rfl rfl rfl
  have hi := inv_at (sorted_at m ρ 0 h hs) (winsAt m ρ 0) (fun t => fits_at m ρ 0 h t) _ h0 48 le_rfl
  exact head_at (fits_at m ρ 0 h (last m ρ)) hi s o

end Cert.KernelIdeal.Val
-- ==== Proof.Value.Agree.lean ====
module

public import proofs.«01_k».proof.Proof.Value.Pre
public import proofs.«01_k».proof.Proof.Value.Ref
public import proofs.«01_k».proof.Proof.Value.Out

@[expose] public section

set_option maxRecDepth 16384
noncomputable section
namespace Cert.Agree
open Idealize.ShloMosaic
open Idealize.ShloMosaic.TcCoe
open Cert.Val
open Cert.KernelIdeal.Val (Args argsOf)
open Cert.ReferenceIdeal.Val (argsR z1 z2 outR)
open Cert.Pre_segments_finite
open Cert.Pre_segments_finite.Val (Good)

/-! ## The two results agree -/

/-- Arguments, entry by entry, from the arrays. -/
def mk (x : FVec Ideal S32768x128 .f32) (b : IVec S32768 32) (gw0 : FVec Ideal S256x128 .f32) (gb0 : FVec Ideal S256 .f32) (lw0 : FVec Ideal S256x128 .f32)
    (nw0 nb0 : FVec Ideal S256 .f32) (a0 : FVec Ideal S_ .f32) (gw1 : FVec Ideal S256x256 .f32) (gb1 : FVec Ideal S256 .f32) (lw1 : FVec Ideal S256x256 .f32)
    (nw1 nb1 : FVec Ideal S256 .f32) (a1 : FVec Ideal S_ .f32) (mw : FVec Ideal S128x256 .f32) (mb : FVec Ideal S128 .f32)
    (nw nb : FVec Ideal S128 .f32) (a : FVec Ideal S_ .f32) (ow : FVec Ideal S64x128 .f32) (ob : FVec Ideal S64 .f32) : Args where
  x p q := x (ix2 p q)
  b n := (b (ix1 n)).toNat
  gw0 p q := gw0 (ix2 p q)
  gb0 p := gb0 (ix1 p)
  lw0 p q := lw0 (ix2 p q)
  nw0 p := nw0 (ix1 p)
  nb0 p := nb0 (ix1 p)
  a0 := a0 Idealize.ShloMosaic.ix0
  gw1 p q := gw1 (ix2 p q)
  gb1 p := gb1 (ix1 p)
  lw1 p q := lw1 (ix2 p q)
  nw1 p := nw1 (ix1 p)
  nb1 p := nb1 (ix1 p)
  a1 := a1 Idealize.ShloMosaic.ix0
  mw p q := mw (ix2 p q)
  mb p := mb (ix1 p)
  nw p := nw (ix1 p)
  nb p := nb (ix1 p)
  a := a Idealize.ShloMosaic.ix0
  ow p q := ow (ix2 p q)
  ob p := ob (ix1 p)

/-- With finite arguments the kernel's and the reference's networks give the same result. -/
theorem out_eq (A : Args) (hx : ∀ n k, Fin' (A.x n k)) (hgw0 : ∀ f k, Fin' (A.gw0 f k)) (hgb0 : ∀ f, Fin' (A.gb0 f)) (hlw0 : ∀ f k, Fin' (A.lw0 f k))
    (hnw0 : ∀ f, Fin' (A.nw0 f)) (hnb0 : ∀ f, Fin' (A.nb0 f)) (ha0 : Fin' A.a0)
    (hgw1 : ∀ f k, Fin' (A.gw1 f k)) (hgb1 : ∀ f, Fin' (A.gb1 f)) (hlw1 : ∀ f k, Fin' (A.lw1 f k))
    (hnw1 : ∀ f, Fin' (A.nw1 f)) (hnb1 : ∀ f, Fin' (A.nb1 f)) (ha1 : Fin' A.a1)
    (hmw : ∀ f k, Fin' (A.mw f k)) (hmb : ∀ f, Fin' (A.mb f)) (s : Fin 16) (o : Fin 64) : A.out s o = outR A s o := by
  have D256 : Ideal.ofBits .f32 0x43800000#32 = (((256 : ℕ) : ℝ) : EReal) := by rw [lit256]; norm_num
  have D128 : Ideal.ofBits .f32 0x43000000#32 = (((128 : ℕ) : ℝ) : EReal) := by rw [lit128]; norm_num
  have e1 : A.y1 = z1 A := funext fun n => funext fun f => layer_eq (by norm_num) _ D256 _ _ _ _ _ _ _ _ hx hgw0 hgb0 hlw0 n f
  have f1 : ∀ n f, Fin' (z1 A n f) := fun n f => Fin'.layer (by norm_num) _ D256 _ _ _ _ _ _ _ _ hx hgw0 hgb0 hlw0 hnw0 hnb0 ha0 n f
  have e2 : A.y2 = z2 A := by
    unfold Args.y2
    rw [e1]
    exact funext fun n => funext fun f => layer_eq (by norm_num) _ D256 _ _ _ _ _ _ _ _ f1 hgw1 hgb1 hlw1 n f
  have f2 : ∀ n f, Fin' (z2 A n f) := fun n f => Fin'.layer (by norm_num) _ D256 _ _ _ _ _ _ _ _ f1 hgw1 hgb1 hlw1 hnw1 hnb1 ha1 n f
  unfold Args.out
  rw [e2]
  exact head_eq (by norm_num) _ D128 _ _ _ _ _ _ _ _ _ f2 hmw hmb s.val o

variable (m : (ℓ : Loc Cert.KernelIdeal.nD Cert.KernelIdeal.τ Cert.KernelIdeal.sig) → Buf (Elt Ideal) ℓ) (c : Dev Cert.KernelIdeal.nD)

/-- What the precondition says of a memory. -/
abbrev GoodAt : Prop := Good (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))

/-- The kernel's result on a memory the precondition admits is the reference's function of its arguments. -/
theorem ker_ref (h : GoodAt m c) (s : Fin 16) (o : Fin 64) : (argsOf m c).out s o = outR (argsOf m c) s o :=
  out_eq _ (fun _ _ => h.x _) (fun _ _ => h.gw0 _) (fun _ => h.gb0 _) (fun _ _ => h.lw0 _) (fun _ => h.nw0 _) (fun _ => h.nb0 _) (h.a0 _)
    (fun _ _ => h.gw1 _) (fun _ => h.gb1 _) (fun _ _ => h.lw1 _) (fun _ => h.nw1 _) (fun _ => h.nb1 _) (h.a1 _) (fun _ _ => h.mw _) (fun _ => h.mb _) s o

/-- Memories that agree on the arguments give both programs the same arguments. -/
theorem args_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    argsR (StableHlo.launchContents m' c) = argsOf m c := by
  show mk (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) = mk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))
  rw [h0, h1, h2, h3, h4, h5, h6, h7, h8, h9, h10, h11, h12, h13, h14, h15, h16, h17, h18, h19, h20]

end Cert.Agree
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_segments
public import proofs.«01_k».proof.Proof.K.Frame
public import proofs.«01_k».proof.Proof.KI.Frame
public import proofs.«01_k».proof.Proof.Value.Agree
public import Idealize.ShloMosaic.Adequacy
public import Idealize.ShloMosaic.Init

@[expose] public section

noncomputable section

namespace Cert.Proof

open Idealize.ShloMosaic Idealize.SL.Sem

/-- The precondition, read for the kernel as printed: every segment number is below the number of segments. -/
theorem ranged_Kernel (m) (h : Cert.Pre_Kernel m) : Cert.Kernel.Hand.Ranged (F := Bits) m := fun c n =>
  Cert.Kernel.Hand.lt_of_bits _ (congrFun (h c) n)

/-- The same for the kernel over extended reals. -/
theorem ranged_KernelIdeal (m) (h : Cert.Pre_KernelIdeal m) : Cert.KernelIdeal.Hand.Ranged (F := Ideal) m := fun c n =>
  Cert.KernelIdeal.Hand.lt_of_bits _ (congrFun (h c) n)

/-- The kernel runs, gives its arguments back, and leaves every semaphore at zero. -/
theorem quiescent_Kernel : Cert.quiescent_Kernel := fun m g hm =>
  (θ_run (Cert.Kernel.defs (F := Bits)) _ _).mono (fun _ hr => ⟨fun c => ⟨
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide)⟩, hr.2⟩) (Cert.Kernel.Hand.frame m g (ranged_Kernel m hm))

/-- So does the kernel over extended reals. -/
theorem quiescent_KernelIdeal : Cert.quiescent_KernelIdeal := fun m g hm =>
  (θ_run (Cert.KernelIdeal.defs (F := Ideal)) _ _).mono (fun _ hr => ⟨fun c => ⟨
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide)⟩, hr.2⟩) (Cert.KernelIdeal.Hand.frame m g (ranged_KernelIdeal m hm))

/-- The reference over extended reals runs and gives its arguments back. -/
theorem quiescent_ReferenceIdeal : Cert.quiescent_ReferenceIdeal := fun m g _ =>
  (θ_run (Cert.ReferenceIdeal.defs (F := Ideal)) _ _).mono (fun _ hr => ⟨fun c => (hr c).2, Idealize.ShloMosaic.sem_eq_zero_of_no_sems (by decide) _⟩) (Cert.ReferenceIdeal.Value.run (F := Ideal) m g)

/-- The stronger precondition, read for the kernel over extended reals: segment numbers in range and nondecreasing, finite arrays. -/
theorem good_KernelIdeal (m) (h : Cert.Pre_KernelIdeal_segments_finite m) (c) : Cert.Agree.GoodAt m c :=
  Cert.Pre_segments_finite.Val.good _ _ _ _ _ _ _ _ _ _ _ _ _ _ _ _ _ _ _ _ _ (h c)

/-- Under the stronger precondition every segment number is below the number of segments. -/
theorem ranged_finite (m) (h : Cert.Pre_KernelIdeal_segments_finite m) : Cert.KernelIdeal.Hand.Ranged (F := Ideal) m := fun c n =>
  (good_KernelIdeal m h c).rng n

/-- The kernel over extended reals runs and gives its arguments back, under the stronger precondition too. -/
theorem quiescent_KernelIdeal_finite : Cert.quiescent_KernelIdeal_pre_segments_finite := fun m g hm =>
  (θ_run (Cert.KernelIdeal.defs (F := Ideal)) _ _).mono (fun _ hr => ⟨fun c => ⟨
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide),
    hr.1 c _ rfl (by decide) (by decide)⟩, hr.2⟩) (Cert.KernelIdeal.Hand.frame m g (ranged_finite m hm))

/-- The reference likewise. -/
theorem quiescent_ReferenceIdeal_finite : Cert.quiescent_ReferenceIdeal_pre_segments_finite := fun m g _ =>
  (θ_run (Cert.ReferenceIdeal.defs (F := Ideal)) _ _).mono (fun _ hr => ⟨fun c => (hr c).2, Idealize.ShloMosaic.sem_eq_zero_of_no_sems (by decide) _⟩) (Cert.ReferenceIdeal.Value.run (F := Ideal) m g)

/-- Over extended reals, on arguments the precondition admits, the kernel's result is the reference's, entry by entry. -/
theorem algebraic : Cert.algebraic_KernelIdeal_ReferenceIdeal_pre_segments_finite := fun m g m' g' hm hargs => by
  have hr := ranged_finite m hm
  refine ⟨fun c => Cert.KernelIdeal.Hand.outAt m g c (Cert.KernelIdeal.Val.last m g),
    (θ_run (Cert.KernelIdeal.defs (F := Ideal)) _ _).mono (fun _ hk c => ⟨
    (hk.1 c _ (Cert.KernelIdeal.Hand.mem_uc Cert.KernelIdeal.main_v40 rfl)).trans (Cert.KernelIdeal.Val.final_out m g c),
    (hk.1 c _ (Cert.KernelIdeal.Hand.mem_uc Cert.KernelIdeal.main_arg0 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg1 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg2 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg3 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg4 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg5 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg6 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg7 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg8 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg9 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg10 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg11 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg12 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg13 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg14 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg15 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg16 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg17 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg18 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg19 rfl)).trans ((Cert.KernelIdeal.Hand.Vₙ_kept m g c _ (by decide)).trans (Cert.KernelIdeal.Hand.V_kept m g c _ (by decide))),
    (hk.1 c _ (Cert.KernelIdeal.Hand.mem_uc Cert.KernelIdeal.main_arg20 rfl)).trans ((Cert.KernelIdeal.Hand.Vₙ_kept m g c _ (by decide)).trans (Cert.KernelIdeal.Hand.V_kept m g c _ (by decide)))⟩) (Cert.KernelIdeal.Hand.run_main m g (Cert.KernelIdeal.Hand.checked_of_ranged m g hr)),
    (θ_run (Cert.ReferenceIdeal.defs (F := Ideal)) _ _).mono (fun _ hk c => ⟨(hk c).1.trans ?_, (hk c).2⟩) (Cert.ReferenceIdeal.Value.run (F := Ideal) m' g')⟩
  obtain ⟨h0, h1, h2, h3, h4, h5, h6, h7, h8, h9, h10, h11, h12, h13, h14, h15, h16, h17, h18, h19, h20⟩ := hargs c
  have ha := Cert.Agree.args_eq m c m' h0 h1 h2 h3 h4 h5 h6 h7 h8 h9 h10 h11 h12 h13 h14 h15 h16 h17 h18 h19 h20
  have hg := good_KernelIdeal m hm c
  funext i
  rw [Idealize.ShloMosaic.eq_ix2 i]
  refine (Cert.ReferenceIdeal.Val.ref_at (StableHlo.launchContents m' c) (fun n => ?_) (i 0) (i 1)).trans ?_
  · show (m' ((c.tc : Thread Cert.ReferenceIdeal.nD Cert.ReferenceIdeal.τ).loc Cert.ReferenceIdeal.main_arg1) n : BitVec 32).toNat < 16
    rw [h1]
    exact hg.rng n
  · rw [ha]
    exact ((Cert.KernelIdeal.Val.ker_at m g c hr hg.mono (i 0) (i 1)).trans (Cert.Agree.ker_ref m c hg (i 0) (i 1))).symm

theorem claim : Cert.Claim := ⟨Cert.Kernel.Gen.facts, Cert.KernelIdeal.Gen.facts, Cert.ReferenceIdeal.Gen.facts, Cert.Pre_segments.Gen.facts, Cert.Pre_segments_finite.Val.facts,
  quiescent_Kernel, quiescent_KernelIdeal, quiescent_KernelIdeal_finite, quiescent_ReferenceIdeal, quiescent_ReferenceIdeal_finite, IdealRules.named_const.statement _ _ _ _ _ rfl, algebraic⟩

end Cert.Proof

end
